-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_operands_finite [hPre_operands_finite : Cert.Pre_operands_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_operands_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_operands_finite [hPre_operands_finite : Cert.Pre_operands_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_operands_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_operands_finite [hKernel2Ideal : Cert.Kernel2Ideal.Facts] [hPre_operands_finite : Cert.Pre_operands_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_operands_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_operands_finite [hReference2Ideal : Cert.Reference2Ideal.Facts] [hPre_operands_finite : Cert.Pre_operands_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_operands_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)) (v2 : (c : Dev Cert.KernelIdeal.nD) → Buf (Elt Ideal) ((c.tc : Thread Cert.KernelIdeal.nD Cert.KernelIdeal.τ).loc Cert.KernelIdeal.main_v32_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_v32_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_v152) = v1 c
          ∧ r.2.mem ((c.tc : Thread Cert.ReferenceIdeal.nD Cert.ReferenceIdeal.τ).loc Cert.ReferenceIdeal.main_v153) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_operands_finite [hKernel2Ideal : Cert.Kernel2Ideal.Facts] [hReference2Ideal : Cert.Reference2Ideal.Facts] [hPre_operands_finite : Cert.Pre_operands_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_operands_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_v37) = v1 c
          ∧ r.2.mem ((c.tc : Thread Cert.Reference2Ideal.nD Cert.Reference2Ideal.τ).loc Cert.Reference2Ideal.main_v41) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v72) = v0 c
          ∧ r.2.mem ((c.tc : Thread Cert.Reference4Ideal.nD Cert.Reference4Ideal.τ).loc Cert.Reference4Ideal.main_v74) = v1 c
          ∧ r.2.mem ((c.tc : Thread Cert.Reference4Ideal.nD Cert.Reference4Ideal.τ).loc Cert.Reference4Ideal.main_v76) = v2 c
          ∧ r.2.mem ((c.tc : Thread Cert.Reference4Ideal.nD Cert.Reference4Ideal.τ).loc Cert.Reference4Ideal.main_v66) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0)) (v1 : (c : Dev Cert.Kernel5Ideal.nD) → Buf (Elt Ideal) ((c.tc : Thread Cert.Kernel5Ideal.nD Cert.Kernel5Ideal.τ).loc Cert.Kernel5Ideal.main_v1)) (v2 : (c : Dev Cert.Kernel5Ideal.nD) → Buf (Elt Ideal) ((c.tc : Thread Cert.Kernel5Ideal.nD Cert.Kernel5Ideal.τ).loc Cert.Kernel5Ideal.main_v2)) (v3 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_v1) = v1 c
          ∧ r.2.mem ((c.tc : Thread Cert.Kernel5Ideal.nD Cert.Kernel5Ideal.τ).loc Cert.Kernel5Ideal.main_v2) = v2 c
          ∧ r.2.mem ((c.tc : Thread Cert.Kernel5Ideal.nD Cert.Kernel5Ideal.τ).loc Cert.Kernel5Ideal.main_v3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_v11) = v1 c
          ∧ r.2.mem ((c.tc : Thread Cert.Reference5Ideal.nD Cert.Reference5Ideal.τ).loc Cert.Reference5Ideal.main_v21) = v2 c
          ∧ r.2.mem ((c.tc : Thread Cert.Reference5Ideal.nD Cert.Reference5Ideal.τ).loc Cert.Reference5Ideal.main_v31) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v2)) (v1 : (c : Dev Cert.Kernel6Ideal.nD) → Buf (Elt Ideal) ((c.tc : Thread Cert.Kernel6Ideal.nD Cert.Kernel6Ideal.τ).loc Cert.Kernel6Ideal.main_v3)) (v2 : (c : Dev Cert.Kernel6Ideal.nD) → Buf (Elt Ideal) ((c.tc : Thread Cert.Kernel6Ideal.nD Cert.Kernel6Ideal.τ).loc Cert.Kernel6Ideal.main_v1_0)) (v3 : (c : Dev Cert.Kernel6Ideal.nD) → Buf (Elt Ideal) ((c.tc : Thread Cert.Kernel6Ideal.nD Cert.Kernel6Ideal.τ).loc Cert.Kernel6Ideal.main_v1_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_v3) = v1 c
          ∧ r.2.mem ((c.tc : Thread Cert.Kernel6Ideal.nD Cert.Kernel6Ideal.τ).loc Cert.Kernel6Ideal.main_v1_0) = v2 c
          ∧ r.2.mem ((c.tc : Thread Cert.Kernel6Ideal.nD Cert.Kernel6Ideal.τ).loc Cert.Kernel6Ideal.main_v1_1) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_v14) = v1 c
          ∧ r.2.mem ((c.tc : Thread Cert.Reference6Ideal.nD Cert.Reference6Ideal.τ).loc Cert.Reference6Ideal.main_v3) = v2 c
          ∧ r.2.mem ((c.tc : Thread Cert.Reference6Ideal.nD Cert.Reference6Ideal.τ).loc Cert.Reference6Ideal.main_v28) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_v20) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)) (v2 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_v3) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v42) = v0 c
          ∧ r.2.mem ((c.tc : Thread Cert.Reference8Ideal.nD Cert.Reference8Ideal.τ).loc Cert.Reference8Ideal.main_v44) = v1 c
          ∧ r.2.mem ((c.tc : Thread Cert.Reference8Ideal.nD Cert.Reference8Ideal.τ).loc Cert.Reference8Ideal.main_v27) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)) (v2 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_v3) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v42) = v0 c
          ∧ r.2.mem ((c.tc : Thread Cert.Reference9Ideal.nD Cert.Reference9Ideal.τ).loc Cert.Reference9Ideal.main_v44) = v1 c
          ∧ r.2.mem ((c.tc : Thread Cert.Reference9Ideal.nD Cert.Reference9Ideal.τ).loc Cert.Reference9Ideal.main_v27) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_scores_finite : Cert.Pre_scores_finite.Facts) (hPre_operands_finite : Cert.Pre_operands_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2)
    ∧ quiescent_Kernel2Ideal (hKernel2Ideal := hKernel2Ideal)
    ∧ quiescent_Kernel2Ideal_pre_operands_finite (hKernel2Ideal := hKernel2Ideal) (hPre_operands_finite := hPre_operands_finite)
    ∧ quiescent_Reference2Ideal (hReference2Ideal := hReference2Ideal)
    ∧ quiescent_Reference2Ideal_pre_operands_finite (hReference2Ideal := hReference2Ideal) (hPre_operands_finite := hPre_operands_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal_pre_operands_finite (hKernel2Ideal := hKernel2Ideal) (hReference2Ideal := hReference2Ideal) (hPre_operands_finite := hPre_operands_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_operands_finite.lean ====
abbrev S2048x2048 : Shape := ⟨2, ![2048, 2048]⟩
abbrev S8x704x2048 : Shape := ⟨3, ![8, 704, 2048]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S8x704x2048 : S_.BroadcastsInDim S8x704x2048 (![] : Fin 0 → Fin S8x704x2048.rank)
  reducesTo_S8x704x2048_S_d0_1_2 : S8x704x2048.ReducesTo [0, 1, 2] S_

variable [Facts]

def fn_part1 {F : FTy → Type} [FloatOps F] (main_v10 : IVec S_ 1) (main_v15 : IVec S_ 1) (main_v17 : FVec F S2048x2048 .f32) : IVec S_ 1 :=
  let main_cst_4 : FVec F S_ .f32 := constant S_ .f32 0x7F800000#32
  let main_v18 : FVec F S2048x2048 .f32 := broadcastInDim S2048x2048 ![] bcast_S_S2048x2048 main_cst_4
  let main_v19 : IVec S2048x2048 1 := cmpf .olt main_v17 main_v18
  let main_c_5 : IVec S_ 1 := constantI S_ 1 1#1
  let main_v20 : IVec S_ 1 := (fun x v => Host.reduce IntOp.andi x v reducesTo_S2048x2048_S_d0_1 h_S_) main_v19 main_c_5
  let main_v21 : IVec S_ 1 := andi main_v15 main_v20
  let main_v22 : IVec S_ 1 := andi main_v10 main_v21
  main_v22

def fn {F : FTy → Type} [FloatOps F] (main_arg0 : FVec F S2048x2048 .bf16) (main_arg1 : FVec F S8x704x2048 .bf16) (main_arg2 : FVec F S8x704x2048 .bf16) (main_arg3 : FVec F S8x704x2048 .bf16) (main_arg4 : FVec F S2048x2048 .bf16) : IVec S_ 1 :=
  let main_v0 : FVec F S2048x2048 .f32 := (extf .f32 · bitsLt_bf16_f32) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_c : IVec S_ 1 := constantI S_ 1 1#1
  let main_v4 : IVec S_ 1 := (fun x v => Host.reduce IntOp.andi x v reducesTo_S2048x2048_S_d0_1 h_S_) main_v3 main_c
  let main_v5 : FVec F S8x704x2048 .f32 := (extf .f32 · bitsLt_bf16_f32) main_arg2
  let main_v6 : FVec F S8x704x2048 .f32 := Host.absf main_v5
  let main_cst_0 : FVec F S_ .f32 := constant S_ .f32 0x7F800000#32
  let main_v7 : FVec F S8x704x2048 .f32 := broadcastInDim S8x704x2048 ![] bcast_S_S8x704x2048 main_cst_0
  let main_v8 : IVec S8x704x2048 1 := cmpf .olt main_v6 main_v7
  let main_c_1 : IVec S_ 1 := constantI S_ 1 1#1
  let main_v9 : IVec S_ 1 := (fun x v => Host.reduce IntOp.andi x v reducesTo_S8x704x2048_S_d0_1_2 h_S_) main_v8 main_c_1
  let main_v10 : IVec S_ 1 := andi main_v4 main_v9
  let main_v11 : FVec F S8x704x2048 .f32 := (extf .f32 · bitsLt_bf16_f32) main_arg3
  let main_v12 : FVec F S8x704x2048 .f32 := Host.absf main_v11
  let main_cst_2 : FVec F S_ .f32 := constant S_ .f32 0x7F800000#32
  let main_v13 : FVec F S8x704x2048 .f32 := broadcastInDim S8x704x2048 ![] bcast_S_S8x704x2048 main_cst_2
  let main_v14 : IVec S8x704x2048 1 := cmpf .olt main_v12 main_v13
  let main_c_3 : IVec S_ 1 := constantI S_ 1 1#1
  let main_v15 : IVec S_ 1 := (fun x v => Host.reduce IntOp.andi x v reducesTo_S8x704x2048_S_d0_1_2 h_S_) main_v14 main_c_3
  let main_v16 : FVec F S2048x2048 .f32 := (extf .f32 · bitsLt_bf16_f32) main_arg4
  let main_v17 : FVec F S2048x2048 .f32 := Host.absf main_v16
  fn_part1 (F := F) main_v10 main_v15 main_v17
-- ==== Pre_scores_finite.lean ====
abbrev S2048x6144 : Shape := ⟨2, ![2048, 6144]⟩
abbrev S8x513 : Shape := ⟨2, ![8, 513]⟩
abbrev S2048x2048 : Shape := ⟨2, ![2048, 2048]⟩
abbrev S_ : Shape := ⟨0, ![]⟩

class Facts : Prop where
  slices_S2048x6144_S2048x2048_0_0 : S2048x6144.Slices ![0, 0] S2048x2048
  bitsLt_bf16_f32 : FTy.bits .bf16 < FTy.bits .f32
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S8x513 : S_.BroadcastsInDim S8x513 (![] : Fin 0 → Fin S8x513.rank)
  reducesTo_S8x513_S_d0_1 : S8x513.ReducesTo [0, 1] S_

variable [Facts]

def fn {F : FTy → Type} [FloatOps F] (main_arg0 : FVec F S2048x6144 .bf16) (main_arg1 : FVec F S8x513 .f32) (main_arg2 : FVec F S2048x2048 .bf16) : IVec S_ 1 :=
  let main_v0 : FVec F S2048x2048 .bf16 := (extractStridedSlice S2048x2048 ![0, 0] · slices_S2048x6144_S2048x2048_0_0) main_arg0
  let main_v1 : FVec F S2048x2048 .f32 := (extf .f32 · bitsLt_bf16_f32) main_v0
  let main_v2 : FVec F S2048x2048 .f32 := Host.absf main_v1
  let main_cst : FVec F S_ .f32 := constant S_ .f32 0x7F800000#32
  let main_v3 : FVec F S2048x2048 .f32 := broadcastInDim S2048x2048 ![] bcast_S_S2048x2048 main_cst
  let main_v4 : IVec S2048x2048 1 := cmpf .olt main_v2 main_v3
  let main_c : IVec S_ 1 := constantI S_ 1 1#1
  let main_v5 : IVec S_ 1 := (fun x v => Host.reduce IntOp.andi x v reducesTo_S2048x2048_S_d0_1 h_S_) main_v4 main_c
  let main_v6 : FVec F S8x513 .f32 := Host.absf main_arg1
  let main_cst_0 : FVec F S_ .f32 := constant S_ .f32 0x7F800000#32
  let main_v7 : FVec F S8x513 .f32 := broadcastInDim S8x513 ![] bcast_S_S8x513 main_cst_0
  let main_v8 : IVec S8x513 1 := cmpf .olt main_v6 main_v7
  let main_c_1 : IVec S_ 1 := constantI S_ 1 1#1
  let main_v9 : IVec S_ 1 := (fun x v => Host.reduce IntOp.andi x v reducesTo_S8x513_S_d0_1 h_S_) main_v8 main_c_1
  let main_v10 : IVec S_ 1 := andi main_v5 main_v9
  main_v10
-- ==== Kernel.lean ====
abbrev S2048x6144 : Shape := ⟨2, ![2048, 6144]⟩
abbrev S8x513 : Shape := ⟨2, ![8, 513]⟩
abbrev S2048x2048 : Shape := ⟨2, ![2048, 2048]⟩
abbrev S128 : Shape := ⟨1, ![128]⟩
abbrev S128x1 : Shape := ⟨2, ![128, 1]⟩
abbrev S640 : Shape := ⟨1, ![640]⟩
abbrev S1x640 : Shape := ⟨2, ![1, 640]⟩
abbrev S_ : Shape := ⟨0, ![]⟩
abbrev S128x640 : Shape := ⟨2, ![128, 640]⟩
abbrev S768 : Shape := ⟨1, ![768]⟩
abbrev S768x1 : Shape := ⟨2, ![768, 1]⟩
abbrev S1 : Shape := ⟨1, ![1]⟩
abbrev S1x1 : Shape := ⟨2, ![1, 1]⟩
abbrev S8x768 : Shape := ⟨2, ![8, 768]⟩
abbrev S8x641 : Shape := ⟨2, ![8, 641]⟩
abbrev S8x127 : Shape := ⟨2, ![8, 127]⟩
abbrev S8x1x768 : Shape := ⟨3, ![8, 1, 768]⟩
abbrev S8x128x768 : Shape := ⟨3, ![8, 128, 768]⟩
abbrev S8x98304 : Shape := ⟨2, ![8, 98304]⟩
abbrev S8x98176 : Shape := ⟨2, ![8, 98176]⟩
abbrev S8x128x767 : Shape := ⟨3, ![8, 128, 767]⟩
abbrev S8x128x640 : Shape := ⟨3, ![8, 128, 640]⟩
abbrev S1x128x640 : Shape := ⟨3, ![1, 128, 640]⟩
abbrev S2048x1024 : Shape := ⟨2, ![2048, 1024]⟩
abbrev S2048x128 : Shape := ⟨2, ![2048, 128]⟩
abbrev S2560x128 : Shape := ⟨2, ![2560, 128]⟩
abbrev S512x128 : Shape := ⟨2, ![512, 128]⟩
abbrev S128x128 : Shape := ⟨2, ![128, 128]⟩
abbrev S640x128 : Shape := ⟨2, ![640, 128]⟩

abbrev nBuf : Space → Nat
  | .hbm => 113
  | .vmem => 22
  | .smem => 0
  | _ => 0

abbrev bufTy : (tb : Table) → Fin (tcTables nBuf tb) → BufTy
  | .hbm, ⟨0, _⟩ => ⟨S2048x6144, .bf16⟩
  | .hbm, ⟨1, _⟩ => ⟨S8x513, .f32⟩
  | .hbm, ⟨2, _⟩ => ⟨S2048x2048, .bf16⟩
  | .hbm, ⟨3, _⟩ => ⟨S128, .i32⟩
  | .hbm, ⟨4, _⟩ => ⟨S128x1, .i32⟩
  | .hbm, ⟨5, _⟩ => ⟨S640, .i32⟩
  | .hbm, ⟨6, _⟩ => ⟨S1x640, .i32⟩
  | .hbm, ⟨7, _⟩ => ⟨S_, .i32⟩
  | .hbm, ⟨8, _⟩ => ⟨S_, .i32⟩
  | .hbm, ⟨9, _⟩ => ⟨S1x640, .i32⟩
  | .hbm, ⟨10, _⟩ => ⟨S1x640, .i32⟩
  | .hbm, ⟨11, _⟩ => ⟨S1x640, .i32⟩
  | .hbm, ⟨12, _⟩ => ⟨S_, .i32⟩
  | .hbm, ⟨13, _⟩ => ⟨S1x640, .i32⟩
  | .hbm, ⟨14, _⟩ => ⟨S1x640, .i1⟩
  | .hbm, ⟨15, _⟩ => ⟨S1x640, .i32⟩
  | .hbm, ⟨16, _⟩ => ⟨S1x640, .i32⟩
  | .hbm, ⟨17, _⟩ => ⟨S_, .i32⟩
  | .hbm, ⟨18, _⟩ => ⟨S1x640, .i32⟩
  | .hbm, ⟨19, _⟩ => ⟨S1x640, .i1⟩
  | .hbm, ⟨20, _⟩ => ⟨S1x640, .i1⟩
  | .hbm, ⟨21, _⟩ => ⟨S_, .i32⟩
  | .hbm, ⟨22, _⟩ => ⟨S1x640, .i32⟩
  | .hbm, ⟨23, _⟩ => ⟨S1x640, .i32⟩
  | .hbm, ⟨24, _⟩ => ⟨S1x640, .i32⟩
  | .hbm, ⟨25, _⟩ => ⟨S_, .i32⟩
  | .hbm, ⟨26, _⟩ => ⟨S_, .i32⟩
  | .hbm, ⟨27, _⟩ => ⟨S128x1, .i32⟩
  | .hbm, ⟨28, _⟩ => ⟨S128x1, .i32⟩
  | .hbm, ⟨29, _⟩ => ⟨S128x1, .i32⟩
  | .hbm, ⟨30, _⟩ => ⟨S_, .i32⟩
  | .hbm, ⟨31, _⟩ => ⟨S128x1, .i32⟩
  | .hbm, ⟨32, _⟩ => ⟨S128x1, .i1⟩
  | .hbm, ⟨33, _⟩ => ⟨S128x1, .i32⟩
  | .hbm, ⟨34, _⟩ => ⟨S128x1, .i32⟩
  | .hbm, ⟨35, _⟩ => ⟨S_, .i32⟩
  | .hbm, ⟨36, _⟩ => ⟨S128x1, .i32⟩
  | .hbm, ⟨37, _⟩ => ⟨S128x1, .i1⟩
  | .hbm, ⟨38, _⟩ => ⟨S128x1, .i1⟩
  | .hbm, ⟨39, _⟩ => ⟨S_, .i32⟩
  | .hbm, ⟨40, _⟩ => ⟨S128x1, .i32⟩
  | .hbm, ⟨41, _⟩ => ⟨S128x1, .i32⟩
  | .hbm, ⟨42, _⟩ => ⟨S128x1, .i32⟩
  | .hbm, ⟨43, _⟩ => ⟨S128x640, .i32⟩
  | .hbm, ⟨44, _⟩ => ⟨S128x640, .i32⟩
  | .hbm, ⟨45, _⟩ => ⟨S128x640, .i32⟩
  | .hbm, ⟨46, _⟩ => ⟨S_, .i32⟩
  | .hbm, ⟨47, _⟩ => ⟨S128x640, .i32⟩
  | .hbm, ⟨48, _⟩ => ⟨S128x640, .i1⟩
  | .hbm, ⟨49, _⟩ => ⟨S_, .i32⟩
  | .hbm, ⟨50, _⟩ => ⟨S128x640, .i32⟩
  | .hbm, ⟨51, _⟩ => ⟨S128x640, .i1⟩
  | .hbm, ⟨52, _⟩ => ⟨S128x640, .i1⟩
  | .hbm, ⟨53, _⟩ => ⟨S768, .i32⟩
  | .hbm, ⟨54, _⟩ => ⟨S_, .i32⟩
  | .hbm, ⟨55, _⟩ => ⟨S768, .i32⟩
  | .hbm, ⟨56, _⟩ => ⟨S768, .i32⟩
  | .hbm, ⟨57, _⟩ => ⟨S_, .i32⟩
  | .hbm, ⟨58, _⟩ => ⟨S768, .i32⟩
  | .hbm, ⟨59, _⟩ => ⟨S768, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S768, .i32⟩
  | .hbm, ⟨64, _⟩ => ⟨S768, .i32⟩
  | .hbm, ⟨65, _⟩ => ⟨S_, .i32⟩
  | .hbm, ⟨66, _⟩ => ⟨S768, .i32⟩
  | .hbm, ⟨67, _⟩ => ⟨S768, .i32⟩
  | .hbm, ⟨68, _⟩ => ⟨S_, .i32⟩
  | .hbm, ⟨69, _⟩ => ⟨S768, .i32⟩
  | .hbm, ⟨70, _⟩ => ⟨S768, .i32⟩
  | .hbm, ⟨71, _⟩ => ⟨S_, .i32⟩
  | .hbm, ⟨72, _⟩ => ⟨S768, .i32⟩
  | .hbm, ⟨73, _⟩ => ⟨S768, .i1⟩
  | .hbm, ⟨74, _⟩ => ⟨S_, .i32⟩
  | .hbm, ⟨75, _⟩ => ⟨S768, .i32⟩
  | .hbm, ⟨76, _⟩ => ⟨S768, .i32⟩
  | .hbm, ⟨77, _⟩ => ⟨S768, .i32⟩
  | .hbm, ⟨78, _⟩ => ⟨S768x1, .i32⟩
  | .hbm, ⟨79, _⟩ => ⟨S1, .i32⟩
  | .hbm, ⟨80, _⟩ => ⟨S_, .i32⟩
  | .hbm, ⟨81, _⟩ => ⟨S768x1, .i32⟩
  | .hbm, ⟨82, _⟩ => ⟨S768x1, .i1⟩
  | .hbm, ⟨83, _⟩ => ⟨S1x1, .i32⟩
  | .hbm, ⟨84, _⟩ => ⟨S768x1, .i32⟩
  | .hbm, ⟨85, _⟩ => ⟨S768x1, .i1⟩
  | .hbm, ⟨86, _⟩ => ⟨S768x1, .i1⟩
  | .hbm, ⟨87, _⟩ => ⟨S_, .i1⟩
  | .hbm, ⟨88, _⟩ => ⟨S768, .i1⟩
  | .hbm, ⟨89, _⟩ => ⟨S8x768, .f32⟩
  | .hbm, ⟨90, _⟩ => ⟨S8x768, .i1⟩
  | .hbm, ⟨91, _⟩ => ⟨S_, .f32⟩
  | .hbm, ⟨92, _⟩ => ⟨S8x768, .f32⟩
  | .hbm, ⟨93, _⟩ => ⟨S8x768, .f32⟩
  | .hbm, ⟨94, _⟩ => ⟨S8x641, .f32⟩
  | .hbm, ⟨95, _⟩ => ⟨S8x127, .f32⟩
  | .hbm, ⟨96, _⟩ => ⟨S8x768, .f32⟩
  | .hbm, ⟨97, _⟩ => ⟨S8x1x768, .f32⟩
  | .hbm, ⟨98, _⟩ => ⟨S8x128x768, .f32⟩
  | .hbm, ⟨99, _⟩ => ⟨S8x98304, .f32⟩
  | .hbm, ⟨100, _⟩ => ⟨S8x98176, .f32⟩
  | .hbm, ⟨101, _⟩ => ⟨S8x128x767, .f32⟩
  | .hbm, ⟨102, _⟩ => ⟨S8x128x640, .f32⟩
  | .hbm, ⟨103, _⟩ => ⟨S1x128x640, .i1⟩
  | .hbm, ⟨104, _⟩ => ⟨S_, .f32⟩
  | .hbm, ⟨105, _⟩ => ⟨S_, .f32⟩
  | .hbm, ⟨106, _⟩ => ⟨S8x128x640, .i1⟩
  | .hbm, ⟨107, _⟩ => ⟨S8x128x640, .f32⟩
  | .hbm, ⟨108, _⟩ => ⟨S8x128x640, .f32⟩
  | .hbm, ⟨109, _⟩ => ⟨S2048x1024, .bf16⟩
  | .hbm, ⟨110, _⟩ => ⟨S2048x1024, .bf16⟩
  | .hbm, ⟨111, _⟩ => ⟨S2048x1024, .bf16⟩
  | .hbm, ⟨112, _⟩ => ⟨S8x128x640, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S1x128x640, .f32⟩
  | .local _ .vmem, ⟨9, _⟩ => ⟨S1x128x640, .f32⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S1x128x640, .f32⟩
  | .local _ .vmem, ⟨17, _⟩ => ⟨S1x128x640, .f32⟩
  | .local _ .vmem, ⟨18, _⟩ => ⟨S2560x128, .bf16⟩
  | .local _ .vmem, ⟨19, _⟩ => ⟨S2560x128, .bf16⟩
  | .local _ .vmem, ⟨20, _⟩ => ⟨S2560x128, .f32⟩
  | .local _ .vmem, ⟨21, _⟩ => ⟨S2560x128, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v4 : Ref sig .tc := ⟨.hbm, 24, rfl⟩
abbrev main_c_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_c : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_0 : Ref sig .tc := ⟨.hbm, 39, rfl⟩
abbrev main_call1_v12 : Ref sig .tc := ⟨.hbm, 40, rfl⟩
abbrev main_call1_v13 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_c_1 : Ref sig .tc := ⟨.hbm, 46, rfl⟩
abbrev main_v9 : Ref sig .tc := ⟨.hbm, 47, rfl⟩
abbrev main_v10 : Ref sig .tc := ⟨.hbm, 48, rfl⟩
abbrev main_c_2 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_c_3 : Ref sig .tc := ⟨.hbm, 54, rfl⟩
abbrev main_v15 : Ref sig .tc := ⟨.hbm, 55, rfl⟩
abbrev main_v16 : Ref sig .tc := ⟨.hbm, 56, rfl⟩
abbrev main_c_4 : Ref sig .tc := ⟨.hbm, 57, rfl⟩
abbrev main_v17 : Ref sig .tc := ⟨.hbm, 58, rfl⟩
abbrev main_v18 : Ref sig .tc := ⟨.hbm, 59, rfl⟩
abbrev main_c_5 : Ref sig .tc := ⟨.hbm, 60, rfl⟩
abbrev main_c_6 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_v19 : Ref sig .tc := ⟨.hbm, 67, rfl⟩
abbrev main_c_7 : Ref sig .tc := ⟨.hbm, 68, rfl⟩
abbrev main_v20 : Ref sig .tc := ⟨.hbm, 69, rfl⟩
abbrev main_v21 : Ref sig .tc := ⟨.hbm, 70, rfl⟩
abbrev main_call3_c : Ref sig .tc := ⟨.hbm, 71, rfl⟩
abbrev main_call3_v0 : Ref sig .tc := ⟨.hbm, 72, rfl⟩
abbrev main_call3_v1 : Ref sig .tc := ⟨.hbm, 73, rfl⟩
abbrev main_call3_c_0 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_v5 : Ref sig .tc := ⟨.hbm, 78, rfl⟩
abbrev main_call3_c_1 : Ref sig .tc := ⟨.hbm, 79, rfl⟩
abbrev main_call3_c_2 : Ref sig .tc := ⟨.hbm, 80, rfl⟩
abbrev main_call3_v6 : Ref sig .tc := ⟨.hbm, 81, rfl⟩
abbrev main_call3_v7 : Ref sig .tc := ⟨.hbm, 82, rfl⟩
abbrev main_call3_v8 : Ref sig .tc := ⟨.hbm, 83, rfl⟩
abbrev main_call3_v9 : Ref sig .tc := ⟨.hbm, 84, rfl⟩
abbrev main_call3_v10 : Ref sig .tc := ⟨.hbm, 85, rfl⟩
abbrev main_call3_v11 : Ref sig .tc := ⟨.hbm, 86, rfl⟩
abbrev main_call3_c_3 : Ref sig .tc := ⟨.hbm, 87, rfl⟩
abbrev main_call3_v12 : Ref sig .tc := ⟨.hbm, 88, rfl⟩
abbrev main_call3_v13 : Ref sig .tc := ⟨.hbm, 89, rfl⟩
abbrev main_call3_v14 : Ref sig .tc := ⟨.hbm, 90, rfl⟩
abbrev main_call3_cst : Ref sig .tc := ⟨.hbm, 91, rfl⟩
abbrev main_call3_v15 : Ref sig .tc := ⟨.hbm, 92, rfl⟩
abbrev main_v22 : Ref sig .tc := ⟨.hbm, 93, rfl⟩
abbrev main_call4_v0 : Ref sig .tc := ⟨.hbm, 94, rfl⟩
abbrev main_call4_v1 : Ref sig .tc := ⟨.hbm, 95, rfl⟩
abbrev main_v23 : Ref sig .tc := ⟨.hbm, 96, rfl⟩
abbrev main_v24 : Ref sig .tc := ⟨.hbm, 97, rfl⟩
abbrev main_v25 : Ref sig .tc := ⟨.hbm, 98, rfl⟩
abbrev main_v26 : Ref sig .tc := ⟨.hbm, 99, rfl⟩
abbrev main_v27 : Ref sig .tc := ⟨.hbm, 100, rfl⟩
abbrev main_v28 : Ref sig .tc := ⟨.hbm, 101, rfl⟩
abbrev main_v29 : Ref sig .tc := ⟨.hbm, 102, rfl⟩
abbrev main_v30 : Ref sig .tc := ⟨.hbm, 103, rfl⟩
abbrev main_cst : Ref sig .tc := ⟨.hbm, 104, rfl⟩
abbrev main_call5_v0 : Ref sig .tc := ⟨.hbm, 105, rfl⟩
abbrev main_call5_v1 : Ref sig .tc := ⟨.hbm, 106, rfl⟩
abbrev main_call5_v2 : Ref sig .tc := ⟨.hbm, 107, rfl⟩
abbrev main_v31 : Ref sig .tc := ⟨.hbm, 108, rfl⟩
abbrev main_v32_0 : Ref sig .tc := ⟨.hbm, 109, rfl⟩
abbrev main_v32_1 : Ref sig .tc := ⟨.hbm, 110, rfl⟩
abbrev main_v32_2 : Ref sig .tc := ⟨.hbm, 111, rfl⟩
abbrev main_v32_3 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v27 : BitVec 32 := Scalar.addi c0_i32 c16_i32
  let c1_i32 : BitVec 32 := 1#32
  ⟨c0_i32, v27, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c128_i32 : BitVec 32 := 128#32
  let v34 : BitVec 32 := Scalar.muli arg14 c128_i32
  v34
def k0_off1 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v34 : BitVec 32 := Scalar.muli arg14 c128_i32
  let v35 : BitVec 32 := v34
  let v36 : Index := Scalar.indexCast v35
  let c0_29 : Index := 0#32
  ![v36.toNat, 0]
def k0_off2 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v34 : BitVec 32 := Scalar.muli arg14 c128_i32
  let v35 : BitVec 32 := v34
  let v38 : Index := Scalar.indexCast v35
  let c0_30 : Index := 0#32
  ![v38.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S2048x6144 : Shape := ⟨2, ![2048, 6144]⟩
abbrev S8x513 : Shape := ⟨2, ![8, 513]⟩
abbrev S2048x2048 : Shape := ⟨2, ![2048, 2048]⟩
abbrev S2048x3072 : Shape := ⟨2, ![2048, 3072]⟩
abbrev S1x2048x3072 : Shape := ⟨3, ![1, 2048, 3072]⟩
abbrev S1x2048x1024 : Shape := ⟨3, ![1, 2048, 1024]⟩
abbrev S1x2048x8x128 : Shape := ⟨4, ![1, 2048, 8, 128]⟩
abbrev S1x32x64x8x128 : Shape := ⟨5, ![1, 32, 64, 8, 128]⟩
abbrev S_ : Shape := ⟨0, ![]⟩
abbrev S1x512x8x128 : Shape := ⟨4, ![1, 512, 8, 128]⟩
abbrev S1x2560x8x128 : Shape := ⟨4, ![1, 2560, 8, 128]⟩
abbrev S1x40x64x8x128 : Shape := ⟨5, ![1, 40, 64, 8, 128]⟩
abbrev S32 : Shape := ⟨1, ![32]⟩
abbrev S32x1 : Shape := ⟨2, ![32, 1]⟩
abbrev S9 : Shape := ⟨1, ![9]⟩
abbrev S1x9 : Shape := ⟨2, ![1, 9]⟩
abbrev S32x9 : Shape := ⟨2, ![32, 9]⟩
abbrev S32x9x1 : Shape := ⟨3, ![32, 9, 1]⟩
abbrev S1x32x9x64x8x128 : Shape := ⟨6, ![1, 32, 9, 64, 8, 128]⟩
abbrev S1x32x576x8x128 : Shape := ⟨5, ![1, 32, 576, 8, 128]⟩
abbrev S1x8x32x64x576 : Shape := ⟨5, ![1, 8, 32, 64, 576]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S8x1x64x576 : Shape := ⟨4, ![8, 1, 64, 576]⟩
abbrev S1x8x1x64x576 : Shape := ⟨5, ![1, 8, 1, 64, 576]⟩
abbrev S32x9x64 : Shape := ⟨3, ![32, 9, 64]⟩
abbrev S32x576 : Shape := ⟨2, ![32, 576]⟩
abbrev S1x1x32x1x576 : Shape := ⟨5, ![1, 1, 32, 1, 576]⟩
abbrev S1x8x32x64 : Shape := ⟨4, ![1, 8, 32, 64]⟩
abbrev S1x8x32x64x1 : Shape := ⟨5, ![1, 8, 32, 64, 1]⟩
abbrev S1x32x8x128x64 : Shape := ⟨5, ![1, 32, 8, 128, 64]⟩
abbrev S2048x1024 : Shape := ⟨2, ![2048, 1024]⟩
abbrev S1x32x8x64x576 : Shape := ⟨5, ![1, 32, 8, 64, 576]⟩
abbrev S1x32x8x128x576 : Shape := ⟨5, ![1, 32, 8, 128, 576]⟩
abbrev S8x32x64 : Shape := ⟨3, ![8, 32, 64]⟩
abbrev S1x8x32x576x128 : Shape := ⟨5, ![1, 8, 32, 576, 128]⟩
abbrev S1x8x32x64x128 : Shape := ⟨5, ![1, 8, 32, 64, 128]⟩

abbrev nBuf : Space → Nat
  | .hbm => 202
  | .vmem => 0
  | .smem => 0
  | _ => 0

abbrev hbmTy0_0 (i : Nat) : BufTy := match i % 128 with
  | 0 => ⟨S2048x6144, .bf16⟩
  | 1 => ⟨S8x513, .f32⟩
  | 2 => ⟨S2048x2048, .bf16⟩
  | 3 => ⟨S2048x3072, .bf16⟩
  | 4 => ⟨S1x2048x3072, .bf16⟩
  | 5 => ⟨S1x2048x3072, .f32⟩
  | 6 => ⟨S1x2048x1024, .f32⟩
  | 7 => ⟨S1x2048x1024, .f32⟩
  | 8 => ⟨S1x2048x1024, .f32⟩
  | 9 => ⟨S1x2048x8x128, .f32⟩
  | 10 => ⟨S1x2048x8x128, .f32⟩
  | 11 => ⟨S1x2048x8x128, .f32⟩
  | 12 => ⟨S1x32x64x8x128, .f32⟩
  | 13 => ⟨S_, .f32⟩
  | 14 => ⟨S1x512x8x128, .f32⟩
  | 15 => ⟨S1x2560x8x128, .f32⟩
  | 16 => ⟨S_, .f32⟩
  | 17 => ⟨S1x512x8x128, .f32⟩
  | 18 => ⟨S1x40x64x8x128, .f32⟩
  | 19 => ⟨S1x2560x8x128, .f32⟩
  | 20 => ⟨S_, .f32⟩
  | 21 => ⟨S1x512x8x128, .f32⟩
  | 22 => ⟨S1x40x64x8x128, .f32⟩
  | 23 => ⟨S32, .i32⟩
  | 24 => ⟨S32x1, .i32⟩
  | 25 => ⟨S9, .i32⟩
  | 26 => ⟨S1x9, .i32⟩
  | 27 => ⟨S32x9, .i32⟩
  | 28 => ⟨S32x9, .i32⟩
  | 29 => ⟨S32x9, .i32⟩
  | 30 => ⟨S_, .i32⟩
  | 31 => ⟨S32x9, .i32⟩
  | 32 => ⟨S32x9, .i1⟩
  | 33 => ⟨S_, .i32⟩
  | 34 => ⟨S32x9, .i32⟩
  | 35 => ⟨S32x9, .i32⟩
  | 36 => ⟨S32x9, .i32⟩
  | 37 => ⟨S32x9x1, .i32⟩
  | 38 => ⟨S1x32x9x64x8x128, .f32⟩
  | 39 => ⟨S1x32x576x8x128, .f32⟩
  | 40 => ⟨S_, .i32⟩
  | 41 => ⟨S32x9, .i32⟩
  | 42 => ⟨S32x9, .i1⟩
  | 43 => ⟨S_, .i32⟩
  | 44 => ⟨S32x9, .i32⟩
  | 45 => ⟨S32x9, .i32⟩
  | 46 => ⟨S32x9, .i32⟩
  | 47 => ⟨S32x9x1, .i32⟩
  | 48 => ⟨S1x32x9x64x8x128, .f32⟩
  | 49 => ⟨S1x32x576x8x128, .f32⟩
  | 50 => ⟨S1x8x32x64x576, .f32⟩
  | 51 => ⟨S_, .f32⟩
  | 52 => ⟨S1x8x32x64x576, .f32⟩
  | 53 => ⟨S1x8x32x64x576, .f32⟩
  | 54 => ⟨S64, .i32⟩
  | 55 => ⟨S64x1, .i32⟩
  | 56 => ⟨S_, .i32⟩
  | 57 => ⟨S64x1, .i32⟩
  | 58 => ⟨S64x1, .i32⟩
  | 59 => ⟨S576, .i32⟩
  | 60 => ⟨S1x576, .i32⟩
  | 61 => ⟨S64x576, .i32⟩
  | 62 => ⟨S64x576, .i32⟩
  | 63 => ⟨S64x576, .i32⟩
  | 64 => ⟨S_, .i32⟩
  | 65 => ⟨S_, .i32⟩
  | 66 => ⟨S_, .i32⟩
  | 67 => ⟨S64x576, .i32⟩
  | 68 => ⟨S64x576, .i32⟩
  | 69 => ⟨S_, .i32⟩
  | 70 => ⟨S64x576, .i32⟩
  | 71 => ⟨S64x576, .i32⟩
  | 72 => ⟨S_, .i32⟩
  | 73 => ⟨S64x576, .i32⟩
  | 74 => ⟨S64x576, .i32⟩
  | 75 => ⟨S_, .i32⟩
  | 76 => ⟨S64x576, .i32⟩
  | 77 => ⟨S64x576, .i1⟩
  | 78 => ⟨S_, .i32⟩
  | 79 => ⟨S64x576, .i32⟩
  | 80 => ⟨S64x576, .i32⟩
  | 81 => ⟨S64x576, .i32⟩
  | 82 => ⟨S64x576x1, .i32⟩
  | 83 => ⟨S8x64x576, .f32⟩
  | 84 => ⟨S8x1x64x576, .f32⟩
  | 85 => ⟨S1x8x1x64x576, .f32⟩
  | 86 => ⟨S1x8x32x64x576, .f32⟩
  | 87 => ⟨S1x8x32x64x576, .f32⟩
  | 88 => ⟨S_, .i32⟩
  | 89 => ⟨S32x9, .i32⟩
  | 90 => ⟨S32x9, .i1⟩
  | 91 => ⟨S32x9x64, .i1⟩
  | 92 => ⟨S32x576, .i1⟩
  | 93 => ⟨S1x1x32x1x576, .i1⟩
  | 94 => ⟨S_, .f32⟩
  | 95 => ⟨S_, .f32⟩
  | 96 => ⟨S1x8x32x64x576, .i1⟩
  | 97 => ⟨S1x8x32x64x576, .f32⟩
  | 98 => ⟨S1x8x32x64x576, .f32⟩
  | 99 => ⟨S_, .f32⟩
  | 100 => ⟨S1x8x32x64x576, .f32⟩
  | 101 => ⟨S_, .f32⟩
  | 102 => ⟨S1x8x32x64, .f32⟩
  | 103 => ⟨S1x8x32x64x1, .f32⟩
  | 104 => ⟨S1x8x32x64x576, .f32⟩
  | 105 => ⟨S1x8x32x64x576, .i1⟩
  | 106 => ⟨S1x8x32x64x576, .f32⟩
  | 107 => ⟨S_, .f32⟩
  | 108 => ⟨S1x8x32x64, .f32⟩
  | 109 => ⟨S_, .f32⟩
  | 110 => ⟨S1x8x32x64, .f32⟩
  | 111 => ⟨S1x8x32x64, .f32⟩
  | 112 => ⟨S_, .f32⟩
  | 113 => ⟨S1x8x32x64, .f32⟩
  | 114 => ⟨S1x8x32x64, .i1⟩
  | 115 => ⟨S_, .f32⟩
  | 116 => ⟨S1x8x32x64, .f32⟩
  | 117 => ⟨S1x8x32x64, .i1⟩
  | 118 => ⟨S_, .f32⟩
  | 119 => ⟨S1x8x32x64, .f32⟩
  | 120 => ⟨S_, .f32⟩
  | 121 => ⟨S1x8x32x64, .f32⟩
  | 122 => ⟨S_, .f32⟩
  | 123 => ⟨S1x8x32x64, .f32⟩
  | 124 => ⟨S1x8x32x64, .f32⟩
  | 125 => ⟨S1x8x32x64, .f32⟩
  | 126 => ⟨S1x8x32x64x1, .f32⟩
  | 127 => ⟨S1x8x32x64x576, .f32⟩
  | _ => ⟨S2048x6144, .bf16⟩

abbrev hbmTy0_1 (i : Nat) : BufTy := match i % 128 with
  | 0 => ⟨S1x8x32x64x576, .f32⟩
  | 1 => ⟨S1x8x32x64x576, .f32⟩
  | 2 => ⟨S_, .f32⟩
  | 3 => ⟨S1x8x32x64, .f32⟩
  | 4 => ⟨S1x8x32x64x1, .f32⟩
  | 5 => ⟨S1x8x32x64x576, .f32⟩
  | 6 => ⟨S1x8x32x64x576, .f32⟩
  | 7 => ⟨S1x8x32x64x1, .f32⟩
  | 8 => ⟨S_, .f32⟩
  | 9 => ⟨S1x8x32x64x1, .f32⟩
  | 10 => ⟨S1x8x32x64x1, .f32⟩
  | 11 => ⟨S1x32x8x128x64, .f32⟩
  | 12 => ⟨S1x32x64x8x128, .f32⟩
  | 13 => ⟨S2048x1024, .f32⟩
  | 14 => ⟨S2048x1024, .bf16⟩
  | 15 => ⟨S2048x1024, .f32⟩
  | 16 => ⟨S1x32x64x8x128, .f32⟩
  | 17 => ⟨S1x32x8x128x64, .f32⟩
  | 18 => ⟨S1x32x8x64x576, .f32⟩
  | 19 => ⟨S1x8x32x64x576, .f32⟩
  | 20 => ⟨S1x32x8x128x576, .f32⟩
  | 21 => ⟨S1x32x576x8x128, .f32⟩
  | 22 => ⟨S1x8x32x64x576, .f32⟩
  | 23 => ⟨S1x8x32x64x576, .f32⟩
  | 24 => ⟨S1x8x32x64x576, .f32⟩
  | 25 => ⟨S_, .f32⟩
  | 26 => ⟨S1x8x32x64, .f32⟩
  | 27 => ⟨S1x8x32x64x1, .f32⟩
  | 28 => ⟨S1x8x32x64x1, .f32⟩
  | 29 => ⟨S1x8x32x64x576, .f32⟩
  | 30 => ⟨S1x8x32x64x576, .f32⟩
  | 31 => ⟨S_, .f32⟩
  | 32 => ⟨S8x32x64, .f32⟩
  | 33 => ⟨S1x8x32x64, .f32⟩
  | 34 => ⟨S1x8x32x64x576, .f32⟩
  | 35 => ⟨S1x8x32x64x576, .f32⟩
  | 36 => ⟨S1x8x32x64x576, .f32⟩
  | 37 => ⟨S_, .f32⟩
  | 38 => ⟨S1x8x32x64x576, .f32⟩
  | 39 => ⟨S1x8x32x64x576, .f32⟩
  | 40 => ⟨S_, .f32⟩
  | 41 => ⟨S1x8x32x64x576, .f32⟩
  | 42 => ⟨S1x8x32x64x576, .f32⟩
  | 43 => ⟨S1x8x32x576x128, .f32⟩
  | 44 => ⟨S1x32x576x8x128, .f32⟩
  | 45 => ⟨S1x8x32x64x128, .f32⟩
  | 46 => ⟨S1x32x64x8x128, .f32⟩
  | 47 => ⟨S1x32x9x64x8x128, .f32⟩
  | 48 => ⟨S_, .f32⟩
  | 49 => ⟨S1x40x64x8x128, .f32⟩
  | 50 => ⟨S1x40x64x8x128, .f32⟩
  | 51 => ⟨S1x32x9x64x8x128, .f32⟩
  | 52 => ⟨S_, .f32⟩
  | 53 => ⟨S1x40x64x8x128, .f32⟩
  | 54 => ⟨S1x40x64x8x128, .f32⟩
  | 55 => ⟨S1x2560x8x128, .f32⟩
  | 56 => ⟨S1x512x8x128, .f32⟩
  | 57 => ⟨S1x2048x8x128, .f32⟩
  | 58 => ⟨S1x2560x8x128, .f32⟩
  | 59 => ⟨S1x512x8x128, .f32⟩
  | 60 => ⟨S1x2048x8x128, .f32⟩
  | 61 => ⟨S1x2048x8x128, .f32⟩
  | 62 => ⟨S1x2048x1024, .f32⟩
  | 63 => ⟨S1x2048x1024, .f32⟩
  | 64 => ⟨S1x2048x1024, .f32⟩
  | 65 => ⟨S1x2048x3072, .f32⟩
  | 66 => ⟨S1x2048x3072, .bf16⟩
  | 67 => ⟨S_, .bf16⟩
  | 68 => ⟨S2048x3072, .bf16⟩
  | 69 => ⟨S_, .bf16⟩
  | 70 => ⟨S2048x6144, .bf16⟩
  | 71 => ⟨S2048x1024, .bf16⟩
  | 72 => ⟨S2048x1024, .bf16⟩
  | 73 => ⟨S2048x1024, .bf16⟩
  | _ => ⟨S2048x6144, .bf16⟩

abbrev hbmTy (i : Nat) : BufTy := match i / 128 with
  | 0 => hbmTy0_0 i
  | 1 => hbmTy0_1 i
  | _ => ⟨S2048x6144, .bf16⟩

abbrev bufTy : (tb : Table) → Fin (tcTables nBuf tb) → BufTy
  | .hbm, ⟨i, _⟩ => hbmTy i
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c : Ref sig .tc := ⟨.hbm, 30, rfl⟩
abbrev main_v24 : Ref sig .tc := ⟨.hbm, 31, rfl⟩
abbrev main_v25 : Ref sig .tc := ⟨.hbm, 32, rfl⟩
abbrev main_c_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c_3 : Ref sig .tc := ⟨.hbm, 40, rfl⟩
abbrev main_v32 : Ref sig .tc := ⟨.hbm, 41, rfl⟩
abbrev main_v33 : Ref sig .tc := ⟨.hbm, 42, rfl⟩
abbrev main_c_4 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_c_6 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_c_7 : Ref sig .tc := ⟨.hbm, 64, rfl⟩
abbrev main_c_8 : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_v52 : Ref sig .tc := ⟨.hbm, 71, rfl⟩
abbrev main_c_9 : Ref sig .tc := ⟨.hbm, 72, rfl⟩
abbrev main_v53 : Ref sig .tc := ⟨.hbm, 73, rfl⟩
abbrev main_v54 : Ref sig .tc := ⟨.hbm, 74, rfl⟩
abbrev main_c_10 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_12 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_13 : Ref sig .tc := ⟨.hbm, 94, rfl⟩
abbrev main_call1_v0 : Ref sig .tc := ⟨.hbm, 95, rfl⟩
abbrev main_v71_1 : Ref sig .tc := ⟨.hbm, 96, rfl⟩
abbrev main_call1_v2 : Ref sig .tc := ⟨.hbm, 97, rfl⟩
abbrev main_v71_0 : Ref sig .tc := ⟨.hbm, 98, rfl⟩
abbrev main_call1_cst : Ref sig .tc := ⟨.hbm, 99, rfl⟩
abbrev main_v71_2 : Ref sig .tc := ⟨.hbm, 100, rfl⟩
abbrev main_cst_14 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_15 : Ref sig .tc := ⟨.hbm, 107, rfl⟩
abbrev main_v77 : Ref sig .tc := ⟨.hbm, 108, rfl⟩
abbrev main_cst_16 : Ref sig .tc := ⟨.hbm, 109, rfl⟩
abbrev main_v78 : Ref sig .tc := ⟨.hbm, 110, rfl⟩
abbrev main_v79 : Ref sig .tc := ⟨.hbm, 111, rfl⟩
abbrev main_cst_17 : Ref sig .tc := ⟨.hbm, 112, rfl⟩
abbrev main_v80 : Ref sig .tc := ⟨.hbm, 113, rfl⟩
abbrev main_v81 : Ref sig .tc := ⟨.hbm, 114, rfl⟩
abbrev main_cst_18 : Ref sig .tc := ⟨.hbm, 115, rfl⟩
abbrev main_v82 : Ref sig .tc := ⟨.hbm, 116, rfl⟩
abbrev main_v83 : Ref sig .tc := ⟨.hbm, 117, rfl⟩
abbrev main_cst_19 : Ref sig .tc := ⟨.hbm, 118, rfl⟩
abbrev main_v84 : Ref sig .tc := ⟨.hbm, 119, rfl⟩
abbrev main_cst_20 : Ref sig .tc := ⟨.hbm, 120, rfl⟩
abbrev main_v85 : Ref sig .tc := ⟨.hbm, 121, rfl⟩
abbrev main_cst_21 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_22 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_23 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_cst_24 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_cst_25 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_call2_cst : Ref sig .tc := ⟨.hbm, 165, rfl⟩
abbrev main_call2_v0 : Ref sig .tc := ⟨.hbm, 166, rfl⟩
abbrev main_v124 : Ref sig .tc := ⟨.hbm, 167, rfl⟩
abbrev main_cst_26 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_cst_27 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_cst_28 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_cst_29 : Ref sig .tc := ⟨.hbm, 195, rfl⟩
abbrev main_v149 : Ref sig .tc := ⟨.hbm, 196, rfl⟩
abbrev main_cst_30 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩

abbrev nD : Nat := 1
abbrev τ : Topo := Topo.v7x

variable {F : FTy → Type} [FloatOps F]

def κ : String → Option EReal := fun
  | "mask" => some ⊥
  | _ => none
-- ==== Kernel2.lean ====
abbrev S2048x2048 : Shape := ⟨2, ![2048, 2048]⟩
abbrev S8x704x2048 : Shape := ⟨3, ![8, 704, 2048]⟩
abbrev S8x2048x704 : Shape := ⟨3, ![8, 2048, 704]⟩
abbrev S1024x2048 : Shape := ⟨2, ![1024, 2048]⟩
abbrev S1x704x2048 : Shape := ⟨3, ![1, 704, 2048]⟩
abbrev S1x1024x704 : Shape := ⟨3, ![1, 1024, 704]⟩
abbrev S1x256x2048 : Shape := ⟨3, ![1, 256, 2048]⟩
abbrev S256x2048 : Shape := ⟨2, ![256, 2048]⟩
abbrev S1024x256 : Shape := ⟨2, ![1024, 256]⟩
abbrev S1x1024x256 : Shape := ⟨3, ![1, 1024, 256]⟩
abbrev S1x192x2048 : Shape := ⟨3, ![1, 192, 2048]⟩
abbrev S192x2048 : Shape := ⟨2, ![192, 2048]⟩
abbrev S1024x192 : Shape := ⟨2, ![1024, 192]⟩
abbrev S1x1024x192 : Shape := ⟨3, ![1, 1024, 192]⟩
abbrev S1x2048x704 : Shape := ⟨3, ![1, 2048, 704]⟩
abbrev S2048x704 : Shape := ⟨2, ![2048, 704]⟩
abbrev S704x2048 : Shape := ⟨2, ![704, 2048]⟩
abbrev S2048x1024 : Shape := ⟨2, ![2048, 1024]⟩
abbrev S1x704x1024 : Shape := ⟨3, ![1, 704, 1024]⟩
abbrev S704x1024 : Shape := ⟨2, ![704, 1024]⟩

abbrev nBuf : Space → Nat
  | .hbm => 13
  | .vmem => 39
  | .smem => 0
  | _ => 0

abbrev bufTy : (tb : Table) → Fin (tcTables nBuf tb) → BufTy
  | .hbm, ⟨0, _⟩ => ⟨S2048x2048, .bf16⟩
  | .hbm, ⟨1, _⟩ => ⟨S8x704x2048, .bf16⟩
  | .hbm, ⟨2, _⟩ => ⟨S8x704x2048, .bf16⟩
  | .hbm, ⟨3, _⟩ => ⟨S8x704x2048, .bf16⟩
  | .hbm, ⟨4, _⟩ => ⟨S2048x2048, .bf16⟩
  | .hbm, ⟨5, _⟩ => ⟨S8x2048x704, .bf16⟩
  | .hbm, ⟨6, _⟩ => ⟨S8x2048x704, .bf16⟩
  | .hbm, ⟨7, _⟩ => ⟨S8x2048x704, .bf16⟩
  | .hbm, ⟨8, _⟩ => ⟨S8x2048x704, .bf16⟩
  | .hbm, ⟨9, _⟩ => ⟨S8x2048x704, .bf16⟩
  | .hbm, ⟨10, _⟩ => ⟨S8x704x2048, .bf16⟩
  | .hbm, ⟨11, _⟩ => ⟨S8x704x2048, .bf16⟩
  | .hbm, ⟨12, _⟩ => ⟨S8x704x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1024x2048, .bf16⟩
  | .local _ .vmem, ⟨13, _⟩ => ⟨S1024x2048, .bf16⟩
  | .local _ .vmem, ⟨14, _⟩ => ⟨S1x704x2048, .bf16⟩
  | .local _ .vmem, ⟨15, _⟩ => ⟨S1x704x2048, .bf16⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1x1024x704, .bf16⟩
  | .local _ .vmem, ⟨20, _⟩ => ⟨S1x1024x704, .bf16⟩
  | .local _ .vmem, ⟨21, _⟩ => ⟨S1x1024x704, .bf16⟩
  | .local _ .vmem, ⟨22, _⟩ => ⟨S1x1024x704, .bf16⟩
  | .local _ .vmem, ⟨23, _⟩ => ⟨S1x1024x704, .bf16⟩
  | .local _ .vmem, ⟨24, _⟩ => ⟨S1x2048x704, .bf16⟩
  | .local _ .vmem, ⟨25, _⟩ => ⟨S1x2048x704, .bf16⟩
  | .local _ .vmem, ⟨26, _⟩ => ⟨S2048x2048, .bf16⟩
  | .local _ .vmem, ⟨27, _⟩ => ⟨S1x704x2048, .bf16⟩
  | .local _ .vmem, ⟨28, _⟩ => ⟨S1x704x2048, .bf16⟩
  | .local _ .vmem, ⟨29, _⟩ => ⟨S1x2048x704, .bf16⟩
  | .local _ .vmem, ⟨30, _⟩ => ⟨S1x2048x704, .bf16⟩
  | .local _ .vmem, ⟨31, _⟩ => ⟨S1x2048x704, .bf16⟩
  | .local _ .vmem, ⟨32, _⟩ => ⟨S1x2048x704, .bf16⟩
  | .local _ .vmem, ⟨33, _⟩ => ⟨S2048x1024, .bf16⟩
  | .local _ .vmem, ⟨34, _⟩ => ⟨S2048x1024, .bf16⟩
  | .local _ .vmem, ⟨35, _⟩ => ⟨S1x704x1024, .bf16⟩
  | .local _ .vmem, ⟨36, _⟩ => ⟨S1x704x1024, .bf16⟩
  | .local _ .vmem, ⟨37, _⟩ => ⟨S1x704x1024, .bf16⟩
  | .local _ .vmem, ⟨38, _⟩ => ⟨S1x704x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1_0 : Ref sig .tc := ⟨.hbm, 8, rfl⟩
abbrev main_v1_1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg2_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg3_1 : Ref sig .tc := ⟨.vmem, 36, rfl⟩
abbrev cc3_stg4_0 : Ref sig .tc := ⟨.vmem, 37, rfl⟩
abbrev cc3_stg4_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem2_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34
abbrev cc3_sem3_0 : DmaSem sig := 35
abbrev cc3_sem3_1 : DmaSem sig := 36
abbrev cc3_sem4_0 : DmaSem sig := 37
abbrev cc3_sem4_1 : DmaSem sig := 38

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev grid1 : Pipeline.Grid := ⟨3, ![2, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 2 → Memref sig .tc .vmem S1x704x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, false]

abbrev stage1_2 : Fin 2 → Memref sig .tc .vmem S1x1024x704 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1024x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x1024x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S1x1024x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev grid2 : Pipeline.Grid := ⟨3, ![8, 1, 1], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c2_i32_3 : BitVec 32 := 2#32
  let v11 : BitVec 32 := Scalar.divsi arg0 c2_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c2_i32_3 c0_i32_6
  let v18 : BitVec 32 := Scalar.extui v17
  let c0_i32_7 : BitVec 32 := 0#32
  let v19 : BitVec 1 := Scalar.cmpi .slt c2_i32_3 c0_i32_7
  let v20 : BitVec 32 := Scalar.extui v19
  let v21 : BitVec 32 := Scalar.subi v18 v20
  let v22 : BitVec 1 := Scalar.cmpi .ne v16 v21
  let v23 : BitVec 32 := Scalar.remsi arg0 c2_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  let c0_i32_12 : BitVec 32 := 0#32
  ![v28.toNat, c0_i32_10.toNat, c0_i32_11.toNat]

abbrev stage2_0 : Fin 2 → Memref sig .tc .vmem S1x2048x704 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false, true]

abbrev stage2_2 : Fin 2 → Memref sig .tc .vmem S1x704x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, false]

abbrev grid3 : Pipeline.Grid := ⟨3, ![8, 2, 1], ![false, false, false]⟩

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c2_i32_3 : BitVec 32 := 2#32
  let v11 : BitVec 32 := Scalar.divsi arg0 c2_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c2_i32_3 c0_i32_6
  let v18 : BitVec 32 := Scalar.extui v17
  let c0_i32_7 : BitVec 32 := 0#32
  let v19 : BitVec 1 := Scalar.cmpi .slt c2_i32_3 c0_i32_7
  let v20 : BitVec 32 := Scalar.extui v19
  let v21 : BitVec 32 := Scalar.subi v18 v20
  let v22 : BitVec 1 := Scalar.cmpi .ne v16 v21
  let v23 : BitVec 32 := Scalar.remsi arg0 c2_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, c0_i32_10.toNat, arg1.toNat]

def cc3_transform_4 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c2_i32_3 : BitVec 32 := 2#32
  let v11 : BitVec 32 := Scalar.divsi arg0 c2_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c2_i32_3 c0_i32_6
  let v18 : BitVec 32 := Scalar.extui v17
  let c0_i32_7 : BitVec 32 := 0#32
  let v19 : BitVec 1 := Scalar.cmpi .slt c2_i32_3 c0_i32_7
  let v20 : BitVec 32 := Scalar.extui v19
  let v21 : BitVec 32 := Scalar.subi v18 v20
  let v22 : BitVec 1 := Scalar.cmpi .ne v16 v21
  let v23 : BitVec 32 := Scalar.remsi arg0 c2_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, c0_i32_10.toNat, arg1.toNat]

abbrev stage3_0 : Fin 2 → Memref sig .tc .vmem S1x2048x704 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1x2048x704 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S2048x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, true]

abbrev stage3_3 : Fin 2 → Memref sig .tc .vmem S1x704x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev stage3_4 : Fin 2 → Memref sig .tc .vmem S1x704x1024 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, false]
-- ==== Reference2Ideal.lean ====
abbrev S2048x2048 : Shape := ⟨2, ![2048, 2048]⟩
abbrev S8x704x2048 : Shape := ⟨3, ![8, 704, 2048]⟩
abbrev S5632x2048 : Shape := ⟨2, ![5632, 2048]⟩
abbrev S2048x5632 : Shape := ⟨2, ![2048, 5632]⟩
abbrev S_ : Shape := ⟨0, ![]⟩
abbrev S4x2x704x2048 : Shape := ⟨4, ![4, 2, 704, 2048]⟩
abbrev S2x4x704x2048 : Shape := ⟨4, ![2, 4, 704, 2048]⟩

abbrev nBuf : Space → Nat
  | .hbm => 62
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x704x2048, .bf16⟩
  | .hbm, ⟨2, _⟩ => ⟨S8x704x2048, .bf16⟩
  | .hbm, ⟨3, _⟩ => ⟨S8x704x2048, .bf16⟩
  | .hbm, ⟨4, _⟩ => ⟨S2048x2048, .bf16⟩
  | .hbm, ⟨5, _⟩ => ⟨S2048x2048, .f32⟩
  | .hbm, ⟨6, _⟩ => ⟨S8x704x2048, .f32⟩
  | .hbm, ⟨7, _⟩ => ⟨S5632x2048, .f32⟩
  | .hbm, ⟨8, _⟩ => ⟨S2048x5632, .f32⟩
  | .hbm, ⟨9, _⟩ => ⟨S8x704x2048, .f32⟩
  | .hbm, ⟨10, _⟩ => ⟨S5632x2048, .f32⟩
  | .hbm, ⟨11, _⟩ => ⟨S2048x5632, .f32⟩
  | .hbm, ⟨12, _⟩ => ⟨S8x704x2048, .f32⟩
  | .hbm, ⟨13, _⟩ => ⟨S5632x2048, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S_, .f32⟩
  | .hbm, ⟨18, _⟩ => ⟨S2048x5632, .f32⟩
  | .hbm, ⟨19, _⟩ => ⟨S2048x5632, .f32⟩
  | .hbm, ⟨20, _⟩ => ⟨S_, .f32⟩
  | .hbm, ⟨21, _⟩ => ⟨S2048x5632, .f32⟩
  | .hbm, ⟨22, _⟩ => ⟨S2048x5632, .f32⟩
  | .hbm, ⟨23, _⟩ => ⟨S_, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S2048x5632, .f32⟩
  | .hbm, ⟨30, _⟩ => ⟨S2048x2048, .f32⟩
  | .hbm, ⟨31, _⟩ => ⟨S2048x2048, .f32⟩
  | .hbm, ⟨32, _⟩ => ⟨S2048x5632, .f32⟩
  | .hbm, ⟨33, _⟩ => ⟨S5632x2048, .f32⟩
  | .hbm, ⟨34, _⟩ => ⟨S2048x5632, .f32⟩
  | .hbm, ⟨35, _⟩ => ⟨S2048x5632, .f32⟩
  | .hbm, ⟨36, _⟩ => ⟨S2048x5632, .f32⟩
  | .hbm, ⟨37, _⟩ => ⟨S5632x2048, .f32⟩
  | .hbm, ⟨38, _⟩ => ⟨S2048x5632, .f32⟩
  | .hbm, ⟨39, _⟩ => ⟨S2048x2048, .f32⟩
  | .hbm, ⟨40, _⟩ => ⟨S2048x5632, .f32⟩
  | .hbm, ⟨41, _⟩ => ⟨S2048x5632, .f32⟩
  | .hbm, ⟨42, _⟩ => ⟨S2048x5632, .f32⟩
  | .hbm, ⟨43, _⟩ => ⟨S2048x5632, .f32⟩
  | .hbm, ⟨44, _⟩ => ⟨S5632x2048, .f32⟩
  | .hbm, ⟨45, _⟩ => ⟨S2048x5632, .f32⟩
  | .hbm, ⟨46, _⟩ => ⟨S2048x2048, .f32⟩
  | .hbm, ⟨47, _⟩ => ⟨S2048x2048, .f32⟩
  | .hbm, ⟨48, _⟩ => ⟨S5632x2048, .f32⟩
  | .hbm, ⟨49, _⟩ => ⟨S4x2x704x2048, .f32⟩
  | .hbm, ⟨50, _⟩ => ⟨S2x4x704x2048, .f32⟩
  | .hbm, ⟨51, _⟩ => ⟨S8x704x2048, .f32⟩
  | .hbm, ⟨52, _⟩ => ⟨S8x704x2048, .bf16⟩
  | .hbm, ⟨53, _⟩ => ⟨S5632x2048, .f32⟩
  | .hbm, ⟨54, _⟩ => ⟨S4x2x704x2048, .f32⟩
  | .hbm, ⟨55, _⟩ => ⟨S2x4x704x2048, .f32⟩
  | .hbm, ⟨56, _⟩ => ⟨S8x704x2048, .f32⟩
  | .hbm, ⟨57, _⟩ => ⟨S8x704x2048, .bf16⟩
  | .hbm, ⟨58, _⟩ => ⟨S4x2x704x2048, .f32⟩
  | .hbm, ⟨59, _⟩ => ⟨S2x4x704x2048, .f32⟩
  | .hbm, ⟨60, _⟩ => ⟨S8x704x2048, .f32⟩
  | .hbm, ⟨61, _⟩ => ⟨S8x704x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_v10_2 : Ref sig .tc := ⟨.hbm, 22, rfl⟩
abbrev main_call0_cst_1 : Ref sig .tc := ⟨.hbm, 23, rfl⟩
abbrev main_call0_v6 : Ref sig .tc := ⟨.hbm, 24, rfl⟩
abbrev main_call0_v7 : Ref sig .tc := ⟨.hbm, 25, rfl⟩
abbrev main_v10_1 : Ref sig .tc := ⟨.hbm, 26, rfl⟩
abbrev main_v10_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]
-- ==== Kernel3.lean ====
abbrev S8x2048x704 : Shape := ⟨3, ![8, 2048, 704]⟩
abbrev S8x704x2048 : Shape := ⟨3, ![8, 704, 2048]⟩
abbrev S2048x2048 : Shape := ⟨2, ![2048, 2048]⟩
abbrev S1x1024x704 : Shape := ⟨3, ![1, 1024, 704]⟩
abbrev S1x704x2048 : Shape := ⟨3, ![1, 704, 2048]⟩
abbrev S1024x2048 : Shape := ⟨2, ![1024, 2048]⟩
abbrev S1024x704 : Shape := ⟨2, ![1024, 704]⟩
abbrev S704x2048 : Shape := ⟨2, ![704, 2048]⟩

abbrev nBuf : Space → Nat
  | .hbm => 5
  | .vmem => 11
  | .smem => 0
  | _ => 0

abbrev bufTy : (tb : Table) → Fin (tcTables nBuf tb) → BufTy
  | .hbm, ⟨0, _⟩ => ⟨S8x2048x704, .bf16⟩
  | .hbm, ⟨1, _⟩ => ⟨S8x2048x704, .bf16⟩
  | .hbm, ⟨2, _⟩ => ⟨S8x704x2048, .bf16⟩
  | .hbm, ⟨3, _⟩ => ⟨S8x704x2048, .bf16⟩
  | .hbm, ⟨4, _⟩ => ⟨S2048x2048, .bf16⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x704x2048, .bf16⟩
  | .local _ .vmem, ⟨5, _⟩ => ⟨S1x704x2048, .bf16⟩
  | .local _ .vmem, ⟨6, _⟩ => ⟨S1x704x2048, .bf16⟩
  | .local _ .vmem, ⟨7, _⟩ => ⟨S1x704x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1024x2048, .f32⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_21 : BitVec 32 := 0#32
  let v25 : BitVec 1 := Scalar.cmpi .ne v24 c0_i32_21
  v25

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x704x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== Reference3Ideal.lean ====
abbrev S8x2048x704 : Shape := ⟨3, ![8, 2048, 704]⟩
abbrev S8x704x2048 : Shape := ⟨3, ![8, 704, 2048]⟩
abbrev S_ : Shape := ⟨0, ![]⟩
abbrev S2048x2048 : Shape := ⟨2, ![2048, 2048]⟩
abbrev S5632x2048 : Shape := ⟨2, ![5632, 2048]⟩
abbrev S2048x5632 : Shape := ⟨2, ![2048, 5632]⟩
abbrev S2048x8x704 : Shape := ⟨3, ![2048, 8, 704]⟩

abbrev nBuf : Space → Nat
  | .hbm => 24
  | .vmem => 0
  | .smem => 0
  | _ => 0

abbrev bufTy : (tb : Table) → Fin (tcTables nBuf tb) → BufTy
  | .hbm, ⟨0, _⟩ => ⟨S8x2048x704, .bf16⟩
  | .hbm, ⟨1, _⟩ => ⟨S8x2048x704, .bf16⟩
  | .hbm, ⟨2, _⟩ => ⟨S8x704x2048, .bf16⟩
  | .hbm, ⟨3, _⟩ => ⟨S8x704x2048, .bf16⟩
  | .hbm, ⟨4, _⟩ => ⟨S_, .f32⟩
  | .hbm, ⟨5, _⟩ => ⟨S2048x2048, .f32⟩
  | .hbm, ⟨6, _⟩ => ⟨S8x704x2048, .f32⟩
  | .hbm, ⟨7, _⟩ => ⟨S5632x2048, .f32⟩
  | .hbm, ⟨8, _⟩ => ⟨S2048x5632, .f32⟩
  | .hbm, ⟨9, _⟩ => ⟨S8x704x2048, .f32⟩
  | .hbm, ⟨10, _⟩ => ⟨S5632x2048, .f32⟩
  | .hbm, ⟨11, _⟩ => ⟨S2048x5632, .f32⟩
  | .hbm, ⟨12, _⟩ => ⟨S2048x5632, .f32⟩
  | .hbm, ⟨13, _⟩ => ⟨S2048x5632, .f32⟩
  | .hbm, ⟨14, _⟩ => ⟨S8x2048x704, .f32⟩
  | .hbm, ⟨15, _⟩ => ⟨S2048x8x704, .f32⟩
  | .hbm, ⟨16, _⟩ => ⟨S2048x5632, .f32⟩
  | .hbm, ⟨17, _⟩ => ⟨S8x2048x704, .f32⟩
  | .hbm, ⟨18, _⟩ => ⟨S2048x8x704, .f32⟩
  | .hbm, ⟨19, _⟩ => ⟨S2048x5632, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .bf16⟩
  | _, _ => ⟨S8x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== Kernel4.lean ====
abbrev S2048x6144 : Shape := ⟨2, ![2048, 6144]⟩
abbrev S3x1024 : Shape := ⟨2, ![3, 1024]⟩
abbrev S2048x2048 : Shape := ⟨2, ![2048, 2048]⟩
abbrev S2048x1024 : Shape := ⟨2, ![2048, 1024]⟩
abbrev S2048x128 : Shape := ⟨2, ![2048, 128]⟩
abbrev S3x128 : Shape := ⟨2, ![3, 128]⟩
abbrev S1x128 : Shape := ⟨2, ![1, 128]⟩
abbrev S128 : Shape := ⟨1, ![128]⟩

abbrev nBuf : Space → Nat
  | .hbm => 7
  | .vmem => 18
  | .smem => 0
  | _ => 0

abbrev bufTy : (tb : Table) → Fin (tcTables nBuf tb) → BufTy
  | .hbm, ⟨0, _⟩ => ⟨S2048x6144, .bf16⟩
  | .hbm, ⟨1, _⟩ => ⟨S3x1024, .f32⟩
  | .hbm, ⟨2, _⟩ => ⟨S2048x2048, .bf16⟩
  | .hbm, ⟨3, _⟩ => ⟨S2048x1024, .bf16⟩
  | .hbm, ⟨4, _⟩ => ⟨S2048x1024, .bf16⟩
  | .hbm, ⟨5, _⟩ => ⟨S2048x1024, .bf16⟩
  | .hbm, ⟨6, _⟩ => ⟨S3x1024, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S3x128, .f32⟩
  | .local _ .vmem, ⟨9, _⟩ => ⟨S3x128, .f32⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S3x128, .f32⟩
  | .local _ .vmem, ⟨17, _⟩ => ⟨S3x128, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S2048x6144 : Shape := ⟨2, ![2048, 6144]⟩
abbrev S3x1024 : Shape := ⟨2, ![3, 1024]⟩
abbrev S2048x2048 : Shape := ⟨2, ![2048, 2048]⟩
abbrev S2048x3072 : Shape := ⟨2, ![2048, 3072]⟩
abbrev S1x2048x3072 : Shape := ⟨3, ![1, 2048, 3072]⟩
abbrev S1x2048x1024 : Shape := ⟨3, ![1, 2048, 1024]⟩
abbrev S_ : Shape := ⟨0, ![]⟩
abbrev S1x2x1024 : Shape := ⟨3, ![1, 2, 1024]⟩
abbrev S1x2050x1024 : Shape := ⟨3, ![1, 2050, 1024]⟩
abbrev S1x1024 : Shape := ⟨2, ![1, 1024]⟩
abbrev S1024 : Shape := ⟨1, ![1024]⟩
abbrev S1x1x1024 : Shape := ⟨3, ![1, 1, 1024]⟩
abbrev S2048x1024 : Shape := ⟨2, ![2048, 1024]⟩

abbrev nBuf : Space → Nat
  | .hbm => 94
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S3x1024, .f32⟩
  | .hbm, ⟨2, _⟩ => ⟨S2048x2048, .bf16⟩
  | .hbm, ⟨3, _⟩ => ⟨S2048x3072, .bf16⟩
  | .hbm, ⟨4, _⟩ => ⟨S1x2048x3072, .bf16⟩
  | .hbm, ⟨5, _⟩ => ⟨S1x2048x3072, .f32⟩
  | .hbm, ⟨6, _⟩ => ⟨S1x2048x1024, .f32⟩
  | .hbm, ⟨7, _⟩ => ⟨S1x2048x1024, .f32⟩
  | .hbm, ⟨8, _⟩ => ⟨S1x2048x1024, .f32⟩
  | .hbm, ⟨9, _⟩ => ⟨S1x2048x1024, .f32⟩
  | .hbm, ⟨10, _⟩ => ⟨S_, .f32⟩
  | .hbm, ⟨11, _⟩ => ⟨S1x2x1024, .f32⟩
  | .hbm, ⟨12, _⟩ => ⟨S1x2050x1024, .f32⟩
  | .hbm, ⟨13, _⟩ => ⟨S_, .f32⟩
  | .hbm, ⟨14, _⟩ => ⟨S1x2x1024, .f32⟩
  | .hbm, ⟨15, _⟩ => ⟨S1x1024, .f32⟩
  | .hbm, ⟨16, _⟩ => ⟨S1024, .f32⟩
  | .hbm, ⟨17, _⟩ => ⟨S1x2048x1024, .f32⟩
  | .hbm, ⟨18, _⟩ => ⟨S1x1x1024, .f32⟩
  | .hbm, ⟨19, _⟩ => ⟨S1x2048x1024, .f32⟩
  | .hbm, ⟨20, _⟩ => ⟨S1x2048x1024, .f32⟩
  | .hbm, ⟨21, _⟩ => ⟨S1x1024, .f32⟩
  | .hbm, ⟨22, _⟩ => ⟨S1024, .f32⟩
  | .hbm, ⟨23, _⟩ => ⟨S1x2048x1024, .f32⟩
  | .hbm, ⟨24, _⟩ => ⟨S1x1x1024, .f32⟩
  | .hbm, ⟨25, _⟩ => ⟨S1x2048x1024, .f32⟩
  | .hbm, ⟨26, _⟩ => ⟨S1x2048x1024, .f32⟩
  | .hbm, ⟨27, _⟩ => ⟨S1x2048x1024, .f32⟩
  | .hbm, ⟨28, _⟩ => ⟨S1x1024, .f32⟩
  | .hbm, ⟨29, _⟩ => ⟨S1024, .f32⟩
  | .hbm, ⟨30, _⟩ => ⟨S1x2048x1024, .f32⟩
  | .hbm, ⟨31, _⟩ => ⟨S1x1x1024, .f32⟩
  | .hbm, ⟨32, _⟩ => ⟨S1x2048x1024, .f32⟩
  | .hbm, ⟨33, _⟩ => ⟨S1x2048x1024, .f32⟩
  | .hbm, ⟨34, _⟩ => ⟨S1x2048x1024, .f32⟩
  | .hbm, ⟨35, _⟩ => ⟨S1x2048x1024, .f32⟩
  | .hbm, ⟨36, _⟩ => ⟨S2048x1024, .bf16⟩
  | .hbm, ⟨37, _⟩ => ⟨S1x2048x1024, .bf16⟩
  | .hbm, ⟨38, _⟩ => ⟨S1x2048x1024, .f32⟩
  | .hbm, ⟨39, _⟩ => ⟨S1x2048x1024, .f32⟩
  | .hbm, ⟨40, _⟩ => ⟨S1x2048x1024, .f32⟩
  | .hbm, ⟨41, _⟩ => ⟨S1x2048x1024, .f32⟩
  | .hbm, ⟨42, _⟩ => ⟨S1x2048x1024, .f32⟩
  | .hbm, ⟨43, _⟩ => ⟨S1x2048x1024, .f32⟩
  | .hbm, ⟨44, _⟩ => ⟨S_, .f32⟩
  | .hbm, ⟨45, _⟩ => ⟨S1x1024, .f32⟩
  | .hbm, ⟨46, _⟩ => ⟨S1x1x1024, .f32⟩
  | .hbm, ⟨47, _⟩ => ⟨S_, .f32⟩
  | .hbm, ⟨48, _⟩ => ⟨S1024, .f32⟩
  | .hbm, ⟨49, _⟩ => ⟨S_, .f32⟩
  | .hbm, ⟨50, _⟩ => ⟨S1x2050x1024, .f32⟩
  | .hbm, ⟨51, _⟩ => ⟨S1x1024, .f32⟩
  | .hbm, ⟨52, _⟩ => ⟨S_, .f32⟩
  | .hbm, ⟨53, _⟩ => ⟨S3x1024, .f32⟩
  | .hbm, ⟨54, _⟩ => ⟨S1x2048x1024, .f32⟩
  | .hbm, ⟨55, _⟩ => ⟨S1x2048x1024, .f32⟩
  | .hbm, ⟨56, _⟩ => ⟨S1x2048x1024, .f32⟩
  | .hbm, ⟨57, _⟩ => ⟨S_, .f32⟩
  | .hbm, ⟨58, _⟩ => ⟨S1x1024, .f32⟩
  | .hbm, ⟨59, _⟩ => ⟨S1x1x1024, .f32⟩
  | .hbm, ⟨60, _⟩ => ⟨S_, .f32⟩
  | .hbm, ⟨61, _⟩ => ⟨S1024, .f32⟩
  | .hbm, ⟨62, _⟩ => ⟨S_, .f32⟩
  | .hbm, ⟨63, _⟩ => ⟨S1x2050x1024, .f32⟩
  | .hbm, ⟨64, _⟩ => ⟨S1x2050x1024, .f32⟩
  | .hbm, ⟨65, _⟩ => ⟨S1x1024, .f32⟩
  | .hbm, ⟨66, _⟩ => ⟨S_, .f32⟩
  | .hbm, ⟨67, _⟩ => ⟨S3x1024, .f32⟩
  | .hbm, ⟨68, _⟩ => ⟨S3x1024, .f32⟩
  | .hbm, ⟨69, _⟩ => ⟨S1x2048x1024, .f32⟩
  | .hbm, ⟨70, _⟩ => ⟨S1x2048x1024, .f32⟩
  | .hbm, ⟨71, _⟩ => ⟨S1x2048x1024, .f32⟩
  | .hbm, ⟨72, _⟩ => ⟨S_, .f32⟩
  | .hbm, ⟨73, _⟩ => ⟨S1x1024, .f32⟩
  | .hbm, ⟨74, _⟩ => ⟨S1x1x1024, .f32⟩
  | .hbm, ⟨75, _⟩ => ⟨S_, .f32⟩
  | .hbm, ⟨76, _⟩ => ⟨S1024, .f32⟩
  | .hbm, ⟨77, _⟩ => ⟨S_, .f32⟩
  | .hbm, ⟨78, _⟩ => ⟨S1x2050x1024, .f32⟩
  | .hbm, ⟨79, _⟩ => ⟨S1x2050x1024, .f32⟩
  | .hbm, ⟨80, _⟩ => ⟨S1x1024, .f32⟩
  | .hbm, ⟨81, _⟩ => ⟨S_, .f32⟩
  | .hbm, ⟨82, _⟩ => ⟨S3x1024, .f32⟩
  | .hbm, ⟨83, _⟩ => ⟨S3x1024, .f32⟩
  | .hbm, ⟨84, _⟩ => ⟨S1x2x1024, .f32⟩
  | .hbm, ⟨85, _⟩ => ⟨S1x2048x1024, .f32⟩
  | .hbm, ⟨86, _⟩ => ⟨S1x2048x1024, .f32⟩
  | .hbm, ⟨87, _⟩ => ⟨S1x2048x1024, .f32⟩
  | .hbm, ⟨88, _⟩ => ⟨S2048x1024, .f32⟩
  | .hbm, ⟨89, _⟩ => ⟨S2048x1024, .bf16⟩
  | .hbm, ⟨90, _⟩ => ⟨S2048x1024, .f32⟩
  | .hbm, ⟨91, _⟩ => ⟨S2048x1024, .bf16⟩
  | .hbm, ⟨92, _⟩ => ⟨S2048x1024, .f32⟩
  | .hbm, ⟨93, _⟩ => ⟨S2048x1024, .bf16⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_cst_1 : Ref sig .tc := ⟨.hbm, 44, rfl⟩
abbrev main_v39 : Ref sig .tc := ⟨.hbm, 45, rfl⟩
abbrev main_v40 : Ref sig .tc := ⟨.hbm, 46, rfl⟩
abbrev main_cst_2 : Ref sig .tc := ⟨.hbm, 47, rfl⟩
abbrev main_v41 : Ref sig .tc := ⟨.hbm, 48, rfl⟩
abbrev main_cst_3 : Ref sig .tc := ⟨.hbm, 49, rfl⟩
abbrev main_v42 : Ref sig .tc := ⟨.hbm, 50, rfl⟩
abbrev main_v43 : Ref sig .tc := ⟨.hbm, 51, rfl⟩
abbrev main_cst_4 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_5 : Ref sig .tc := ⟨.hbm, 57, rfl⟩
abbrev main_v48 : Ref sig .tc := ⟨.hbm, 58, rfl⟩
abbrev main_v49 : Ref sig .tc := ⟨.hbm, 59, rfl⟩
abbrev main_cst_6 : Ref sig .tc := ⟨.hbm, 60, rfl⟩
abbrev main_v50 : Ref sig .tc := ⟨.hbm, 61, rfl⟩
abbrev main_cst_7 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_8 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_9 : Ref sig .tc := ⟨.hbm, 72, rfl⟩
abbrev main_v59 : Ref sig .tc := ⟨.hbm, 73, rfl⟩
abbrev main_v60 : Ref sig .tc := ⟨.hbm, 74, rfl⟩
abbrev main_cst_10 : Ref sig .tc := ⟨.hbm, 75, rfl⟩
abbrev main_v61 : Ref sig .tc := ⟨.hbm, 76, rfl⟩
abbrev main_cst_11 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_12 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩

abbrev nD : Nat := 1
abbrev τ : Topo := Topo.v7x

variable {F : FTy → Type} [FloatOps F]
-- ==== Kernel5.lean ====
abbrev S2048x2048 : Shape := ⟨2, ![2048, 2048]⟩
abbrev S2048x6144 : Shape := ⟨2, ![2048, 6144]⟩
abbrev S2048x4096 : Shape := ⟨2, ![2048, 4096]⟩
abbrev S1024x2048 : Shape := ⟨2, ![1024, 2048]⟩
abbrev S2048x1024 : Shape := ⟨2, ![2048, 1024]⟩
abbrev S256x2048 : Shape := ⟨2, ![256, 2048]⟩
abbrev S2048x256 : Shape := ⟨2, ![2048, 256]⟩
abbrev S8x256x2048 : Shape := ⟨3, ![8, 256, 2048]⟩
abbrev S1x256x2048 : Shape := ⟨3, ![1, 256, 2048]⟩
abbrev S8x2048x768 : Shape := ⟨3, ![8, 2048, 768]⟩
abbrev S2048x768 : Shape := ⟨2, ![2048, 768]⟩
abbrev S1x1024x768 : Shape := ⟨3, ![1, 1024, 768]⟩
abbrev S1024x768 : Shape := ⟨2, ![1024, 768]⟩
abbrev S8x2048x512 : Shape := ⟨3, ![8, 2048, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 10
  | .vmem => 22
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .bf16⟩
  | .hbm, ⟨4, _⟩ => ⟨S2048x6144, .bf16⟩
  | .hbm, ⟨5, _⟩ => ⟨S2048x4096, .bf16⟩
  | .hbm, ⟨6, _⟩ => ⟨S2048x2048, .bf16⟩
  | .hbm, ⟨7, _⟩ => ⟨S8x256x2048, .bf16⟩
  | .hbm, ⟨8, _⟩ => ⟨S8x2048x768, .bf16⟩
  | .hbm, ⟨9, _⟩ => ⟨S8x2048x512, .bf16⟩
  | .local _ .vmem, ⟨0, _⟩ => ⟨S2048x2048, .bf16⟩
  | .local _ .vmem, ⟨1, _⟩ => ⟨S1024x2048, .bf16⟩
  | .local _ .vmem, ⟨2, _⟩ => ⟨S1024x2048, .bf16⟩
  | .local _ .vmem, ⟨3, _⟩ => ⟨S2048x1024, .bf16⟩
  | .local _ .vmem, ⟨4, _⟩ => ⟨S2048x1024, .bf16⟩
  | .local _ .vmem, ⟨5, _⟩ => ⟨S2048x256, .bf16⟩
  | .local _ .vmem, ⟨6, _⟩ => ⟨S2048x256, .bf16⟩
  | .local _ .vmem, ⟨7, _⟩ => ⟨S2048x2048, .bf16⟩
  | .local _ .vmem, ⟨8, _⟩ => ⟨S1x256x2048, .bf16⟩
  | .local _ .vmem, ⟨9, _⟩ => ⟨S1x256x2048, .bf16⟩
  | .local _ .vmem, ⟨10, _⟩ => ⟨S2048x1024, .bf16⟩
  | .local _ .vmem, ⟨11, _⟩ => ⟨S2048x1024, .bf16⟩
  | .local _ .vmem, ⟨12, _⟩ => ⟨S2048x768, .bf16⟩
  | .local _ .vmem, ⟨13, _⟩ => ⟨S2048x768, .bf16⟩
  | .local _ .vmem, ⟨14, _⟩ => ⟨S1x1024x768, .bf16⟩
  | .local _ .vmem, ⟨15, _⟩ => ⟨S1x1024x768, .bf16⟩
  | .local _ .vmem, ⟨16, _⟩ => ⟨S2048x1024, .bf16⟩
  | .local _ .vmem, ⟨17, _⟩ => ⟨S2048x1024, .bf16⟩
  | .local _ .vmem, ⟨18, _⟩ => ⟨S2048x512, .bf16⟩
  | .local _ .vmem, ⟨19, _⟩ => ⟨S2048x512, .bf16⟩
  | .local _ .vmem, ⟨20, _⟩ => ⟨S1x1024x512, .bf16⟩
  | .local _ .vmem, ⟨21, _⟩ => ⟨S1x1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c2_i32_3 : BitVec 32 := 2#32
  let v11 : BitVec 32 := Scalar.divsi arg0 c2_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c2_i32_3 c0_i32_6
  let v18 : BitVec 32 := Scalar.extui v17
  let c0_i32_7 : BitVec 32 := 0#32
  let v19 : BitVec 1 := Scalar.cmpi .slt c2_i32_3 c0_i32_7
  let v20 : BitVec 32 := Scalar.extui v19
  let v21 : BitVec 32 := Scalar.subi v18 v20
  let v22 : BitVec 1 := Scalar.cmpi .ne v16 v21
  let v23 : BitVec 32 := Scalar.remsi arg0 c2_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  let c0_i32_12 : BitVec 32 := 0#32
  ![v28.toNat, c0_i32_10.toNat, c0_i32_11.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 2 → Memref sig .tc .vmem S1x256x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev grid2 : Pipeline.Grid := ⟨3, ![2, 8, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c2_i32_3 : BitVec 32 := 2#32
  let v11 : BitVec 32 := Scalar.divsi arg1 c2_i32_3
  let c0_i32_4 : BitVec 32 := 0#32
  let v12 : BitVec 1 := Scalar.cmpi .sgt arg1 c0_i32_4
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c0_i32_6 : BitVec 32 := 0#32
  let v17 : BitVec 1 := Scalar.cmpi .sgt c2_i32_3 c0_i32_6
  let v18 : BitVec 32 := Scalar.extui v17
  let c0_i32_7 : BitVec 32 := 0#32
  let v19 : BitVec 1 := Scalar.cmpi .slt c2_i32_3 c0_i32_7
  let v20 : BitVec 32 := Scalar.extui v19
  let v21 : BitVec 32 := Scalar.subi v18 v20
  let v22 : BitVec 1 := Scalar.cmpi .ne v16 v21
  let v23 : BitVec 32 := Scalar.remsi arg1 c2_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, arg0.toNat, c0_i32_10.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x768 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024x768 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 8, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c2_i32_3 : BitVec 32 := 2#32
  let v11 : BitVec 32 := Scalar.divsi arg1 c2_i32_3
  let c0_i32_4 : BitVec 32 := 0#32
  let v12 : BitVec 1 := Scalar.cmpi .sgt arg1 c0_i32_4
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c0_i32_6 : BitVec 32 := 0#32
  let v17 : BitVec 1 := Scalar.cmpi .sgt c2_i32_3 c0_i32_6
  let v18 : BitVec 32 := Scalar.extui v17
  let c0_i32_7 : BitVec 32 := 0#32
  let v19 : BitVec 1 := Scalar.cmpi .slt c2_i32_3 c0_i32_7
  let v20 : BitVec 32 := Scalar.extui v19
  let v21 : BitVec 32 := Scalar.subi v18 v20
  let v22 : BitVec 1 := Scalar.cmpi .ne v16 v21
  let v23 : BitVec 32 := Scalar.remsi arg1 c2_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, arg0.toNat, c0_i32_10.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x1024x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== Reference5Ideal.lean ====
abbrev S2048x2048 : Shape := ⟨2, ![2048, 2048]⟩
abbrev S2048x6144 : Shape := ⟨2, ![2048, 6144]⟩
abbrev S2048x4096 : Shape := ⟨2, ![2048, 4096]⟩
abbrev S4x2x256x2048 : Shape := ⟨4, ![4, 2, 256, 2048]⟩
abbrev S2x4x256x2048 : Shape := ⟨4, ![2, 4, 256, 2048]⟩
abbrev S8x256x2048 : Shape := ⟨3, ![8, 256, 2048]⟩
abbrev S_ : Shape := ⟨0, ![]⟩
abbrev S6144x2048 : Shape := ⟨2, ![6144, 2048]⟩
abbrev S2048x4x2x768 : Shape := ⟨4, ![2048, 4, 2, 768]⟩
abbrev S2x4x2048x768 : Shape := ⟨4, ![2, 4, 2048, 768]⟩
abbrev S8x2048x768 : Shape := ⟨3, ![8, 2048, 768]⟩
abbrev S4096x2048 : Shape := ⟨2, ![4096, 2048]⟩
abbrev S2048x4x2x512 : Shape := ⟨4, ![2048, 4, 2, 512]⟩
abbrev S2x4x2048x512 : Shape := ⟨4, ![2, 4, 2048, 512]⟩
abbrev S8x2048x512 : Shape := ⟨3, ![8, 2048, 512]⟩

abbrev nBuf : Space → Nat
  | .hbm => 40
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .bf16⟩
  | .hbm, ⟨4, _⟩ => ⟨S2048x6144, .bf16⟩
  | .hbm, ⟨5, _⟩ => ⟨S2048x4096, .bf16⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .bf16⟩
  | .hbm, ⟨14, _⟩ => ⟨S4x2x256x2048, .f32⟩
  | .hbm, ⟨15, _⟩ => ⟨S2x4x256x2048, .f32⟩
  | .hbm, ⟨16, _⟩ => ⟨S8x256x2048, .f32⟩
  | .hbm, ⟨17, _⟩ => ⟨S8x256x2048, .bf16⟩
  | .hbm, ⟨18, _⟩ => ⟨S_, .f32⟩
  | .hbm, ⟨19, _⟩ => ⟨S2048x6144, .f32⟩
  | .hbm, ⟨20, _⟩ => ⟨S2048x2048, .f32⟩
  | .hbm, ⟨21, _⟩ => ⟨S2048x6144, .f32⟩
  | .hbm, ⟨22, _⟩ => ⟨S2048x6144, .f32⟩
  | .hbm, ⟨23, _⟩ => ⟨S6144x2048, .f32⟩
  | .hbm, ⟨24, _⟩ => ⟨S2048x6144, .f32⟩
  | .hbm, ⟨25, _⟩ => ⟨S2048x4x2x768, .f32⟩
  | .hbm, ⟨26, _⟩ => ⟨S2x4x2048x768, .f32⟩
  | .hbm, ⟨27, _⟩ => ⟨S8x2048x768, .f32⟩
  | .hbm, ⟨28, _⟩ => ⟨S8x2048x768, .bf16⟩
  | .hbm, ⟨29, _⟩ => ⟨S_, .f32⟩
  | .hbm, ⟨30, _⟩ => ⟨S2048x4096, .f32⟩
  | .hbm, ⟨31, _⟩ => ⟨S2048x2048, .f32⟩
  | .hbm, ⟨32, _⟩ => ⟨S2048x4096, .f32⟩
  | .hbm, ⟨33, _⟩ => ⟨S2048x4096, .f32⟩
  | .hbm, ⟨34, _⟩ => ⟨S4096x2048, .f32⟩
  | .hbm, ⟨35, _⟩ => ⟨S2048x4096, .f32⟩
  | .hbm, ⟨36, _⟩ => ⟨S2048x4x2x512, .f32⟩
  | .hbm, ⟨37, _⟩ => ⟨S2x4x2048x512, .f32⟩
  | .hbm, ⟨38, _⟩ => ⟨S8x2048x512, .f32⟩
  | .hbm, ⟨39, _⟩ => ⟨S8x2048x512, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Kernel6.lean ====
abbrev S2048x2048 : Shape := ⟨2, ![2048, 2048]⟩
abbrev S8x2048x768 : Shape := ⟨3, ![8, 2048, 768]⟩
abbrev S8x2048x512 : Shape := ⟨3, ![8, 2048, 512]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048x6144 : Shape := ⟨2, ![2048, 6144]⟩
abbrev S1x2048x768 : Shape := ⟨3, ![1, 2048, 768]⟩
abbrev S2048x768 : Shape := ⟨2, ![2048, 768]⟩
abbrev S1x2048x256 : Shape := ⟨3, ![1, 2048, 256]⟩
abbrev S2048x256 : Shape := ⟨2, ![2048, 256]⟩
abbrev S2048x4096 : Shape := ⟨2, ![2048, 4096]⟩
abbrev S1x2048x512 : Shape := ⟨3, ![1, 2048, 512]⟩
abbrev S2048x512 : Shape := ⟨2, ![2048, 512]⟩

abbrev nBuf : Space → Nat
  | .hbm => 12
  | .vmem => 20
  | .smem => 0
  | _ => 0

abbrev bufTy : (tb : Table) → Fin (tcTables nBuf tb) → BufTy
  | .hbm, ⟨0, _⟩ => ⟨S2048x2048, .bf16⟩
  | .hbm, ⟨1, _⟩ => ⟨S8x2048x768, .bf16⟩
  | .hbm, ⟨2, _⟩ => ⟨S8x2048x512, .bf16⟩
  | .hbm, ⟨3, _⟩ => ⟨S2048x2048, .bf16⟩
  | .hbm, ⟨4, _⟩ => ⟨S2048x2048, .bf16⟩
  | .hbm, ⟨5, _⟩ => ⟨S2048x2048, .f32⟩
  | .hbm, ⟨6, _⟩ => ⟨S2048, .f32⟩
  | .hbm, ⟨7, _⟩ => ⟨S1x2048, .f32⟩
  | .hbm, ⟨8, _⟩ => ⟨S2048x2048, .f32⟩
  | .hbm, ⟨9, _⟩ => ⟨S2048x2048, .bf16⟩
  | .hbm, ⟨10, _⟩ => ⟨S2048x6144, .bf16⟩
  | .hbm, ⟨11, _⟩ => ⟨S2048x4096, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S2048x2048, .bf16⟩
  | .local _ .vmem, ⟨11, _⟩ => ⟨S1x2048x768, .bf16⟩
  | .local _ .vmem, ⟨12, _⟩ => ⟨S1x2048x768, .bf16⟩
  | .local _ .vmem, ⟨13, _⟩ => ⟨S2048x768, .bf16⟩
  | .local _ .vmem, ⟨14, _⟩ => ⟨S2048x768, .bf16⟩
  | .local _ .vmem, ⟨15, _⟩ => ⟨S2048x2048, .bf16⟩
  | .local _ .vmem, ⟨16, _⟩ => ⟨S1x2048x512, .bf16⟩
  | .local _ .vmem, ⟨17, _⟩ => ⟨S1x2048x512, .bf16⟩
  | .local _ .vmem, ⟨18, _⟩ => ⟨S2048x512, .f32⟩
  | .local _ .vmem, ⟨19, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem1_0 : DmaSem sig := 11
abbrev cc1_sem1_1 : DmaSem sig := 12
abbrev cc1_sem2_0 : DmaSem sig := 13
abbrev cc1_sem2_1 : DmaSem sig := 14
abbrev cc2_sem0_0 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev grid1 : Pipeline.Grid := ⟨3, ![1, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S2048x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, false]

abbrev stage1_1 : Fin 2 → Memref sig .tc .vmem S1x2048x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, false]

abbrev stage1_2 : Fin 2 → Memref sig .tc .vmem S2048x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 8, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S2048x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, false]

abbrev stage2_1 : Fin 2 → Memref sig .tc .vmem S1x2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, false]

abbrev stage2_2 : Fin 2 → Memref sig .tc .vmem S2048x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== Reference6Ideal.lean ====
abbrev S2048x2048 : Shape := ⟨2, ![2048, 2048]⟩
abbrev S8x2048x768 : Shape := ⟨3, ![8, 2048, 768]⟩
abbrev S8x2048x512 : Shape := ⟨3, ![8, 2048, 512]⟩
abbrev S2048 : Shape := ⟨1, ![2048]⟩
abbrev S2048x8x768 : Shape := ⟨3, ![2048, 8, 768]⟩
abbrev S2048x6144 : Shape := ⟨2, ![2048, 6144]⟩
abbrev S2048x8x512 : Shape := ⟨3, ![2048, 8, 512]⟩
abbrev S2048x4096 : Shape := ⟨2, ![2048, 4096]⟩
abbrev S_ : Shape := ⟨0, ![]⟩
abbrev S2048x1 : Shape := ⟨2, ![2048, 1]⟩
abbrev S1x2048 : Shape := ⟨2, ![1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x768, .bf16⟩
  | .hbm, ⟨2, _⟩ => ⟨S8x2048x512, .bf16⟩
  | .hbm, ⟨3, _⟩ => ⟨S2048x2048, .bf16⟩
  | .hbm, ⟨4, _⟩ => ⟨S2048x2048, .bf16⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S8x2048x768, .f32⟩
  | .hbm, ⟨13, _⟩ => ⟨S2048x8x768, .f32⟩
  | .hbm, ⟨14, _⟩ => ⟨S2048x6144, .f32⟩
  | .hbm, ⟨15, _⟩ => ⟨S2048x6144, .f32⟩
  | .hbm, ⟨16, _⟩ => ⟨S2048x6144, .bf16⟩
  | .hbm, ⟨17, _⟩ => ⟨S2048x2048, .f32⟩
  | .hbm, ⟨18, _⟩ => ⟨S8x2048x512, .f32⟩
  | .hbm, ⟨19, _⟩ => ⟨S2048x8x512, .f32⟩
  | .hbm, ⟨20, _⟩ => ⟨S2048x4096, .f32⟩
  | .hbm, ⟨21, _⟩ => ⟨S2048x4096, .f32⟩
  | .hbm, ⟨22, _⟩ => ⟨S2048x2048, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S1x2048, .f32⟩
  | .hbm, ⟨36, _⟩ => ⟨S2048x2048, .f32⟩
  | .hbm, ⟨37, _⟩ => ⟨S2048x2048, .f32⟩
  | .hbm, ⟨38, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Kernel7.lean ====
abbrev S8x2048x704 : Shape := ⟨3, ![8, 2048, 704]⟩
abbrev S8x704x2048 : Shape := ⟨3, ![8, 704, 2048]⟩
abbrev S2048x2048 : Shape := ⟨2, ![2048, 2048]⟩
abbrev S2048 : Shape := ⟨1, ![2048]⟩
abbrev S1x2048 : Shape := ⟨2, ![1, 2048]⟩
abbrev S1x512x704 : Shape := ⟨3, ![1, 512, 704]⟩
abbrev S1x704x2048 : Shape := ⟨3, ![1, 704, 2048]⟩
abbrev S512x2048 : Shape := ⟨2, ![512, 2048]⟩
abbrev S512x704 : Shape := ⟨2, ![512, 704]⟩
abbrev S704x2048 : Shape := ⟨2, ![704, 2048]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S8x2048x704, .bf16⟩
  | .hbm, ⟨1, _⟩ => ⟨S8x704x2048, .bf16⟩
  | .hbm, ⟨2, _⟩ => ⟨S2048x2048, .f32⟩
  | .hbm, ⟨3, _⟩ => ⟨S2048, .f32⟩
  | .hbm, ⟨4, _⟩ => ⟨S1x2048, .f32⟩
  | .hbm, ⟨5, _⟩ => ⟨S2048x2048, .f32⟩
  | .hbm, ⟨6, _⟩ => ⟨S2048x2048, .bf16⟩
  | .local _ .vmem, ⟨0, _⟩ => ⟨S1x512x704, .bf16⟩
  | .local _ .vmem, ⟨1, _⟩ => ⟨S1x512x704, .bf16⟩
  | .local _ .vmem, ⟨2, _⟩ => ⟨S1x704x2048, .bf16⟩
  | .local _ .vmem, ⟨3, _⟩ => ⟨S1x704x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== Reference7Ideal.lean ====
abbrev S8x2048x704 : Shape := ⟨3, ![8, 2048, 704]⟩
abbrev S8x704x2048 : Shape := ⟨3, ![8, 704, 2048]⟩
abbrev S2048x2048 : Shape := ⟨2, ![2048, 2048]⟩
abbrev S2048 : Shape := ⟨1, ![2048]⟩
abbrev S2048x8x704 : Shape := ⟨3, ![2048, 8, 704]⟩
abbrev S2048x5632 : Shape := ⟨2, ![2048, 5632]⟩
abbrev S5632x2048 : Shape := ⟨2, ![5632, 2048]⟩
abbrev S_ : Shape := ⟨0, ![]⟩
abbrev S2048x1 : Shape := ⟨2, ![2048, 1]⟩
abbrev S1x2048 : Shape := ⟨2, ![1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S8x2048x704, .bf16⟩
  | .hbm, ⟨1, _⟩ => ⟨S8x704x2048, .bf16⟩
  | .hbm, ⟨2, _⟩ => ⟨S2048x2048, .f32⟩
  | .hbm, ⟨3, _⟩ => ⟨S2048, .f32⟩
  | .hbm, ⟨4, _⟩ => ⟨S8x2048x704, .f32⟩
  | .hbm, ⟨5, _⟩ => ⟨S2048x8x704, .f32⟩
  | .hbm, ⟨6, _⟩ => ⟨S2048x5632, .f32⟩
  | .hbm, ⟨7, _⟩ => ⟨S8x704x2048, .f32⟩
  | .hbm, ⟨8, _⟩ => ⟨S5632x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x2048, .f32⟩
  | .hbm, ⟨23, _⟩ => ⟨S2048x2048, .f32⟩
  | .hbm, ⟨24, _⟩ => ⟨S1x2048, .f32⟩
  | .hbm, ⟨25, _⟩ => ⟨S2048x2048, .f32⟩
  | .hbm, ⟨26, _⟩ => ⟨S2048x2048, .f32⟩
  | .hbm, ⟨27, _⟩ => ⟨S2048x2048, .bf16⟩
  | _, _ => ⟨S8x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel8.lean ====
abbrev S2048x6144 : Shape := ⟨2, ![2048, 6144]⟩
abbrev S8x2048x768 : Shape := ⟨3, ![8, 2048, 768]⟩
abbrev S2048x2048 : Shape := ⟨2, ![2048, 2048]⟩
abbrev S2048 : Shape := ⟨1, ![2048]⟩
abbrev S1x2048 : Shape := ⟨2, ![1, 2048]⟩
abbrev S4x1x2048 : Shape := ⟨3, ![4, 1, 2048]⟩
abbrev S512x768 : Shape := ⟨2, ![512, 768]⟩
abbrev S1x2048x768 : Shape := ⟨3, ![1, 2048, 768]⟩
abbrev S512x2048 : Shape := ⟨2, ![512, 2048]⟩
abbrev S1x1x2048 : Shape := ⟨3, ![1, 1, 2048]⟩
abbrev S2048x768 : Shape := ⟨2, ![2048, 768]⟩
abbrev S512 : Shape := ⟨1, ![512]⟩
abbrev S512x1 : Shape := ⟨2, ![512, 1]⟩
abbrev S_ : Shape := ⟨0, ![]⟩

abbrev nBuf : Space → Nat
  | .hbm => 12
  | .vmem => 16
  | .smem => 0
  | _ => 0

abbrev bufTy : (tb : Table) → Fin (tcTables nBuf tb) → BufTy
  | .hbm, ⟨0, _⟩ => ⟨S2048x6144, .bf16⟩
  | .hbm, ⟨1, _⟩ => ⟨S8x2048x768, .bf16⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S1x2048, .f32⟩
  | .hbm, ⟨6, _⟩ => ⟨S2048x2048, .f32⟩
  | .hbm, ⟨7, _⟩ => ⟨S2048x2048, .bf16⟩
  | .hbm, ⟨8, _⟩ => ⟨S4x1x2048, .f32⟩
  | .hbm, ⟨9, _⟩ => ⟨S_, .f32⟩
  | .hbm, ⟨10, _⟩ => ⟨S1x2048, .f32⟩
  | .hbm, ⟨11, _⟩ => ⟨S2048, .f32⟩
  | .local _ .vmem, ⟨0, _⟩ => ⟨S512x768, .bf16⟩
  | .local _ .vmem, ⟨1, _⟩ => ⟨S512x768, .bf16⟩
  | .local _ .vmem, ⟨2, _⟩ => ⟨S1x2048x768, .bf16⟩
  | .local _ .vmem, ⟨3, _⟩ => ⟨S1x2048x768, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S1x1x2048, .f32⟩
  | .local _ .vmem, ⟨14, _⟩ => ⟨S1x1x2048, .f32⟩
  | .local _ .vmem, ⟨15, _⟩ => ⟨S512x2048, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== Reference8Ideal.lean ====
abbrev S2048x6144 : Shape := ⟨2, ![2048, 6144]⟩
abbrev S8x2048x768 : Shape := ⟨3, ![8, 2048, 768]⟩
abbrev S2048x2048 : Shape := ⟨2, ![2048, 2048]⟩
abbrev S2048 : Shape := ⟨1, ![2048]⟩
abbrev S2048x8x768 : Shape := ⟨3, ![2048, 8, 768]⟩
abbrev S_ : Shape := ⟨0, ![]⟩
abbrev S2048x1 : Shape := ⟨2, ![2048, 1]⟩
abbrev S1x2048 : Shape := ⟨2, ![1, 2048]⟩

abbrev nBuf : Space → Nat
  | .hbm => 59
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S8x2048x768, .bf16⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S8x2048x768, .f32⟩
  | .hbm, ⟨6, _⟩ => ⟨S2048x8x768, .f32⟩
  | .hbm, ⟨7, _⟩ => ⟨S2048x6144, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x2048, .f32⟩
  | .hbm, ⟨24, _⟩ => ⟨S2048x2048, .f32⟩
  | .hbm, ⟨25, _⟩ => ⟨S1x2048, .f32⟩
  | .hbm, ⟨26, _⟩ => ⟨S2048x2048, .f32⟩
  | .hbm, ⟨27, _⟩ => ⟨S2048x2048, .f32⟩
  | .hbm, ⟨28, _⟩ => ⟨S2048x6144, .f32⟩
  | .hbm, ⟨29, _⟩ => ⟨S2048x6144, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048, .f32⟩
  | .hbm, ⟨34, _⟩ => ⟨S1x2048, .f32⟩
  | .hbm, ⟨35, _⟩ => ⟨S2048x2048, .f32⟩
  | .hbm, ⟨36, _⟩ => ⟨S2048x2048, .f32⟩
  | .hbm, ⟨37, _⟩ => ⟨S_, .f32⟩
  | .hbm, ⟨38, _⟩ => ⟨S2048, .f32⟩
  | .hbm, ⟨39, _⟩ => ⟨S2048x2048, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S2048x2048, .f32⟩
  | .hbm, ⟨44, _⟩ => ⟨S2048x2048, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S_, .f32⟩
  | .hbm, ⟨50, _⟩ => ⟨S2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S2048x2048, .f32⟩
  | .hbm, ⟨57, _⟩ => ⟨S2048x2048, .f32⟩
  | .hbm, ⟨58, _⟩ => ⟨S2048x2048, .bf16⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kernel9.lean ====
abbrev S2048x4096 : Shape := ⟨2, ![2048, 4096]⟩
abbrev S8x2048x512 : Shape := ⟨3, ![8, 2048, 512]⟩
abbrev S2048x2048 : Shape := ⟨2, ![2048, 2048]⟩
abbrev S2048 : Shape := ⟨1, ![2048]⟩
abbrev S1x2048 : Shape := ⟨2, ![1, 2048]⟩
abbrev S4x1x2048 : Shape := ⟨3, ![4, 1, 2048]⟩
abbrev S512x512 : Shape := ⟨2, ![512, 512]⟩
abbrev S1x2048x512 : Shape := ⟨3, ![1, 2048, 512]⟩
abbrev S512x2048 : Shape := ⟨2, ![512, 2048]⟩
abbrev S1x1x2048 : Shape := ⟨3, ![1, 1, 2048]⟩
abbrev S2048x512 : Shape := ⟨2, ![2048, 512]⟩
abbrev S512 : Shape := ⟨1, ![512]⟩
abbrev S512x1 : Shape := ⟨2, ![512, 1]⟩
abbrev S_ : Shape := ⟨0, ![]⟩

abbrev nBuf : Space → Nat
  | .hbm => 12
  | .vmem => 16
  | .smem => 0
  | _ => 0

abbrev bufTy : (tb : Table) → Fin (tcTables nBuf tb) → BufTy
  | .hbm, ⟨0, _⟩ => ⟨S2048x4096, .bf16⟩
  | .hbm, ⟨1, _⟩ => ⟨S8x2048x512, .bf16⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S1x2048, .f32⟩
  | .hbm, ⟨6, _⟩ => ⟨S2048x2048, .f32⟩
  | .hbm, ⟨7, _⟩ => ⟨S2048x2048, .bf16⟩
  | .hbm, ⟨8, _⟩ => ⟨S4x1x2048, .f32⟩
  | .hbm, ⟨9, _⟩ => ⟨S_, .f32⟩
  | .hbm, ⟨10, _⟩ => ⟨S1x2048, .f32⟩
  | .hbm, ⟨11, _⟩ => ⟨S2048, .f32⟩
  | .local _ .vmem, ⟨0, _⟩ => ⟨S512x512, .bf16⟩
  | .local _ .vmem, ⟨1, _⟩ => ⟨S512x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S1x1x2048, .f32⟩
  | .local _ .vmem, ⟨14, _⟩ => ⟨S1x1x2048, .f32⟩
  | .local _ .vmem, ⟨15, _⟩ => ⟨S512x2048, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== Reference9Ideal.lean ====
abbrev S2048x4096 : Shape := ⟨2, ![2048, 4096]⟩
abbrev S8x2048x512 : Shape := ⟨3, ![8, 2048, 512]⟩
abbrev S2048x2048 : Shape := ⟨2, ![2048, 2048]⟩
abbrev S2048 : Shape := ⟨1, ![2048]⟩
abbrev S2048x8x512 : Shape := ⟨3, ![2048, 8, 512]⟩
abbrev S_ : Shape := ⟨0, ![]⟩
abbrev S2048x1 : Shape := ⟨2, ![2048, 1]⟩
abbrev S1x2048 : Shape := ⟨2, ![1, 2048]⟩

abbrev nBuf : Space → Nat
  | .hbm => 59
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S8x2048x512, .bf16⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S8x2048x512, .f32⟩
  | .hbm, ⟨6, _⟩ => ⟨S2048x8x512, .f32⟩
  | .hbm, ⟨7, _⟩ => ⟨S2048x4096, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x2048, .f32⟩
  | .hbm, ⟨24, _⟩ => ⟨S2048x2048, .f32⟩
  | .hbm, ⟨25, _⟩ => ⟨S1x2048, .f32⟩
  | .hbm, ⟨26, _⟩ => ⟨S2048x2048, .f32⟩
  | .hbm, ⟨27, _⟩ => ⟨S2048x2048, .f32⟩
  | .hbm, ⟨28, _⟩ => ⟨S2048x4096, .f32⟩
  | .hbm, ⟨29, _⟩ => ⟨S2048x4096, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048, .f32⟩
  | .hbm, ⟨34, _⟩ => ⟨S1x2048, .f32⟩
  | .hbm, ⟨35, _⟩ => ⟨S2048x2048, .f32⟩
  | .hbm, ⟨36, _⟩ => ⟨S2048x2048, .f32⟩
  | .hbm, ⟨37, _⟩ => ⟨S_, .f32⟩
  | .hbm, ⟨38, _⟩ => ⟨S2048, .f32⟩
  | .hbm, ⟨39, _⟩ => ⟨S2048x2048, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S2048x2048, .f32⟩
  | .hbm, ⟨44, _⟩ => ⟨S2048x2048, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S_, .f32⟩
  | .hbm, ⟨50, _⟩ => ⟨S2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S2048x2048, .f32⟩
  | .hbm, ⟨57, _⟩ => ⟨S2048x2048, .f32⟩
  | .hbm, ⟨58, _⟩ => ⟨S2048x2048, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Proof.AttnLoop.lean ====
/- The loop of the attention's backward kernel, read as arrays: what one trip makes of the four buffers that it writes, what sixteen trips make of them, and the exit
   of the loop from which the rest of the body runs. -/
module

public import proofs.«01_k».proof.Proof.Gen.KernelIdeal.Frame.Runs
public import Idealize.ShloMosaic.Lib.VecWindow

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- The 128 rows of a 2048-row array that trip `k` reads. -/
def rowsOf (k : Fin k0_t1_loop.trips) (Q : Vec F S2048x128 .bf16) : Vec F S128x128 .bf16 :=
  VecWindow.window Q (k0_off1 k) S128x128.size (k0_off1_inb k)

/-- The 640-row window of a padded 2560-row array that trip `k` reads. -/
def bandOf {e : EltTy} (k : Fin k0_t1_loop.trips) (K : Vec F S2560x128 e) : Vec F S640x128 e :=
  VecWindow.window K (k0_off2 k) S640x128.size (k0_off2_inb k)

/-- The attention probabilities of trip `k`'s tile. -/
def probs (k : Fin k0_t1_loop.trips) (Q : Vec F S2048x128 .bf16) (K : Vec F S2560x128 .bf16) (T : Vec F S1x128x640 .f32) : FVec F S128x640 .f32 :=
  k0_pay8 0#32 1#32 k (rowsOf k Q) (bandOf k K) T

/-- The gradient of trip `k`'s scores. -/
def dscores (k : Fin k0_t1_loop.trips) (Q D : Vec F S2048x128 .bf16) (T : Vec F S1x128x640 .f32) (K V : Vec F S2560x128 .bf16) : FVec F S128x640 .f32 :=
  k0_pay9 0#32 1#32 k (rowsOf k Q) (bandOf k K) T (rowsOf k D) (bandOf k V)

/-- What the trips before `n` make of a row of contents, one step after the other. -/
def iterTrips {α : Type} (f : Fin k0_t1_loop.trips → α → α) : ℕ → α → α
  | 0, a => a
  | n + 1, a => if h : n < k0_t1_loop.trips then f ⟨n, h⟩ (iterTrips f n a) else iterTrips f n a

/-- What trip `k` makes of the query gradient: its own 128 rows are written. -/
def stepDQ (Q D : Vec F S2048x128 .bf16) (T : Vec F S1x128x640 .f32) (K V : Vec F S2560x128 .bf16) (k : Fin k0_t1_loop.trips) (x : Vec F S2048x128 .bf16) : Vec F S2048x128 .bf16 :=
  VecWindow.put x (k0_off1 k) S128x128.size (k0_pay3 (bandOf k K) (dscores k Q D T K V))

/-- What trip `k` adds to the table gradient. -/
def stepDT (Q D : Vec F S2048x128 .bf16) (T : Vec F S1x128x640 .f32) (K V : Vec F S2560x128 .bf16) (k : Fin k0_t1_loop.trips) (x : Vec F S1x128x640 .f32) : Vec F S1x128x640 .f32 :=
  k0_pay1 (dscores k Q D T K V) x

/-- What trip `k` makes of the key gradient's sums: its window of 640 rows is added to. -/
def stepDK (Q D : Vec F S2048x128 .bf16) (T : Vec F S1x128x640 .f32) (K V : Vec F S2560x128 .bf16) (k : Fin k0_t1_loop.trips) (x : Vec F S2560x128 .f32) : Vec F S2560x128 .f32 :=
  VecWindow.put x (k0_off2 k) S640x128.size (k0_pay4 (rowsOf k Q) (dscores k Q D T K V) (bandOf k x))

/-- What trip `k` makes of the value gradient's sums: its window of 640 rows is added to. -/
def stepDV (Q D : Vec F S2048x128 .bf16) (T : Vec F S1x128x640 .f32) (K : Vec F S2560x128 .bf16) (k : Fin k0_t1_loop.trips) (x : Vec F S2560x128 .f32) : Vec F S2560x128 .f32 :=
  VecWindow.put x (k0_off2 k) S640x128.size (k0_pay5 (probs k Q K T) (rowsOf k D) (bandOf k x))

/-- One trip of the loop, read as arrays: what its stores leave in the four buffers that it writes. -/
theorem trip_reads (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x128x640 .f32) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S1x128x640 .f32) (harg9 : arg9.IsWhole) (arg10 : Memref sig .tc .vmem S2560x128 .bf16) (harg10 : arg10.IsWhole) (arg11 : Memref sig .tc .vmem S2560x128 .bf16) (harg11 : arg11.IsWhole) (arg12 : Memref sig .tc .vmem S2560x128 .f32) (harg12 : arg12.IsWhole) (arg13 : Memref sig .tc .vmem S2560x128 .f32) (harg13 : arg13.IsWhole) (X_arg1 : BufTy.Contents (Elt F) arg1.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty) (k : Fin k0_t1_loop.trips) (f_arg6 : BufTy.Contents (Elt F) arg6.view.ty) (f_arg9 : BufTy.Contents (Elt F) arg9.view.ty) (f_arg12 : BufTy.Contents (Elt F) arg12.view.ty) (f_arg13 : BufTy.Contents (Elt F) arg13.view.ty) :
    let L := tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 0#32 X_arg1 X_arg4 X_arg5 X_arg10 X_arg11 k f_arg6 f_arg9 f_arg12 f_arg13
    let Q := arg1.view.read (Elt F) X_arg1; let D := arg4.view.read (Elt F) X_arg4; let T := arg5.view.read (Elt F) X_arg5
    let K := arg10.view.read (Elt F) X_arg10; let V := arg11.view.read (Elt F) X_arg11
    arg6.view.read (Elt F) (arg6.view.writes (Elt F) f_arg6 L.1) = stepDQ Q D T K V k (arg6.view.read (Elt F) f_arg6)
    ∧ arg9.view.read (Elt F) (arg9.view.writes (Elt F) f_arg9 L.2.1) = stepDT Q D T K V k (arg9.view.read (Elt F) f_arg9)
    ∧ arg12.view.read (Elt F) (arg12.view.writes (Elt F) f_arg12 L.2.2.1) = stepDK Q D T K V k (arg12.view.read (Elt F) f_arg12)
    ∧ arg13.view.read (Elt F) (arg13.view.writes (Elt F) f_arg13 L.2.2.2) = stepDV Q D T K k (arg13.view.read (Elt F) f_arg13) := by
  intro L Q D T K V
  have hT : View.readAt (Elt F) arg5.view (Rect.unit ![0, 0, 0] S1x128x640.size inb_S1x128x640_S1x128x640_0_0_0).toLoadRect X_arg5 = T := View.readAt_full (s := S1x128x640) arg5.view X_arg5 _
  have hds : trip_k0_t1.sl.r_4 arg1 arg4 arg5 arg10 arg11 0#32 X_arg1 X_arg4 X_arg5 X_arg10 X_arg11 k = dscores k Q D T K V := by
    unfold trip_k0_t1.sl.r_4 dscores
    rw [hT]; rfl
  have hp : trip_k0_t1.sl.r_2 arg1 arg5 arg10 0#32 X_arg1 X_arg5 X_arg10 k = probs k Q K T := by
    unfold trip_k0_t1.sl.r_2 probs
    rw [hT]; rfl
  have hD : trip_k0_t1.sl.r_3 arg4 X_arg4 k = rowsOf k D := by unfold trip_k0_t1.sl.r_3; rfl
  have hQ : trip_k0_t1.sl.r arg1 X_arg1 k = rowsOf k Q := by unfold trip_k0_t1.sl.r; rfl
  have hK : trip_k0_t1.sl.r_1 arg10 X_arg10 k = bandOf k K := by unfold trip_k0_t1.sl.r_1; rfl
  have hG : trip_k0_t1.sl.r_5 arg9 f_arg9 = arg9.view.read (Elt F) f_arg9 := by
    unfold trip_k0_t1.sl.r_5; exact View.readAt_full (s := S1x128x640) arg9.view f_arg9 _
  refine ⟨?_, ?_, ?_, ?_⟩
  · unfold L tripL_k0_t1 trip_k0_t1
    dsimp only
    rw [hds, hK, View.read_writes_cons_put _ _ _ _ _ rfl]; rfl
  · unfold L tripL_k0_t1 trip_k0_t1
    dsimp only
    rw [hds, hG]; exact View.read_writes_full (s := S1x128x640) arg9.view f_arg9 _ _ _
  · unfold L tripL_k0_t1 trip_k0_t1
    dsimp only
    rw [hds, hQ, View.read_writes_cons_put _ _ _ _ _ rfl]; rfl
  · unfold L tripL_k0_t1 trip_k0_t1
    dsimp only
    rw [hp, hD, View.read_writes_cons_put _ _ _ _ _ rfl]; rfl

/-- The loop's stores up to trip `n`, read as arrays. -/
theorem pieces_read (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x128x640 .f32) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S1x128x640 .f32) (harg9 : arg9.IsWhole) (arg10 : Memref sig .tc .vmem S2560x128 .bf16) (harg10 : arg10.IsWhole) (arg11 : Memref sig .tc .vmem S2560x128 .bf16) (harg11 : arg11.IsWhole) (arg12 : Memref sig .tc .vmem S2560x128 .f32) (harg12 : arg12.IsWhole) (arg13 : Memref sig .tc .vmem S2560x128 .f32) (harg13 : arg13.IsWhole) (X_arg1 : BufTy.Contents (Elt F) arg1.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty) (f_arg6 : BufTy.Contents (Elt F) arg6.view.ty) (f_arg9 : BufTy.Contents (Elt F) arg9.view.ty) (f_arg12 : BufTy.Contents (Elt F) arg12.view.ty) (f_arg13 : BufTy.Contents (Elt F) arg13.view.ty) (n : ℕ) (hn : n ≤ k0_t1_loop.trips) :
    let L := pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 0#32 X_arg1 X_arg4 X_arg5 X_arg10 X_arg11 f_arg6 f_arg9 f_arg12 f_arg13 n
    let Q := arg1.view.read (Elt F) X_arg1; let D := arg4.view.read (Elt F) X_arg4; let T := arg5.view.read (Elt F) X_arg5
    let K := arg10.view.read (Elt F) X_arg10; let V := arg11.view.read (Elt F) X_arg11
    arg6.view.read (Elt F) (arg6.view.writes (Elt F) f_arg6 L.1) = iterTrips (stepDQ Q D T K V) n (arg6.view.read (Elt F) f_arg6)
    ∧ arg9.view.read (Elt F) (arg9.view.writes (Elt F) f_arg9 L.2.1) = iterTrips (stepDT Q D T K V) n (arg9.view.read (Elt F) f_arg9)
    ∧ arg12.view.read (Elt F) (arg12.view.writes (Elt F) f_arg12 L.2.2.1) = iterTrips (stepDK Q D T K V) n (arg12.view.read (Elt F) f_arg12)
    ∧ arg13.view.read (Elt F) (arg13.view.writes (Elt F) f_arg13 L.2.2.2) = iterTrips (stepDV Q D T K) n (arg13.view.read (Elt F) f_arg13) := by
  induction n with
  | zero => exact ⟨rfl, rfl, rfl, rfl⟩
  | succ n ih =>
    obtain ⟨h6, h9, h12, h13⟩ := ih (Nat.le_of_succ_le hn)
    intro L Q D T K V
    have hL : L = _ := pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 0#32 X_arg1 X_arg4 X_arg5 X_arg10 X_arg11 f_arg6 f_arg9 f_arg12 f_arg13 ⟨n, hn⟩
    obtain ⟨g6, g9, g12, g13⟩ := trip_reads c i arg1 harg1 arg2 harg2 arg3 harg3 arg4 harg4 arg5 harg5 arg6 harg6 arg7 harg7 arg8 harg8 arg9 harg9 arg10 harg10 arg11 harg11 arg12 harg12 arg13 harg13 X_arg1 X_arg4 X_arg5 X_arg10 X_arg11 ⟨n, hn⟩ _ _ _ _
    rw [hL]
    simp only [View.writes_append, iterTrips, dif_pos (show n < k0_t1_loop.trips from hn)]
    exact ⟨g6.trans (congrArg _ h6), g9.trans (congrArg _ h9), g12.trans (congrArg _ h12), g13.trans (congrArg _ h13)⟩

/-- What the body's code after the loop starts from: the read buffers as they were, the written ones at the arrays that the sixteen trips leave. -/
instance loopExit (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x128x640 .f32) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S1x128x640 .f32) (harg9 : arg9.IsWhole) (arg10 : Memref sig .tc .vmem S2560x128 .bf16) (harg10 : arg10.IsWhole) (arg11 : Memref sig .tc .vmem S2560x128 .bf16) (harg11 : arg11.IsWhole) (arg12 : Memref sig .tc .vmem S2560x128 .f32) (harg12 : arg12.IsWhole) (arg13 : Memref sig .tc .vmem S2560x128 .f32) (harg13 : arg13.IsWhole) (E : Set ℕ) (X_arg1 : BufTy.Contents (Elt F) arg1.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty) (f_arg6 : BufTy.Contents (Elt F) arg6.view.ty) (f_arg9 : BufTy.Contents (Elt F) arg9.view.ty) (f_arg12 : BufTy.Contents (Elt F) arg12.view.ty) (f_arg13 : BufTy.Contents (Elt F) arg13.view.ty) :
    LoopExit (loopInv_k0_t1 (F := F) Variants.none c none E i arg1 harg1 arg2 harg2 arg3 harg3 arg4 harg4 arg5 harg5 arg6 harg6 arg7 harg7 arg8 harg8 arg9 harg9 arg10 harg10 arg11 harg11 arg12 harg12 arg13 harg13 0#32 X_arg1 X_arg4 X_arg5 X_arg10 X_arg11 f_arg6 f_arg9 f_arg12 f_arg13) where
  post _ :=
    iprop((arg1.view.loc (c : Thread nD τ) ↦[arg1.view.set]{fullShare} X_arg1) ∗ (arg4.view.loc (c : Thread nD τ) ↦[arg4.view.set]{fullShare} X_arg4)
      ∗ (arg5.view.loc (c : Thread nD τ) ↦[arg5.view.set]{fullShare} X_arg5) ∗ (arg10.view.loc (c : Thread nD τ) ↦[arg10.view.set]{fullShare} X_arg10)
      ∗ (arg11.view.loc (c : Thread nD τ) ↦[arg11.view.set]{fullShare} X_arg11)
      ∗ (arg6.view.loc (c : Thread nD τ) ↦[arg6.view.set]{fullShare} harg6.unread (iterTrips (stepDQ (arg1.view.read (Elt F) X_arg1) (arg4.view.read (Elt F) X_arg4) (arg5.view.read (Elt F) X_arg5) (arg10.view.read (Elt F) X_arg10) (arg11.view.read (Elt F) X_arg11)) 16 (arg6.view.read (Elt F) f_arg6)))
      ∗ (arg9.view.loc (c : Thread nD τ) ↦[arg9.view.set]{fullShare} harg9.unread (iterTrips (stepDT (arg1.view.read (Elt F) X_arg1) (arg4.view.read (Elt F) X_arg4) (arg5.view.read (Elt F) X_arg5) (arg10.view.read (Elt F) X_arg10) (arg11.view.read (Elt F) X_arg11)) 16 (arg9.view.read (Elt F) f_arg9)))
      ∗ (arg12.view.loc (c : Thread nD τ) ↦[arg12.view.set]{fullShare} harg12.unread (iterTrips (stepDK (arg1.view.read (Elt F) X_arg1) (arg4.view.read (Elt F) X_arg4) (arg5.view.read (Elt F) X_arg5) (arg10.view.read (Elt F) X_arg10) (arg11.view.read (Elt F) X_arg11)) 16 (arg12.view.read (Elt F) f_arg12)))
      ∗ (arg13.view.loc (c : Thread nD τ) ↦[arg13.view.set]{fullShare} harg13.unread (iterTrips (stepDV (arg1.view.read (Elt F) X_arg1) (arg4.view.read (Elt F) X_arg4) (arg5.view.read (Elt F) X_arg5) (arg10.view.read (Elt F) X_arg10)) 16 (arg13.view.read (Elt F) f_arg13))))
  exit _ := by
    have h16 : Scf.trips k0_t1_loop.lb k0_t1_loop.ub k0_t1_loop.st = 16 := by decide
    show inv_k0_t1 (F := F) Variants.none c none i arg1 harg1 arg2 harg2 arg3 harg3 arg4 harg4 arg5 harg5 arg6 harg6 arg7 harg7 arg8 harg8 arg9 harg9 arg10 harg10 arg11 harg11 arg12 harg12 arg13 harg13 0#32 X_arg1 X_arg4 X_arg5 X_arg10 X_arg11 f_arg6 f_arg9 f_arg12 f_arg13 (Scf.trips k0_t1_loop.lb k0_t1_loop.ub k0_t1_loop.st) _ ⊢ _
    rw [h16]
    obtain ⟨g6, g9, g12, g13⟩ := pieces_read c i arg1 harg1 arg2 harg2 arg3 harg3 arg4 harg4 arg5 harg5 arg6 harg6 arg7 harg7 arg8 harg8 arg9 harg9 arg10 harg10 arg11 harg11 arg12 harg12 arg13 harg13 X_arg1 X_arg4 X_arg5 X_arg10 X_arg11 f_arg6 f_arg9 f_arg12 f_arg13 16 (by decide)
    iintro ⟨H1, H4, H5, H10, H11, ⟨%p6, H6, %h6⟩, ⟨%p9, H9, %h9⟩, ⟨%p12, H12, %h12⟩, ⟨%p13, H13, %h13⟩⟩
    rw [← h6] at g6; rw [← h9] at g9; rw [← h12] at g12; rw [← h13] at g13
    obtain rfl := harg6.eq_unread g6; obtain rfl := harg9.eq_unread g9; obtain rfl := harg12.eq_unread g12; obtain rfl := harg13.eq_unread g13
    isplitl [H1]; · iexact H1
    isplitl [H4]; · iexact H4
    isplitl [H5]; · iexact H5
    isplitl [H10]; · iexact H10
    isplitl [H11]; · iexact H11
    isplitl [H6]; · iexact H6
    isplitl [H9]; · iexact H9
    isplitl [H12]; · iexact H12
    iexact H13

end Cert.KernelIdeal.Attn
-- ==== Proof.AttnBody.lean ====
/- One point of the attention's backward kernel: what its body leaves in the four blocks that it writes, as functions of the five blocks that it reads. -/
module

public import proofs.«01_k».proof.Proof.Gen.KernelIdeal.Frame.Runs
public import proofs.«01_k».proof.Proof.AttnLoop
public import Idealize.ShloMosaic.Lib.Pipeline.Value

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- Trip `k` reads the rows from `128 k`. -/
theorem off1_eq : ∀ k : Fin k0_t1_loop.trips, k0_off1 k = ![128 * k.val, 0] := by decide +kernel

/-- Trip `k`'s window begins at the padded row `128 k`. -/
theorem off2_eq : ∀ k : Fin k0_t1_loop.trips, k0_off2 k = ![128 * k.val, 0] := by decide +kernel

/-- A head's keys or values behind 512 rows of zeros. -/
def padded (x : Vec F S2048x128 .bf16) : Vec F S2560x128 .bf16 :=
  VecWindow.put (constant S2560x128 .bf16 0x0000#16) ![512, 0] S2048x128.size x

/-- The two stores that fill a padded buffer, over any contents. -/
theorem put_pad (a : Vec F S2560x128 .bf16) (z : Vec F S512x128 .bf16) (hz : ∀ y, z y = Scalar.ofBits .bf16 0x0000#16) (x : Vec F S2048x128 .bf16) :
    VecWindow.put (VecWindow.put a ![0, 0] S512x128.size z) ![512, 0] S2048x128.size x = padded x := by
  funext y
  unfold padded VecWindow.put
  by_cases h : ∀ b, (![512, 0] : Fin 2 → ℕ) b ≤ (y b).val ∧ (y b).val < (![512, 0] : Fin 2 → ℕ) b + S2048x128.size b
  · rw [dif_pos h, dif_pos h]
  · rw [dif_neg h, dif_neg h]
    have h' : ∀ b, (![0, 0] : Fin 2 → ℕ) b ≤ (y b).val ∧ (y b).val < (![0, 0] : Fin 2 → ℕ) b + S512x128.size b := by
      have h0 : (y 0).val < 2560 := (y 0).isLt
      have h1 : (y 1).val < 128 := (y 1).isLt
      have hlt : (y 0).val < 512 := by
        by_contra hc
        apply h
        intro b
        match b with
        | 0 => show 512 ≤ (y 0).val ∧ (y 0).val < 512 + 2048; omega
        | 1 => show 0 ≤ (y 1).val ∧ (y 1).val < 0 + 128; omega
      intro b
      match b with
      | 0 => show 0 ≤ (y 0).val ∧ (y 0).val < 0 + 512; omega
      | 1 => show 0 ≤ (y 1).val ∧ (y 1).val < 0 + 128; omega
    rw [dif_pos h', hz]
    rfl

/-- After `n` trips the first `128 n` rows of the query gradient don't depend on what was there before. -/
theorem iter_dq_indep (Q D : Vec F S2048x128 .bf16) (T : Vec F S1x128x640 .f32) (K V : Vec F S2560x128 .bf16) (a b : Vec F S2048x128 .bf16)
    (n : ℕ) (hn : n ≤ 16) (y : S2048x128.Idx) (hy : (y 0).val < 128 * n) :
    iterTrips (stepDQ Q D T K V) n a y = iterTrips (stepDQ Q D T K V) n b y := by
  induction n with
  | zero => omega
  | succ n ih =>
    have ht : n < k0_t1_loop.trips := Nat.lt_of_lt_of_le (Nat.lt_of_succ_le hn) (by decide)
    simp only [iterTrips, dif_pos ht]
    unfold stepDQ VecWindow.put
    by_cases h : ∀ b, k0_off1 ⟨n, ht⟩ b ≤ (y b).val ∧ (y b).val < k0_off1 ⟨n, ht⟩ b + S128x128.size b
    · rw [dif_pos h, dif_pos h]
    · rw [dif_neg h, dif_neg h]
      refine ih (Nat.le_of_succ_le hn) ?_
      by_contra hc
      apply h
      rw [off1_eq]
      have h1 : (y 1).val < 128 := (y 1).isLt
      intro b
      match b with
      | 0 => show 128 * n ≤ (y 0).val ∧ (y 0).val < 128 * n + 128; omega
      | 1 => show 0 ≤ (y 1).val ∧ (y 1).val < 0 + 128; omega

/-- The query gradient of one head: queries `x0`, keys `x1`, values `x2`, upstream gradient `x3`, bias table `x4`. -/
def gradQ (x0 x1 x2 x3 : Vec F S2048x128 .bf16) (x4 : Vec F S1x128x640 .f32) : Vec F S2048x128 .bf16 :=
  iterTrips (stepDQ x0 x3 x4 (padded x1) (padded x2)) 16 x0

/-- The key gradient of one head. -/
def gradK (x0 x1 x2 x3 : Vec F S2048x128 .bf16) (x4 : Vec F S1x128x640 .f32) : Vec F S2048x128 .bf16 :=
  k0_pay6 (VecWindow.window (iterTrips (stepDK x0 x3 x4 (padded x1) (padded x2)) 16 k0_pay15) ![512, 0] S2048x128.size inb_S2560x128_S2048x128_512_0)

/-- The value gradient of one head. -/
def gradV (x0 x1 x3 : Vec F S2048x128 .bf16) (x4 : Vec F S1x128x640 .f32) : Vec F S2048x128 .bf16 :=
  k0_pay7 (VecWindow.window (iterTrips (stepDV x0 x3 x4 (padded x1)) 16 k0_pay16) ![512, 0] S2048x128.size inb_S2560x128_S2048x128_512_0)

/-- The gradient of one head's bias table. -/
def gradT (x0 x1 x2 x3 : Vec F S2048x128 .bf16) (x4 : Vec F S1x128x640 .f32) : Vec F S1x128x640 .f32 :=
  iterTrips (stepDT x0 x3 x4 (padded x1) (padded x2)) 16 k0_pay17

/-- The padding above the keys is zero, -/
theorem pay11_eq (y) : (k0_pay11 (F := F)) y = Scalar.ofBits .bf16 0x0000#16 := by
  unfold k0_pay11 k0_pay10; rfl

/-- and so is the padding above the values. -/
theorem pay12_eq (y) : (k0_pay12 (F := F)) y = Scalar.ofBits .bf16 0x0000#16 := by
  unfold k0_pay12 k0_pay10; rfl

/-- The keys are stored as they are read, -/
theorem pay13_eq (x : Vec F S2048x128 .bf16) : k0_pay13 x = x := by
  unfold k0_pay13; exact shapeCast_self _ _

/-- and so are the values. -/
theorem pay14_eq (x : Vec F S2048x128 .bf16) : k0_pay14 x = x := by
  unfold k0_pay14; exact shapeCast_self _ _

set_option maxHeartbeats 1000000 in
/-- One point's body on whole buffers: the five blocks that it reads are unchanged, the four that it writes hold the gradients of those five. -/
theorem body_run (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x128x640 .f32) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S1x128x640 .f32) (harg9 : arg9.IsWhole) (arg10 : Memref sig .tc .vmem S2560x128 .bf16) (harg10 : arg10.IsWhole) (arg11 : Memref sig .tc .vmem S2560x128 .bf16) (harg11 : arg11.IsWhole) (arg12 : Memref sig .tc .vmem S2560x128 .f32) (harg12 : arg12.IsWhole) (arg13 : Memref sig .tc .vmem S2560x128 .f32) (harg13 : arg13.IsWhole)
    (x0 x1 x2 x3 : Vec F S2048x128 .bf16) (x4 : Vec F S1x128x640 .f32) (E : Set ℕ) (Φ : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (gradQ x0 x1 x2 x3 x4) ∗ owns (c : Thread nD τ) arg7 fullShare (gradK x0 x1 x2 x3 x4) ∗ owns (c : Thread nD τ) arg8 fullShare (gradV x0 x1 x3 x4) ∗ owns (c : Thread nD τ) arg9 fullShare (gradT x0 x1 x2 x3 x4) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ Φ ⟨⟩))
      ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13) Φ := by
  simp only [cc0_attn_bwd_eq_skeleton]; unfold cc0_attn_bwd_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, Hk⟩
  obtain rfl := harg1.eq_unread hf0; obtain rfl := harg2.eq_unread hf1; obtain rfl := harg3.eq_unread hf2; obtain rfl := harg4.eq_unread hf3; obtain rfl := harg5.eq_unread hf4
  sl_exec
  sl_step
  have hK : View.read (Elt F) arg10.view (arg10.view.writes (Elt F) arg10.view.junk (body_run.sl.HS0_2 c arg2 harg2 x1)) = padded x1 := by
    unfold body_run.sl.HS0_2
    rw [View.read_writes_cons_put _ _ _ _ _ rfl, View.read_writes_cons_put _ _ _ _ _ rfl, put_pad _ _ pay11_eq, pay13_eq]
    exact congrArg padded ((View.readAt_full (s := S2048x128) arg2.view _ _).trans hf1)
  have hV : View.read (Elt F) arg11.view (arg11.view.writes (Elt F) arg11.view.junk (body_run.sl.HS1_2 c arg3 harg3 x2)) = padded x2 := by
    unfold body_run.sl.HS1_2
    rw [View.read_writes_cons_put _ _ _ _ _ rfl, View.read_writes_cons_put _ _ _ _ _ rfl, put_pad _ _ pay12_eq, pay14_eq]
    exact congrArg padded ((View.readAt_full (s := S2048x128) arg3.view _ _).trans hf2)
  have h12 : View.read (Elt F) arg12.view (arg12.view.writes (Elt F) arg12.view.junk body_run.sl.HS2_1) = k0_pay15 := by
    unfold body_run.sl.HS2_1
    exact View.read_writes_full (s := S2560x128) arg12.view _ _ _ _
  have h13 : View.read (Elt F) arg13.view (arg13.view.writes (Elt F) arg13.view.junk body_run.sl.HS3_1) = k0_pay16 := by
    unfold body_run.sl.HS3_1
    exact View.read_writes_full (s := S2560x128) arg13.view _ _ _ _
  have h9 : View.read (Elt F) arg9.view (arg9.view.writes (Elt F) arg9.view.junk body_run.sl.H8_1) = k0_pay17 := by
    unfold body_run.sl.H8_1
    exact View.read_writes_full (s := S1x128x640) arg9.view _ _ _ _
  have hk : body_run.sl.v28 c arg1 harg1 arg2 harg2 arg3 harg3 arg4 harg4 arg5 harg5 arg10 arg11 arg12 harg12 x0 x1 x2 x3 x4
      = VecWindow.window (iterTrips (stepDK x0 x3 x4 (padded x1) (padded x2)) 16 k0_pay15) ![512, 0] S2048x128.size inb_S2560x128_S2048x128_512_0 := by
    unfold body_run.sl.v28
    rw [View.readAt_unit _ _ _ rfl inb_S2560x128_S2048x128_512_0, harg12.read_unread, hK, hV, h12, hf0, hf3, hf4]
  have hv : body_run.sl.v31 c arg1 harg1 arg2 harg2 arg4 harg4 arg5 harg5 arg10 arg13 harg13 x0 x1 x3 x4
      = VecWindow.window (iterTrips (stepDV x0 x3 x4 (padded x1)) 16 k0_pay16) ![512, 0] S2048x128.size inb_S2560x128_S2048x128_512_0 := by
    unfold body_run.sl.v31
    rw [View.readAt_unit _ _ _ rfl inb_S2560x128_S2048x128_512_0, harg13.read_unread, hK, h13, hf0, hf3, hf4]
  rw [hk, hv, hK, hV, h9, h12, h13, hf0, hf3, hf4]
  iapply Hk
  isplitl [HL0]
  · iexists _; isplitr; · ipureintro; exact harg1.read_unread _
    iexact HL0
  isplitl [H1]
  · iexists _; isplitr; · ipureintro; exact harg2.read_unread _
    iexact H1
  isplitl [H2]
  · iexists _; isplitr; · ipureintro; exact harg3.read_unread _
    iexact H2
  isplitl [HL1]
  · iexists _; isplitr; · ipureintro; exact harg4.read_unread _
    iexact HL1
  isplitl [HL2]
  · iexists _; isplitr; · ipureintro; exact harg5.read_unread _
    iexact HL2
  isplitl [HL5]
  · iexists _; isplitr; swap; · iexact HL5
    ipureintro
    rw [harg6.read_unread]
    funext y
    exact iter_dq_indep _ _ _ _ _ _ _ 16 le_rfl y (y 0).isLt
  isplitl [H6]
  · iexists _; isplitr; swap; · iexact H6
    ipureintro
    exact View.read_writes_full (s := S2048x128) arg7.view _ _ _ _
  isplitl [H7]
  · iexists _; isplitr; swap; · iexact H7
    ipureintro
    exact View.read_writes_full (s := S2048x128) arg8.view _ _ _ _
  isplitl [HL6]
  · iexists _; isplitr; swap; · iexact HL6
    ipureintro
    exact harg9.read_unread _
  isplitl [HL3]
  · iexists _, _; isplitr; swap; · iexact HL3
    ipureintro; rfl
  isplitl [HL4]
  · iexists _, _; isplitr; swap; · iexact HL4
    ipureintro; rfl
  isplitl [HL7]
  · iexists _, _; isplitr; swap; · iexact HL7
    ipureintro; rfl
  iexists _, _; isplitr; swap; · iexact HL8
  ipureintro; rfl
end Cert.KernelIdeal.Attn
-- ==== Proof.AttnFrame.lean ====
/- The attention's backward kernel over its eight heads: the pipeline's data, the body at every point, the run and the frame. -/
module

public import proofs.«01_k».proof.Proof.Gen.KernelIdeal.Frame.Runs
public import proofs.«01_k».proof.Proof.AttnBody
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The pipeline's proof data: the arrays as the region finds them; after the body at a point each input's buffer at its block and each output's at the gradient of
    that point's blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => gradQ (iblk m c 0 t) (iblk m c 1 t) (iblk m c 2 t) (iblk m c 3 t) (iblk m c 4 t)
    | ⟨6, _⟩ => gradK (iblk m c 0 t) (iblk m c 1 t) (iblk m c 2 t) (iblk m c 3 t) (iblk m c 4 t)
    | ⟨7, _⟩ => gradV (iblk m c 0 t) (iblk m c 1 t) (iblk m c 3 t) (iblk m c 4 t)
    | ⟨8, _⟩ => gradT (iblk m c 0 t) (iblk m c 1 t) (iblk m c 2 t) (iblk m c 3 t) (iblk m c 4 t)
  Φ _ := Pipeline.ΦA spec0 c
  q w := Pipeline.shareOf spec0 w
  owed _ := 0

/-- The arrays as the region finds them. -/
theorem A_eq (c : Dev nD) (w : Fin cfg0.W) : (dats m 0 c).A w = V m c (Pipeline.arrRef spec0 w) := by
  dsimp only [dats]

/-- After the body an input's buffer is at its block: the queries', -/
theorem after_0 (c : Dev nD) (t : Fin cfg0.N) : (dats m 0 c).after 0 t = iblk m c 0 t := by dsimp only [dats]
/-- the keys', -/
theorem after_1 (c : Dev nD) (t : Fin cfg0.N) : (dats m 0 c).after 1 t = iblk m c 1 t := by dsimp only [dats]
/-- the values', -/
theorem after_2 (c : Dev nD) (t : Fin cfg0.N) : (dats m 0 c).after 2 t = iblk m c 2 t := by dsimp only [dats]
/-- the cotangents' -/
theorem after_3 (c : Dev nD) (t : Fin cfg0.N) : (dats m 0 c).after 3 t = iblk m c 3 t := by dsimp only [dats]
/-- and the bias table's; -/
theorem after_4 (c : Dev nD) (t : Fin cfg0.N) : (dats m 0 c).after 4 t = iblk m c 4 t := by dsimp only [dats]
/-- an output's is at the gradient of the blocks: the queries', -/
theorem after_5 (c : Dev nD) (t : Fin cfg0.N) : (dats m 0 c).after 5 t = gradQ (iblk m c 0 t) (iblk m c 1 t) (iblk m c 2 t) (iblk m c 3 t) (iblk m c 4 t) := by dsimp only [dats]
/-- the keys', -/
theorem after_6 (c : Dev nD) (t : Fin cfg0.N) : (dats m 0 c).after 6 t = gradK (iblk m c 0 t) (iblk m c 1 t) (iblk m c 2 t) (iblk m c 3 t) (iblk m c 4 t) := by dsimp only [dats]
/-- the values' -/
theorem after_7 (c : Dev nD) (t : Fin cfg0.N) : (dats m 0 c).after 7 t = gradV (iblk m c 0 t) (iblk m c 1 t) (iblk m c 3 t) (iblk m c 4 t) := by dsimp only [dats]
/-- and the bias table's. -/
theorem after_8 (c : Dev nD) (t : Fin cfg0.N) : (dats m 0 c).after 8 t = gradT (iblk m c 0 t) (iblk m c 1 t) (iblk m c 2 t) (iblk m c 3 t) (iblk m c 4 t) := by dsimp only [dats]

/-- Before the body an input's buffer is at its block: the queries', -/
theorem before_0 (c : Dev nD) (t : Fin cfg0.N) (d) : (dats m 0 c).before 0 t d = iblk m c 0 t :=
  before0_0_of m (dats m 0 c) (A_eq m c 0) (after_0 m c) t d
/-- the keys', -/
theorem before_1 (c : Dev nD) (t : Fin cfg0.N) (d) : (dats m 0 c).before 1 t d = iblk m c 1 t :=
  before0_1_of m (dats m 0 c) (A_eq m c 1) (after_1 m c) t d
/-- the values', -/
theorem before_2 (c : Dev nD) (t : Fin cfg0.N) (d) : (dats m 0 c).before 2 t d = iblk m c 2 t :=
  before0_2_of m (dats m 0 c) (A_eq m c 2) (after_2 m c) t d
/-- the cotangents' -/
theorem before_3 (c : Dev nD) (t : Fin cfg0.N) (d) : (dats m 0 c).before 3 t d = iblk m c 3 t :=
  before0_3_of m (dats m 0 c) (A_eq m c 3) (after_3 m c) t d
/-- and the bias table's. -/
theorem before_4 (c : Dev nD) (t : Fin cfg0.N) (d) : (dats m 0 c).before 4 t d = iblk m c 4 t :=
  before0_4_of m (dats m 0 c) (A_eq m c 4) (after_4 m c) t d

/-- What the body at point `t` starts from, window by window. -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What it ends with. -/
def post (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

/-- The body at any point. -/
theorem body_at (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  rw [show (dats m 0 c).Φ t.castSucc = Pipeline.ΦA spec0 c from rfl, PhiA0_eq]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run c (grid0.coords t) _ _ _ _ _ _ _ _ _ _ _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [S0]; · iexact S0
  isplitl [S1]; · iexact S1
  isplitl [S2]; · iexact S2
  isplitl [S3]; · iexact S3
  iintro ⟨H0, H1, H2, H3, H4, H5, H6, H7, H8, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The table's row for the body, at point `t`. -/
theorem defs_row (t : Fin cfg0.N) : defs₀ (F := F) .tc cfg0.body (cfg0.bodyArgs t (cfg0.slots t)) = bodyAt0 t := by
  unfold defs₀; rw [Defs.onTc_tc]

/-- The pipeline's obligation for the body, at every point. -/
theorem body_all (c : Dev nD) : BodyObligation (dats (F := F) m 0 c) (defs₀ (F := F)) Variants.none () Set.univ := fun t => by
  rw [bigSep_W0, bigSep_W0, defs_row]
  exact triple_restated (body_at m c t) rfl .rfl fun _ => .rfl

set_option backward.isDefEq.respectTransparency.types false in
/-- The run: every array of the pipeline ends at what the blocks make of it, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_all m c).loose) (hq := fun _ _ _ => rfl)
    (howed := fun _ _ => rfl) (V := V m) (hmain := hmain m Variants.none) (hA := A_eq m) (hΦ := fun _ _ => rfl)

/-- The run, without the counters. -/
theorem run_arrays : θ_run defs (onTc (τ := τ) (main (F := F))) (s₀ m ρ) (Pipeline.FramePost cfgs (dats m) 0 (V m)) :=
  (θ_run defs _ _).mono (fun _ h => h.1) (run_quiescent m ρ)

/-- The frame: the arguments end as they began and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_arrays m ρ)) ((θ_run defs _ _).mono (fun _ h => h.2) (run_quiescent m ρ))

end Cert.KernelIdeal.Attn
-- ==== Proof.RoundedFrame.lean ====
/- The attention's backward kernel over rounded values: its program is the one with the named constant, where the name stands for
   the constant's bits, so that its frame is that program's. -/
module

public import proofs.«01_k».proof.Defs
public import proofs.«01_k».proof.Proof.Gen.Kernel
public import proofs.«01_k».proof.Proof.AttnFrame

@[expose] public section

set_option maxRecDepth 16384

noncomputable section

namespace Cert.Kernel.Attn

open Idealize.ShloMosaic Idealize.SL.Sem

/-- Every name read as the bits of the constant that it names. -/
abbrev bitsNamed (F : FTy → Type) [FloatOps F] : Named F := ⟨fun _ _ {φ} bits => Scalar.ofBits φ bits⟩

variable {F : FTy → Type} [FloatOps F]

variable (m : (ℓ : Loc nD τ sig) → Buf (Elt F) ℓ) (ρ : Dev nD → PrngReg)

set_option backward.isDefEq.respectTransparency false
set_option maxHeartbeats 2000000

/-- Under that reading the two programs have the same first part of a trip, -/
theorem part1_same : k0_part1 (F := F) = letI := bitsNamed F; Cert.KernelIdeal.k0_part1 (F := F) := by
  unfold k0_part1 Cert.KernelIdeal.k0_part1
  rfl

/-- the same second part, -/
theorem part2_same : k0_part2 (F := F) = letI := bitsNamed F; Cert.KernelIdeal.k0_part2 (F := F) := by
  unfold k0_part2 Cert.KernelIdeal.k0_part2
  rfl

/-- the same body, -/
theorem body_same : cc0_attn_bwd (F := F) = letI := bitsNamed F; Cert.KernelIdeal.cc0_attn_bwd (F := F) := by
  unfold cc0_attn_bwd Cert.KernelIdeal.cc0_attn_bwd
  rw [part1_same, part2_same]
  rfl

/-- the same table of bodies, -/
theorem bodies_same : defs₀ (F := F) = letI := bitsNamed F; Cert.KernelIdeal.defs₀ (F := F) := by
  unfold defs₀ Cert.KernelIdeal.defs₀
  rw [body_same]
  refine congrArg Defs.onTc (funext fun l => ?_)
  match l with
  | 0 => rfl

/-- with the pipeline's, -/
theorem defs_same : defs (F := F) = letI := bitsNamed F; Cert.KernelIdeal.defs (F := F) := by
  unfold defs Cert.KernelIdeal.defs
  rw [bodies_same]
  rfl

/-- and the same host code. -/
theorem main_same : main (F := F) = letI := bitsNamed F; Cert.KernelIdeal.main (F := F) := by
  unfold main Cert.KernelIdeal.main
  rfl

variable (m : (ℓ : Loc nD τ sig) → Buf (Elt F) ℓ) (ρ : Dev nD → PrngReg)

/-- The frame: the arguments end as they began and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_same, main_same]
  letI := bitsNamed F
  exact Cert.KernelIdeal.Attn.frame_all m ρ

end Cert.Kernel.Attn
-- ==== Proof.AttnMath.lean ====
/-
  The mathematics of the band attention's backward pass for one head, over the extended reals and over plain
  functions of natural numbers: the scores of a query, their softmax, and the gradients of queries, keys and values.
  Position `s` of the padded keys is key `s - 512`; the band of query `t` is the 576 positions from `64 * (t / 64)`.
-/
module

public import Idealize.ShloMosaic.PureOps.Ideal
public import Idealize.ShloMosaic.PureOps.Ideal.Laws
public import Idealize.ShloMosaic.Lib.FinSumWindow

@[expose] public section

noncomputable section

namespace Cert.Attn

open Idealize.ShloMosaic
open scoped BigOperators

/-- The sum of `f` over the `w` positions from `o`. -/
def winSum (f : ℕ → EReal) (o w : ℕ) : EReal := ∑ k : Fin w, f (o + k.val)

/-- The maximum of `f` over the `w` positions from `o`, `⊥` if there is none. -/
def winMax (f : ℕ → EReal) (o w : ℕ) : EReal := (Finset.univ : Finset (Fin w)).fold max ⊥ fun k => f (o + k.val)

/-- A window's sum is a smaller window's where `f` is zero off the smaller one. -/
theorem winSum_eq (f : ℕ → EReal) {o w a b : ℕ} (h1 : o ≤ a) (h2 : a + b ≤ o + w)
    (hf : ∀ s, ¬(a ≤ s ∧ s < a + b) → f s = 0) : winSum f o w = winSum f a b := by
  unfold winSum
  rw [FinSumWindow.sum_window (W := b) (a - o) (by omega) (fun k : Fin w => f (o + k.val))
    (fun P hP => hf _ (by omega))]
  exact Finset.sum_congr rfl fun k _ => congrArg f (by show o + (a - o + k.val) = a + k.val; omega)

/-- A window's maximum is a smaller window's where `f` is `⊥` off the smaller one. -/
theorem winMax_eq (f : ℕ → EReal) {o w a b : ℕ} (h1 : o ≤ a) (h2 : a + b ≤ o + w)
    (hf : ∀ s, ¬(a ≤ s ∧ s < a + b) → f s = ⊥) : winMax f o w = winMax f a b := by
  unfold winMax
  apply le_antisymm
  · refine (Finset.fold_max_le _).2 ⟨bot_le, fun k _ => ?_⟩
    by_cases h : a ≤ o + k.val ∧ o + k.val < a + b
    · refine (Finset.le_fold_max _).2 (Or.inr ⟨⟨o + k.val - a, by omega⟩, Finset.mem_univ _, ?_⟩)
      exact le_of_eq (congrArg f (by show o + k.val = a + (o + k.val - a); omega))
    · rw [hf _ h]; exact bot_le
  · refine (Finset.fold_max_le _).2 ⟨bot_le, fun k _ => ?_⟩
    refine (Finset.le_fold_max _).2 (Or.inr ⟨⟨a - o + k.val, by omega⟩, Finset.mem_univ _, ?_⟩)
    exact le_of_eq (congrArg f (by show a + k.val = o + (a - o + k.val); omega))

/-- A sum of reals, taken in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes into a sum. -/
theorem coe_mul_sum {ι : Type*} (r : ℝ) (hr : 0 ≤ r) (s : Finset ι) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (by exact_mod_cast hr) (EReal.coe_ne_top r) _ _

/-- The same with the factor on the right. -/
theorem sum_mul_coe {ι : Type*} (r : ℝ) (hr : 0 ≤ r) (s : Finset ι) (f : ι → EReal) :
    (∑ i ∈ s, f i) * (r : EReal) = ∑ i ∈ s, f i * (r : EReal) := by
  rw [mul_comm, coe_mul_sum r hr]
  exact Finset.sum_congr rfl fun i _ => mul_comm _ _

/-- A sum over `N` blocks of `w` is the sum over all `M = N * w` positions. -/
theorem sum_blocks (g : ℕ → EReal) (N w M : ℕ) (h : N * w = M) :
    ∑ i : Fin N, ∑ r : Fin w, g (w * i.val + r.val) = winSum g 0 M := by
  subst h
  unfold winSum
  rw [← Fintype.sum_prod_type (f := fun x : Fin N × Fin w => g (w * x.1.val + x.2.val))]
  refine Fintype.sum_equiv finProdFinEquiv _ _ fun x => congrArg g ?_
  show w * x.1.val + x.2.val = 0 + (x.2.val + w * x.1.val)
  omega

/-- What a head's attention reads: queries, keys, values, the result's cotangent, and the biases of the distances. -/
structure Head where
  Q : ℕ → ℕ → EReal
  K : ℕ → ℕ → EReal
  V : ℕ → ℕ → EReal
  D : ℕ → ℕ → EReal
  B : ℕ → EReal

/-- The factor of the scores: the 32-bit number next to `1 / √128`. -/
def scale : EReal := Ideal.ofBits .f32 0x3DB504F3#32

/-- The factor is a nonnegative real. -/
theorem scale_real : ∃ r : ℝ, 0 ≤ r ∧ scale = (r : EReal) := by
  refine ⟨((11863283 : ℝ) / 2 ^ 27), by positivity, ?_⟩
  unfold scale
  simp [Ideal.ofBits, Ideal.ieee]
  rw [← EReal.coe_mul]
  norm_num

/-- Rows moved down by 512, zeros before them. -/
def padRows (X : ℕ → ℕ → EReal) (s d : ℕ) : EReal := if s < 512 then 0 else X (s - 512) d

/-- Where the band of query `t` begins. -/
def base (t : ℕ) : ℕ := 64 * (t / 64)

/-- The bias's place for query `t` and padded position `s`: the distance, held between -256 and 256. -/
def relIx (t s : ℕ) : ℕ := (max (-256) (min 256 ((512 : ℤ) + t - s)) + 256).toNat

namespace Head

variable (H : Head)

/-- The product of query `t` and padded key `s`. -/
def qk (t s : ℕ) : EReal := ∑ d : Fin 128, H.Q t d.val * padRows H.K s d.val

/-- The product of the cotangent of row `t` and padded value `s`. -/
def dp (t s : ℕ) : EReal := ∑ d : Fin 128, H.D t d.val * padRows H.V s d.val

/-- The score of query `t` and padded position `s`, `⊥` off the band and on the padding. -/
def sc (t s : ℕ) : EReal :=
  if (base t ≤ s ∧ s < base t + 576) ∧ 512 ≤ s then H.qk t s * scale + H.B (relIx t s) else ⊥

/-- The greatest score of query `t`. -/
def mx (t : ℕ) : EReal := winMax (H.sc t) (base t) 576

/-- The exponential of a score less the greatest one. -/
def ex (t s : ℕ) : EReal := Ideal.exp (H.sc t s - H.mx t)

/-- The sum of the exponentials. -/
def sm (t : ℕ) : EReal := winSum (H.ex t) (base t) 576

/-- The softmax. -/
def pr (t s : ℕ) : EReal := Ideal.div (H.ex t s) (H.sm t)

/-- The softmax's mean of `dp`. -/
def tot (t : ℕ) : EReal := winSum (fun s => H.pr t s * H.dp t s) (base t) 576

/-- The gradient of a score. -/
def ds (t s : ℕ) : EReal := H.pr t s * (H.dp t s - H.tot t)

/-- The gradient of the queries. -/
def dq (t d : ℕ) : EReal := winSum (fun s => H.ds t s * padRows H.K s d) (base t) 576 * scale

/-- The gradient of the keys. -/
def dk (j d : ℕ) : EReal := winSum (fun t => H.ds t (j + 512) * H.Q t d) 0 2048 * scale

/-- The gradient of the values. -/
def dv (j d : ℕ) : EReal := winSum (fun t => H.pr t (j + 512) * H.D t d) 0 2048

/-- The queries, the keys and the biases are real numbers. -/
structure IsReal : Prop where
  q : ∀ t d, ∃ r : ℝ, H.Q t d = r
  k : ∀ t d, ∃ r : ℝ, H.K t d = r
  b : ∀ n, ∃ r : ℝ, H.B n = r

/-- A sum of reals is real. -/
theorem sum_real {ι : Type*} (s : Finset ι) (f : ι → EReal) (h : ∀ i ∈ s, ∃ r : ℝ, f i = r) :
    ∃ r : ℝ, ∑ i ∈ s, f i = (r : EReal) := by
  classical
  induction s using Finset.induction_on with
  | empty => exact ⟨0, by simp⟩
  | insert a s ha ih =>
    obtain ⟨x, hx⟩ := h a (Finset.mem_insert_self a s)
    obtain ⟨y, hy⟩ := ih fun i hi => h i (Finset.mem_insert_of_mem hi)
    exact ⟨x + y, by rw [Finset.sum_insert ha, hx, hy, EReal.coe_add]⟩

variable {H}

/-- A query's product with a key of the padded rows is real. -/
theorem IsReal.qk (h : H.IsReal) (t s : ℕ) : ∃ r : ℝ, H.qk t s = r := by
  refine sum_real _ _ fun d _ => ?_
  obtain ⟨x, hx⟩ := h.q t d.val
  unfold padRows
  split
  · exact ⟨0, by simp⟩
  · obtain ⟨y, hy⟩ := h.k (s - 512) d.val
    exact ⟨x * y, by rw [hx, hy, EReal.coe_mul]⟩

/-- A score of the band off the padding is real. -/
theorem IsReal.sc (h : H.IsReal) {t s : ℕ} (hs : (base t ≤ s ∧ s < base t + 576) ∧ 512 ≤ s) : ∃ r : ℝ, H.sc t s = r := by
  obtain ⟨x, hx⟩ := h.qk t s
  obtain ⟨y, hy⟩ := h.b (relIx t s)
  obtain ⟨c, -, hc⟩ := scale_real
  exact ⟨x * c + y, by rw [Head.sc, if_pos hs, hx, hy, hc, EReal.coe_add, EReal.coe_mul]⟩

/-- Query `t`'s own key is in the band. -/
theorem own (t : ℕ) : (base t ≤ 512 + t ∧ 512 + t < base t + 576) ∧ 512 ≤ 512 + t := by
  unfold base; omega

/-- The greatest score is real. -/
theorem IsReal.mx (h : H.IsReal) (t : ℕ) : ∃ r : ℝ, H.mx t = r := by
  have hb : H.mx t ≠ ⊥ := by
    obtain ⟨r, hr⟩ := h.sc (own t)
    intro e
    have : H.sc t (512 + t) ≤ H.mx t := by
      unfold Head.mx winMax
      exact (Finset.le_fold_max _).2 (Or.inr ⟨⟨512 + t - base t, by unfold base; omega⟩,
      Finset.mem_univ _, le_of_eq (congrArg (H.sc t) (by show 512 + t = base t + (512 + t - base t); unfold base; omega))⟩)
    rw [e, hr] at this
    exact EReal.coe_ne_bot r (le_bot_iff.1 this)
  have ht : H.mx t ≠ ⊤ := by
    unfold Head.mx winMax
    refine ne_of_lt ((Finset.fold_max_lt _).2 ⟨bot_lt_top, fun k _ => ?_⟩)
    by_cases hs : (base t ≤ base t + k.val ∧ base t + k.val < base t + 576) ∧ 512 ≤ base t + k.val
    · obtain ⟨r, hr⟩ := h.sc hs
      rw [hr]; exact EReal.coe_lt_top r
    · rw [Head.sc, if_neg hs]; exact bot_lt_top
  exact ⟨(H.mx t).toReal, (EReal.coe_toReal ht hb).symm⟩

/-- Off the band and on the padding the exponential is zero. -/
theorem ex_dead {t s : ℕ} (hs : ¬((base t ≤ s ∧ s < base t + 576) ∧ 512 ≤ s)) : H.ex t s = 0 := by
  rw [Head.ex, Head.sc, if_neg hs, EReal.bot_sub, Ideal.exp_bot]

/-- The exponentials are real and not negative. -/
theorem IsReal.ex (h : H.IsReal) (t s : ℕ) : ∃ r : ℝ, 0 ≤ r ∧ H.ex t s = r := by
  by_cases hs : (base t ≤ s ∧ s < base t + 576) ∧ 512 ≤ s
  · obtain ⟨x, hx⟩ := h.sc hs
    obtain ⟨m, hm⟩ := h.mx t
    exact ⟨Real.exp (x - m), (Real.exp_pos _).le, by rw [Head.ex, hx, hm, ← EReal.coe_sub, Ideal.exp_coe]⟩
  · exact ⟨0, le_rfl, by rw [ex_dead hs, EReal.coe_zero]⟩

/-- The sum of the exponentials is a positive real. -/
theorem IsReal.sm (h : H.IsReal) (t : ℕ) : ∃ r : ℝ, 0 < r ∧ H.sm t = r := by
  choose e he0 he using h.ex t
  refine ⟨∑ k : Fin 576, e (base t + k.val), ?_, ?_⟩
  · refine Finset.sum_pos' (fun k _ => he0 _) ⟨⟨512 + t - base t, by unfold base; omega⟩, Finset.mem_univ _, ?_⟩
    have e1 : base t + (512 + t - base t) = 512 + t := by unfold base; omega
    show 0 < e (base t + (512 + t - base t))
    rw [e1]
    obtain ⟨x, hx⟩ := h.sc (own t)
    obtain ⟨m, hm⟩ := h.mx t
    have : (e (512 + t) : EReal) = (Real.exp (x - m) : ℝ) := by
      rw [← he, Head.ex, hx, hm, ← EReal.coe_sub, Ideal.exp_coe]
    rw [EReal.coe_eq_coe_iff.1 this]
    exact Real.exp_pos _
  · rw [coe_sum, Head.sm, winSum]
    exact Finset.sum_congr rfl fun k _ => he _

/-- Off the band and on the padding the softmax is zero. -/
theorem IsReal.pr_dead (h : H.IsReal) {t s : ℕ} (hs : ¬((base t ≤ s ∧ s < base t + 576) ∧ 512 ≤ s)) : H.pr t s = 0 := by
  obtain ⟨σ, hσ, e⟩ := h.sm t
  rw [Head.pr, ex_dead hs, e, Ideal.div_coe hσ.ne', zero_mul]

/-- Off the band and on the padding the gradient of a score is zero. -/
theorem IsReal.ds_dead (h : H.IsReal) {t s : ℕ} (hs : ¬((base t ≤ s ∧ s < base t + 576) ∧ 512 ≤ s)) : H.ds t s = 0 := by
  rw [Head.ds, h.pr_dead hs, zero_mul]

/-- A tile of 128 queries reads 640 positions: the greatest score among them is the greatest of the band. -/
theorem mx_tile (H : Head) (i r : ℕ) (hr : r < 128) : winMax (H.sc (128 * i + r)) (128 * i) 640 = H.mx (128 * i + r) :=
  winMax_eq _ (by unfold base; omega) (by unfold base; omega) fun s hs => by rw [Head.sc, if_neg fun h => hs h.1]

/-- The tile's sum of exponentials. -/
theorem sm_tile (H : Head) (i r : ℕ) (hr : r < 128) : winSum (H.ex (128 * i + r)) (128 * i) 640 = H.sm (128 * i + r) :=
  winSum_eq _ (by unfold base; omega) (by unfold base; omega) fun s hs => ex_dead fun h => hs h.1

/-- The tile's sum of a product whose factor is zero off the band. -/
theorem tile_mul (i r : ℕ) (hr : r < 128) (f g : ℕ → EReal)
    (hf : ∀ s, ¬(base (128 * i + r) ≤ s ∧ s < base (128 * i + r) + 576) → f s = 0) :
    winSum (fun s => f s * g s) (128 * i) 640 = winSum (fun s => f s * g s) (base (128 * i + r)) 576 :=
  winSum_eq _ (by unfold base; omega) (by unfold base; omega) fun s hs => by rw [hf s hs, zero_mul]

/-- The gradient of a score as the derivative of the quotient gives it: over the sum, and over its square. -/
theorem IsReal.ds_quotient (h : H.IsReal) (t s : ℕ) :
    (Ideal.div (H.dp t s) (H.sm t)
        + -winSum (fun s => H.dp t s * Ideal.div 1 (H.sm t * H.sm t) * H.ex t s) (base t) 576) * H.ex t s
      = H.ds t s := by
  obtain ⟨σ, hσ, e⟩ := h.sm t
  have e2 : Ideal.div 1 (H.sm t * H.sm t) = ((1 / σ : ℝ) : EReal) * ((1 / σ : ℝ) : EReal) := by
    rw [e, ← EReal.coe_mul, Ideal.div_coe (mul_ne_zero hσ.ne' hσ.ne'), one_mul, ← EReal.coe_mul]
    congr 1; field_simp
  have hu : (0 : ℝ) ≤ 1 / σ := by positivity
  have ht : winSum (fun s => H.dp t s * Ideal.div 1 (H.sm t * H.sm t) * H.ex t s) (base t) 576
      = ((1 / σ : ℝ) : EReal) * H.tot t := by
    unfold Head.tot winSum
    rw [coe_mul_sum _ hu]
    refine Finset.sum_congr rfl fun k _ => ?_
    show H.dp t _ * _ * H.ex t _ = _ * (H.pr t _ * H.dp t _)
    rw [e2, Head.pr, e, Ideal.div_coe hσ.ne']
    ac_rfl
  have hp : H.pr t s = H.ex t s * ((1 / σ : ℝ) : EReal) := by rw [Head.pr, e, Ideal.div_coe hσ.ne']
  rw [ht, e, Ideal.div_coe hσ.ne', Head.ds, hp, mul_comm (H.dp t s), ← mul_neg,
    ← EReal.left_distrib_of_nonneg_of_ne_top (by exact_mod_cast hu) (EReal.coe_ne_top _), sub_eq_add_neg]
  ac_rfl

end Head

end Cert.Attn
-- ==== Proof.AttnArrays.lean ====
/- The heads of the attention, read out of the arrays of the projections, the biases and the cotangents. -/
module

public import proofs.«01_k».proof.Proof.AttnMath
public import Idealize.ShloMosaic.Lib.Pointwise

@[expose] public section

noncomputable section

namespace Cert.Attn

open Idealize.ShloMosaic

/-- Columns `o` to `o + 127` of an array of 2048 rows; zero outside the array. -/
def cols {n : ℕ} (x : (⟨2, ![2048, n]⟩ : Shape).Idx → EReal) (o t d : ℕ) : EReal :=
  if h : t < 2048 ∧ d < 128 ∧ o + d < n then x (ix2 ⟨t, h.1⟩ ⟨o + d, h.2.2⟩) else 0

/-- Inside the array, they are its entries. -/
theorem cols_eq {n : ℕ} (x : (⟨2, ![2048, n]⟩ : Shape).Idx → EReal) (o t d : ℕ) (ht : t < 2048) (hd : d < 128) (h : o + d < n) :
    cols x o t d = x (ix2 ⟨t, ht⟩ ⟨o + d, h⟩) := dif_pos ⟨ht, hd, h⟩

/-- Row `h` of the biases; zero outside the array. -/
def biases (y : (⟨2, ![8, 513]⟩ : Shape).Idx → EReal) (h n : ℕ) : EReal :=
  if e : h < 8 ∧ n < 513 then y (ix2 ⟨h, e.1⟩ ⟨n, e.2⟩) else 0

/-- Inside the array, they are its entries. -/
theorem biases_eq (y : (⟨2, ![8, 513]⟩ : Shape).Idx → EReal) (h : Fin 8) (n : ℕ) (hn : n < 513) : biases y h.val n = y (ix2 h ⟨n, hn⟩) :=
  dif_pos ⟨h.isLt, hn⟩

/-- Head `h`: its queries, keys and values are columns `128 h`, `1024 + 128 h` and `2048 + 128 h` of the projections, its
    cotangents columns `128 h`, its biases row `h`. -/
def headOf (x : (⟨2, ![2048, 6144]⟩ : Shape).Idx → EReal) (y : (⟨2, ![8, 513]⟩ : Shape).Idx → EReal)
    (z : (⟨2, ![2048, 2048]⟩ : Shape).Idx → EReal) (h : ℕ) : Head where
  Q := cols x (128 * h)
  K := cols x (1024 + 128 * h)
  V := cols x (2048 + 128 * h)
  D := cols z (128 * h)
  B := biases y h

/-- A head is real where the queries, the keys and the biases are. -/
theorem headOf_isReal {x : (⟨2, ![2048, 6144]⟩ : Shape).Idx → EReal} {y : (⟨2, ![8, 513]⟩ : Shape).Idx → EReal}
    {z : (⟨2, ![2048, 2048]⟩ : Shape).Idx → EReal}
    (hx : ∀ (t : Fin 2048) (d : Fin 6144), d.val < 2048 → ∃ r : ℝ, x (ix2 t d) = r)
    (hy : ∀ (h : Fin 8) (n : Fin 513), ∃ r : ℝ, y (ix2 h n) = r) (h : Fin 8) : (headOf x y z h.val).IsReal where
  q t d := by
    show ∃ r : ℝ, cols x (128 * h.val) t d = r
    unfold cols
    split
    · exact hx _ _ (by dsimp only; omega)
    · exact ⟨0, rfl⟩
  k t d := by
    show ∃ r : ℝ, cols x (1024 + 128 * h.val) t d = r
    unfold cols
    split
    · exact hx _ _ (by dsimp only; omega)
    · exact ⟨0, rfl⟩
  b n := by
    show ∃ r : ℝ, biases y h.val n = r
    unfold biases
    split
    · exact hy _ _
    · exact ⟨0, rfl⟩

end Cert.Attn
-- ==== Proof.AttnPre.lean ====
/- What the precondition says of the arguments at an index: the queries, the keys and the biases are real numbers. -/
module

public import proofs.«01_k».proof.Pre_scores_finite
public import proofs.«01_k».proof.Proof.AttnArrays
public import Idealize.ShloMosaic.Lib.ReduceAll

@[expose] public section

noncomputable section

namespace Cert.Pre_scores_finite.Read

open Idealize.ShloMosaic Cert.Pre_scores_finite Cert.Attn

/-- The side conditions of the precondition's operations. -/
theorem side : Cert.Pre_scores_finite.Facts where
  slices_S2048x6144_S2048x2048_0_0 := by decide
  bitsLt_bf16_f32 := by decide
  bcast_S_S2048x2048 := by decide
  reducesTo_S2048x2048_S_d0_1 := by decide
  h_S_ := by decide
  bcast_S_S8x513 := by decide
  reducesTo_S8x513_S_d0_1 := by decide

/-- An extended real whose absolute value is less than `+∞` is a real number. -/
theorem real_of_lt {x : EReal} (e : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at e
  have hlt : max x (-x) < ⊤ := by
    by_contra hn
    unfold Ideal.cmp at e
    simp [hn] at e
  rw [max_lt_iff] at hlt
  refine ⟨x.toReal, (EReal.coe_toReal hlt.1.ne fun h => ?_).symm⟩
  rw [h] at hlt
  simp at hlt

/-- Both bits of a conjunction that is 1 are 1. -/
theorem both : ∀ a b : BitVec 1, IntOp.andi a b = 1#1 → a = 1#1 ∧ b = 1#1 := by decide

variable [Cert.Pre_scores_finite.Facts]

/-- The precondition, read at an index. -/
theorem reads (x : S2048x6144.Idx → EReal) (y : S8x513.Idx → EReal) (z : S2048x2048.Idx → EReal)
    (h : Cert.Pre_scores_finite.fn (F := Ideal) x y z = fun _ => 1#1) :
    (∀ (t : Fin 2048) (d : Fin 6144), d.val < 2048 → ∃ r : ℝ, x (ix2 t d) = r) ∧
      ∀ (a : Fin 8) (n : Fin 513), ∃ r : ℝ, y (ix2 a n) = r := by
  have h0 := congrFun h ix0
  dsimp only [Cert.Pre_scores_finite.fn] at h0
  obtain ⟨h1, h2⟩ := both _ _ h0
  constructor
  · intro t d hd
    have e := Host.reduce_andi_all _ _ _ _ _ h1 (ix2 t ⟨d.val, hd⟩)
    have e' : Ideal.cmp .olt (max (x (ix2 t d)) (-(x (ix2 t d)))) (Ideal.ofBits .f32 0x7F800000#32) = 1#1 := by
      refine Eq.trans ?_ e
      pointwise
      rfl
    exact real_of_lt e'
  · intro a n
    have e := Host.reduce_andi_all _ _ _ _ _ h2 (ix2 a n)
    exact real_of_lt e

/-- Under the precondition every head's queries, keys and biases are real numbers. -/
theorem heads_real (x : S2048x6144.Idx → EReal) (y : S8x513.Idx → EReal) (z : S2048x2048.Idx → EReal)
    (h : Cert.Pre_scores_finite.fn (F := Ideal) x y z = fun _ => 1#1) (a : Fin 8) : (headOf x y z a.val).IsReal :=
  headOf_isReal (reads x y z h).1 (reads x y z h).2 a

end Cert.Pre_scores_finite.Read
-- ==== Proof.AttnTile.lean ====
/- One head of the attention's backward kernel at an index, over the extended reals: the three gradients are those of the band attention. -/
module

public import proofs.«01_k».proof.Proof.AttnBody
public import proofs.«01_k».proof.Proof.AttnMath
public import Idealize.ShloMosaic.Lib.Pointwise

@[expose] public section

set_option maxRecDepth 16384

noncomputable section

namespace Cert.KernelIdeal.Attn

open Idealize.ShloMosaic
open Cert.KernelIdeal Cert.KernelIdeal.Gen
open Cert.Attn
open scoped BigOperators

/-- The loop has 16 trips. -/
theorem trips_eq : k0_t1_loop.trips = 16 := by decide

/-- A trip's number is below 16. -/
theorem tile_lt (k : Fin k0_t1_loop.trips) : k.val < 16 := lt_of_lt_of_eq k.isLt trips_eq

/-- A window of `w` whole rows at an index. -/
theorem window_rows {α : Type} {N w o : ℕ} (x : (⟨2, ![N, 128]⟩ : Shape).Idx → α) (off : Fin 2 → ℕ) (ho : off = ![o, 0])
    (inb : ∀ a, off a + (⟨2, ![w, 128]⟩ : Shape).size a ≤ (⟨2, ![N, 128]⟩ : Shape).size a) (r : Fin w) (d : Fin 128) (h : o + r.val < N) :
    VecWindow.window (s := ⟨2, ![N, 128]⟩) x off (⟨2, ![w, 128]⟩ : Shape).size inb (ix2 r d) = x (ix2 ⟨o + r.val, h⟩ d) := by
  subst ho
  refine congrArg x (funext fun a => ?_)
  match a with
  | 0 => exact Fin.ext (by show o + 1 * r.val = o + r.val; omega)
  | 1 => exact Fin.ext (by show 0 + 1 * d.val = d.val; omega)

/-- What is put over `w` whole rows, at an index. -/
theorem put_rows {α : Type} {N w o : ℕ} (x : (⟨2, ![N, 128]⟩ : Shape).Idx → α) (off : Fin 2 → ℕ) (ho : off = ![o, 0])
    (v : (⟨2, ![w, 128]⟩ : Shape).Idx → α) (s : Fin N) (d : Fin 128) :
    VecWindow.put (s := ⟨2, ![N, 128]⟩) x off (⟨2, ![w, 128]⟩ : Shape).size v (ix2 s d)
      = if h : o ≤ s.val ∧ s.val < o + w then v (ix2 ⟨s.val - o, by omega⟩ d) else x (ix2 s d) := by
  subst ho
  unfold VecWindow.put
  by_cases h : o ≤ s.val ∧ s.val < o + w
  · have h' : ∀ a : Fin 2, (![o, 0] : Fin 2 → ℕ) a ≤ ((ix2 s d : (⟨2, ![N, 128]⟩ : Shape).Idx) a).val
        ∧ ((ix2 s d : (⟨2, ![N, 128]⟩ : Shape).Idx) a).val < (![o, 0] : Fin 2 → ℕ) a + (⟨2, ![w, 128]⟩ : Shape).size a := by
      intro a
      match a with
      | 0 => exact h
      | 1 => show 0 ≤ d.val ∧ d.val < 0 + 128; omega
    rw [dif_pos h, dif_pos h']
    refine congrArg v (funext fun a => ?_)
    match a with
    | 0 => exact Fin.ext rfl
    | 1 => exact Fin.ext (by show d.val - 0 = d.val; omega)
  · rw [dif_neg h, dif_neg fun h' => h (h' 0)]

/-- What the five blocks of a head hold: the head's queries, keys, values and cotangent, and the table of its biases. -/
structure Reads (H : Head) (x0 x1 x2 x3 : Vec Ideal S2048x128 .bf16) (x4 : Vec Ideal S1x128x640 .f32) : Prop where
  q : ∀ (a : Fin 2048) (d : Fin 128), x0 (ix2 a d) = H.Q a.val d.val
  k : ∀ (a : Fin 2048) (d : Fin 128), x1 (ix2 a d) = H.K a.val d.val
  v : ∀ (a : Fin 2048) (d : Fin 128), x2 (ix2 a d) = H.V a.val d.val
  o : ∀ (a : Fin 2048) (d : Fin 128), x3 (ix2 a d) = H.D a.val d.val
  t : ∀ (r : Fin 128) (j : Fin 640), x4 (ix3 0 r j) = if base r.val ≤ j.val ∧ j.val < base r.val + 576 then H.B (relIx r.val j.val) else ⊥

/-- Trip `k`'s rows. -/
theorem rowsOf_apply (k : Fin k0_t1_loop.trips) (x : Vec Ideal S2048x128 .bf16) (X : ℕ → ℕ → EReal)
    (hx : ∀ (a : Fin 2048) (d : Fin 128), x (ix2 a d) = X a.val d.val) (r d : Fin 128) : rowsOf k x (ix2 r d) = X (128 * k.val + r.val) d.val := by
  have := tile_lt k
  exact (window_rows x (k0_off1 k) (off1_eq k) _ r d (by omega)).trans (hx _ d)

/-- A padded array. -/
theorem padded_apply (x : Vec Ideal S2048x128 .bf16) (X : ℕ → ℕ → EReal)
    (hx : ∀ (a : Fin 2048) (d : Fin 128), x (ix2 a d) = X a.val d.val) (s : Fin 2560) (d : Fin 128) : padded x (ix2 s d) = padRows X s.val d.val := by
  unfold padded padRows
  refine (put_rows (N := 2560) (w := 2048) _ _ rfl x s d).trans ?_
  by_cases h : s.val < 512
  · rw [dif_neg (by omega), if_pos h]
    exact Ideal.ofBits_zero_bf16
  · rw [dif_pos (by omega), if_neg h]
    exact hx _ d

/-- Trip `k`'s window of a padded array. -/
theorem band_apply (k : Fin k0_t1_loop.trips) (x : Vec Ideal S2048x128 .bf16) (X : ℕ → ℕ → EReal)
    (hx : ∀ (a : Fin 2048) (d : Fin 128), x (ix2 a d) = X a.val d.val) (j : Fin 640) (d : Fin 128) :
    bandOf k (padded x) (ix2 j d) = padRows X (128 * k.val + j.val) d.val := by
  have := tile_lt k
  exact (window_rows (padded x) (k0_off2 k) (off2_eq k) _ j d (by omega)).trans (padded_apply x X hx _ d)

/-- Trip `k`'s window of an accumulator. -/
theorem bandOf_apply (k : Fin k0_t1_loop.trips) (x : Vec Ideal S2560x128 .f32) (j : Fin 640) (d : Fin 128) (h : 128 * k.val + j.val < 2560) :
    bandOf k x (ix2 j d) = x (ix2 ⟨128 * k.val + j.val, h⟩ d) :=
  window_rows x (k0_off2 k) (off2_eq k) _ j d h

/-- The mask of the padding. -/
theorem mask_eq : ∀ (k : Fin k0_t1_loop.trips) (j : Fin 640),
    IntOp.cmpi .sge (IntOp.addi (Scalar.muli (Scf.iv 0#32 1#32 k) 128#32) (BitVec.ofNat 32 j.val)) 512#32
      = if 512 ≤ 128 * k.val + j.val then 1#1 else 0#1 := by decide +kernel

/-- The named mask stands for `-∞`, -/
theorem named_mask : (Named.named κ "mask" 0xF149F2CA#32 : Ideal .f32) = (⊥ : EReal) := rfl

/-- and so does the word of the least number. -/
theorem neg_inf : Ideal.ofBits .f32 0xFF800000#32 = (⊥ : EReal) := by
  simp [Ideal.ofBits, Ideal.ieee]

section

variable {H : Head} {x0 x1 x2 x3 : Vec Ideal S2048x128 .bf16} {x4 : Vec Ideal S1x128x640 .f32} (R : Reads H x0 x1 x2 x3 x4)

include R

/-- A tile's masked score is the head's score. -/
theorem score_apply (k : Fin k0_t1_loop.trips) (r : Fin 128) (j : Fin 640) :
    Scalar.select (IntOp.cmpi .sge (IntOp.addi (Scalar.muli (Scf.iv 0#32 1#32 k) 128#32) (BitVec.ofNat 32 j.val)) 512#32)
        ((∑ d : Fin 128, rowsOf k x0 (ix2 r d) * bandOf k (padded x1) (ix2 j d)) * Ideal.ofBits .f32 0x3DB504F3#32 + x4 (ix3 0 r j))
        (Named.named κ "mask" 0xF149F2CA#32 : Ideal .f32)
      = H.sc (128 * k.val + r.val) (128 * k.val + j.val) := by
  have hb : base (128 * k.val + r.val) = 128 * k.val + base r.val := by unfold base; omega
  have hr : relIx (128 * k.val + r.val) (128 * k.val + j.val) = relIx r.val j.val := by
    unfold relIx
    rw [show (512 : ℤ) + ((128 * k.val + r.val : ℕ) : ℤ) - ((128 * k.val + j.val : ℕ) : ℤ) = 512 + (r.val : ℤ) - (j.val : ℤ) by push_cast; ring]
  have hq : (∑ d : Fin 128, rowsOf k x0 (ix2 r d) * bandOf k (padded x1) (ix2 j d)) = H.qk (128 * k.val + r.val) (128 * k.val + j.val) :=
    Finset.sum_congr rfl fun d _ => by rw [rowsOf_apply k x0 H.Q R.q, band_apply k x1 H.K R.k]
  rw [mask_eq, named_mask, R.t, hq, Head.sc, hb, hr]
  by_cases h1 : 512 ≤ 128 * k.val + j.val
  · rw [if_pos h1]
    by_cases h2 : base r.val ≤ j.val ∧ j.val < base r.val + 576
    · rw [if_pos h2, if_pos ⟨by omega, h1⟩]; rfl
    · rw [if_neg h2, if_neg fun h => h2 (by omega)]
      exact EReal.add_bot _
  · rw [if_neg h1, if_neg (fun h => h1 h.2 : ¬(_ ∧ 512 ≤ 128 * k.val + j.val))]; rfl

/-- The tile's softmax. -/
theorem probs_apply (k : Fin k0_t1_loop.trips) (r : Fin 128) (j : Fin 640) :
    probs k x0 (padded x1) x4 (ix2 r j) = H.pr (128 * k.val + r.val) (128 * k.val + j.val) := by
  unfold probs
  pointwise [k0_pay8]
  simp only [score_apply R]
  rw [neg_inf]
  have hm : (Finset.univ : Finset (Fin 640)).fold max ⊥ (fun j => H.sc (128 * k.val + r.val) (128 * k.val + j.val)) = H.mx (128 * k.val + r.val) :=
    Head.mx_tile H k.val r.val r.isLt
  rw [hm]
  have hs : (∑ j : Fin 640, Ideal.exp (H.sc (128 * k.val + r.val) (128 * k.val + j.val) - H.mx (128 * k.val + r.val))) = H.sm (128 * k.val + r.val) :=
    Head.sm_tile H k.val r.val r.isLt
  rw [hs]
  rfl

/-- The gradient of the tile's scores. -/
theorem dscores_apply (hr : H.IsReal) (k : Fin k0_t1_loop.trips) (r : Fin 128) (j : Fin 640) :
    dscores k x0 x3 x4 (padded x1) (padded x2) (ix2 r j) = H.ds (128 * k.val + r.val) (128 * k.val + j.val) := by
  have hd : ∀ j : Fin 640, (∑ d : Fin 128, rowsOf k x3 (ix2 r d) * bandOf k (padded x2) (ix2 j d)) = H.dp (128 * k.val + r.val) (128 * k.val + j.val) := fun j =>
    Finset.sum_congr rfl fun d _ => by rw [rowsOf_apply k x3 H.D R.o, band_apply k x2 H.V R.v]
  have hp : ∀ j : Fin 640, k0_pay8 (F := Ideal) 0#32 1#32 k (rowsOf k x0) (bandOf k (padded x1)) x4 (ix2 r j) = H.pr (128 * k.val + r.val) (128 * k.val + j.val) := fun j =>
    probs_apply R k r j
  unfold dscores
  pointwise [k0_pay9]
  simp only [hd, hp]
  have ht := Head.tile_mul k.val r.val r.isLt (H.pr (128 * k.val + r.val)) (H.dp (128 * k.val + r.val)) fun s hs => hr.pr_dead fun h => hs h.1
  exact congrArg (fun z => H.pr (128 * k.val + r.val) (128 * k.val + j.val) * (H.dp (128 * k.val + r.val) (128 * k.val + j.val) - z)) ht

/-- The tile's rows of the query gradient. -/
theorem rows_dq (hr : H.IsReal) (k : Fin k0_t1_loop.trips) (r d : Fin 128) :
    k0_pay3 (F := Ideal) (bandOf k (padded x1)) (dscores k x0 x3 x4 (padded x1) (padded x2)) (ix2 r d) = H.dq (128 * k.val + r.val) d.val := by
  pointwise [k0_pay3, k0_pay2]
  simp only [dscores_apply R hr, band_apply k x1 H.K R.k]
  have ht := Head.tile_mul k.val r.val r.isLt (H.ds (128 * k.val + r.val)) (fun s => padRows H.K s d.val) fun s hs => hr.ds_dead fun h => hs h.1
  exact congrArg (· * scale) ht

/-- After `n` trips the first `128 n` rows of the query gradient are done. -/
theorem iter_dq (hr : H.IsReal) (a : Vec Ideal S2048x128 .bf16) (n : ℕ) (hn : n ≤ 16) (s : Fin 2048) (d : Fin 128) (hs : s.val < 128 * n) :
    iterTrips (stepDQ x0 x3 x4 (padded x1) (padded x2)) n a (ix2 s d) = H.dq s.val d.val := by
  induction n with
  | zero => omega
  | succ n ih =>
    have ht : n < k0_t1_loop.trips := by rw [trips_eq]; omega
    simp only [iterTrips, dif_pos ht]
    unfold stepDQ
    refine (put_rows (N := 2048) (w := 128) _ _ (off1_eq ⟨n, ht⟩) _ s d).trans ?_
    by_cases h : 128 * n ≤ s.val ∧ s.val < 128 * n + 128
    · rw [dif_pos h, rows_dq R hr]
      exact congrArg (fun t => H.dq t d.val) (by show 128 * n + (s.val - 128 * n) = s.val; omega)
    · rw [dif_neg h]
      exact ih (by omega) (by omega)

/-- The query gradient of the head. -/
theorem gradQ_apply (hr : H.IsReal) (s : Fin 2048) (d : Fin 128) : gradQ x0 x1 x2 x3 x4 (ix2 s d) = H.dq s.val d.val :=
  iter_dq R hr x0 16 le_rfl s d (by omega)

omit R in
/-- Sums kept in an accumulator of which every trip adds to a window. -/
theorem iter_acc (f : Fin k0_t1_loop.trips → Vec Ideal S2560x128 .f32 → Vec Ideal S2560x128 .f32) (g : ℕ → ℕ → ℕ → EReal)
    (hf : ∀ k x (s : Fin 2560) (d : Fin 128), f k x (ix2 s d)
      = x (ix2 s d) + if 128 * k.val ≤ s.val ∧ s.val < 128 * k.val + 640 then g k.val s.val d.val else 0)
    (a : Vec Ideal S2560x128 .f32) (n : ℕ) (hn : n ≤ 16) (s : Fin 2560) (d : Fin 128) :
    iterTrips f n a (ix2 s d)
      = a (ix2 s d) + ∑ k ∈ Finset.range n, if 128 * k ≤ s.val ∧ s.val < 128 * k + 640 then g k s.val d.val else 0 := by
  induction n with
  | zero => simp [iterTrips]
  | succ n ih =>
    have ht : n < k0_t1_loop.trips := by rw [trips_eq]; omega
    simp only [iterTrips, dif_pos ht]
    rw [hf, ih (by omega), Finset.sum_range_succ, add_assoc]

/-- A trip of the key gradient. -/
theorem stepDK_apply (hr : H.IsReal) (k : Fin k0_t1_loop.trips) (x : Vec Ideal S2560x128 .f32) (s : Fin 2560) (d : Fin 128) :
    stepDK x0 x3 x4 (padded x1) (padded x2) k x (ix2 s d)
      = x (ix2 s d) + if 128 * k.val ≤ s.val ∧ s.val < 128 * k.val + 640
          then (∑ r : Fin 128, H.ds (128 * k.val + r.val) s.val * H.Q (128 * k.val + r.val) d.val) * scale else 0 := by
  unfold stepDK
  refine (put_rows (N := 2560) (w := 640) _ _ (off2_eq k) _ s d).trans ?_
  by_cases h : 128 * k.val ≤ s.val ∧ s.val < 128 * k.val + 640
  · rw [dif_pos h, if_pos h]
    have e : 128 * k.val + (s.val - 128 * k.val) = s.val := by omega
    pointwise [k0_pay4, k0_pay2]
    simp only [dscores_apply R hr, rowsOf_apply k x0 H.Q R.q, e]
    rw [bandOf_apply k x _ d (by show 128 * k.val + (s.val - 128 * k.val) < 2560; omega)]
    exact congrArg (fun z => x (ix2 z d) + _) (Fin.ext e)
  · rw [dif_neg h, if_neg h, add_zero]

/-- A trip of the value gradient. -/
theorem stepDV_apply (k : Fin k0_t1_loop.trips) (x : Vec Ideal S2560x128 .f32) (s : Fin 2560) (d : Fin 128) :
    stepDV x0 x3 x4 (padded x1) k x (ix2 s d)
      = x (ix2 s d) + if 128 * k.val ≤ s.val ∧ s.val < 128 * k.val + 640
          then (∑ r : Fin 128, H.pr (128 * k.val + r.val) s.val * H.D (128 * k.val + r.val) d.val) else 0 := by
  unfold stepDV
  refine (put_rows (N := 2560) (w := 640) _ _ (off2_eq k) _ s d).trans ?_
  by_cases h : 128 * k.val ≤ s.val ∧ s.val < 128 * k.val + 640
  · rw [dif_pos h, if_pos h]
    have e : 128 * k.val + (s.val - 128 * k.val) = s.val := by omega
    pointwise [k0_pay5]
    simp only [probs_apply R, rowsOf_apply k x3 H.D R.o, e]
    rw [bandOf_apply k x _ d (by show 128 * k.val + (s.val - 128 * k.val) < 2560; omega)]
    exact congrArg (fun z => x (ix2 z d) + _) (Fin.ext e)
  · rw [dif_neg h, if_neg h, add_zero]

omit R in
/-- A tile's sum of products whose first factor is zero off the band, over a position that the tile doesn't read. -/
theorem off_tile (f : ℕ → ℕ → EReal) (g : ℕ → EReal) (hf : ∀ t s, ¬((base t ≤ s ∧ s < base t + 576) ∧ 512 ≤ s) → f t s = 0)
    (k s : ℕ) (h : ¬(128 * k ≤ s ∧ s < 128 * k + 640)) : (∑ r : Fin 128, f (128 * k + r.val) s * g (128 * k + r.val)) = 0 :=
  Finset.sum_eq_zero fun r _ => by
    rw [hf _ _ fun hb => h ?_, zero_mul]
    have := r.isLt
    unfold base at hb
    omega

/-- The key gradient of the head. -/
theorem gradK_apply (hr : H.IsReal) (j : Fin 2048) (d : Fin 128) : gradK x0 x1 x2 x3 x4 (ix2 j d) = H.dk j.val d.val := by
  unfold gradK
  pointwise [k0_pay6]
  rw [window_rows (w := 2048) _ _ rfl _ j d (by omega),
    iter_acc _ (fun k s d => (∑ r : Fin 128, H.ds (128 * k + r.val) s * H.Q (128 * k + r.val) d) * scale) (fun k x s d => stepDK_apply R hr k x s d) _ 16 le_rfl, Finset.sum_range]
  have hz : k0_pay15 (F := Ideal) (ix2 ⟨512 + j.val, by omega⟩ d) = (0 : EReal) := by pointwise [k0_pay15]
  obtain ⟨c, hc0, hc⟩ := scale_real
  rw [hz, zero_add, Head.dk, ← sum_blocks _ 16 128 2048 rfl, hc, sum_mul_coe c hc0]
  refine Finset.sum_congr rfl fun k _ => ?_
  show (if 128 * k.val ≤ 512 + j.val ∧ 512 + j.val < 128 * k.val + 640 then (∑ r : Fin 128, H.ds (128 * k.val + r.val) (512 + j.val) * H.Q (128 * k.val + r.val) d.val) * (c : EReal) else 0)
    = (∑ r : Fin 128, H.ds (128 * k.val + r.val) (j.val + 512) * H.Q (128 * k.val + r.val) d.val) * (c : EReal)
  rw [Nat.add_comm 512 j.val]
  split
  · rfl
  · rename_i h
    rw [off_tile H.ds (fun t => H.Q t d.val) (fun t s hs => hr.ds_dead hs) k.val _ h, zero_mul]

/-- The value gradient of the head. -/
theorem gradV_apply (hr : H.IsReal) (j : Fin 2048) (d : Fin 128) : gradV x0 x1 x3 x4 (ix2 j d) = H.dv j.val d.val := by
  unfold gradV
  pointwise [k0_pay7]
  rw [window_rows (w := 2048) _ _ rfl _ j d (by omega),
    iter_acc _ (fun k s d => ∑ r : Fin 128, H.pr (128 * k + r.val) s * H.D (128 * k + r.val) d) (fun k x s d => stepDV_apply R k x s d) _ 16 le_rfl, Finset.sum_range]
  have hz : k0_pay16 (F := Ideal) (ix2 ⟨512 + j.val, by omega⟩ d) = (0 : EReal) := by pointwise [k0_pay16]
  rw [hz, zero_add, Head.dv, ← sum_blocks _ 16 128 2048 rfl]
  refine Finset.sum_congr rfl fun k _ => ?_
  show (if 128 * k.val ≤ 512 + j.val ∧ 512 + j.val < 128 * k.val + 640 then (∑ r : Fin 128, H.pr (128 * k.val + r.val) (512 + j.val) * H.D (128 * k.val + r.val) d.val) else 0)
    = (∑ r : Fin 128, H.pr (128 * k.val + r.val) (j.val + 512) * H.D (128 * k.val + r.val) d.val)
  rw [Nat.add_comm 512 j.val]
  split
  · rfl
  · rename_i h
    rw [off_tile H.pr (fun t => H.D t d.val) (fun t s hs => hr.pr_dead hs) k.val _ h]

end

end Cert.KernelIdeal.Attn
-- ==== Proof.AttnTable.lean ====
module

public import proofs.«01_k».proof.Proof.AttnTile
public import proofs.«01_k».proof.Proof.AttnArrays
public import Idealize.ShloMosaic.Lib.StableHlo.ReadAt
public import Idealize.ShloMosaic.Lib.Tactic.WordOmega
public import Idealize.ShloMosaic.Lib.ReduceAll

/-! The kernel's table of biases, read at an index. -/

@[expose] public section

set_option maxRecDepth 16384

namespace Cert.KernelIdeal.Attn

open Idealize.ShloMosaic Cert.KernelIdeal Cert.KernelIdeal.Gen Cert.Attn

variable (m : (ℓ : Loc nD τ sig) → Buf (Elt Ideal) ℓ) (c : Dev nD)

/-- The quotient by 64, rounded down, of a column's number, as the host computes it in words. -/
theorem block_word : ∀ j : Fin 640,
    Scalar.select
      (IntOp.andi
        (IntOp.cmpi CmpIPredicate.ne (if BitVec.ofNat 32 j.val = 0 then (0 : BitVec 32) else if (BitVec.ofNat 32 j.val).msb = true then -1 else 1)
          (if (64#32) = 0 then (0 : BitVec 32) else if BitVec.msb (64#32) = true then -1 else 1))
        (IntOp.cmpi CmpIPredicate.ne (IntOp.remsi ArithUnit.host (BitVec.ofNat 32 j.val) (64#32)) 0#32))
      (IntOp.subi (IntOp.divsi ArithUnit.host (BitVec.ofNat 32 j.val) (64#32)) 1#32)
      (IntOp.divsi ArithUnit.host (BitVec.ofNat 32 j.val) (64#32)) = BitVec.ofNat 32 (j.val / 64) := by
  decide +kernel

/-- The mask of the table's chunks, as a word. -/
theorem valid_word : ∀ (a : Fin 10) (b : Fin 2),
    IntOp.andi (IntOp.cmpi CmpIPredicate.sge (IntOp.subi (BitVec.ofNat 32 a.val) (BitVec.ofNat 32 b.val)) 0#32)
      (IntOp.cmpi CmpIPredicate.sle (IntOp.subi (BitVec.ofNat 32 a.val) (BitVec.ofNat 32 b.val)) 8#32) =
    if b.val ≤ a.val ∧ a.val ≤ b.val + 8 then 1#1 else 0#1 := by
  decide +kernel

/-- The clipped distance of a column, as a word. -/
theorem rel_word : ∀ k : Fin 768,
    IntOp.addi (IntOp.minsi (256#32) (IntOp.maxsi (4294967040#32) (IntOp.subi (512#32) (IntOp.subi (BitVec.ofNat 32 k.val) 127#32)))) 256#32 =
    BitVec.ofNat 32 ((max (-256) (min 256 ((512:ℤ)+127-k.val)) + 256).toNat) := by
  decide +kernel

/-- The table's mask: the columns within the row's chunks. -/
theorem valid_apply (r : Fin 128) (j : Fin 640) :
    IntOp.andi
        (IntOp.cmpi CmpIPredicate.sge
          (IntOp.subi (Scalar.select
            (IntOp.andi
              (IntOp.cmpi CmpIPredicate.ne
                (if BitVec.ofNat 32 j.val = 0 then (0 : BitVec 32) else if (BitVec.ofNat 32 j.val).msb = true then -1 else 1)
                (if id (constantI S_ 32 64#32) ix0 = 0 then (0 : BitVec 32)
                else if BitVec.msb (id (constantI S_ 32 64#32) ix0) = true then -1 else 1))
              (IntOp.cmpi CmpIPredicate.ne
                (IntOp.remsi ArithUnit.host (BitVec.ofNat 32 j.val) (id (constantI S_ 32 64#32) ix0)) 0#32))
            (IntOp.subi (IntOp.divsi ArithUnit.host (BitVec.ofNat 32 j.val) (id (constantI S_ 32 64#32) ix0)) 1#32)
            (IntOp.divsi ArithUnit.host (BitVec.ofNat 32 j.val) (id (constantI S_ 32 64#32) ix0)))
            (Scalar.select
            (IntOp.andi
              (IntOp.cmpi CmpIPredicate.ne
                (if BitVec.ofNat 32 r.val = 0 then (0 : BitVec 32) else if (BitVec.ofNat 32 r.val).msb = true then -1 else 1)
                (if id (constantI S_ 32 64#32) ix0 = 0 then (0 : BitVec 32)
                else if BitVec.msb (id (constantI S_ 32 64#32) ix0) = true then -1 else 1))
              (IntOp.cmpi CmpIPredicate.ne
                (IntOp.remsi ArithUnit.host (BitVec.ofNat 32 r.val) (id (constantI S_ 32 64#32) ix0)) 0#32))
            (IntOp.subi (IntOp.divsi ArithUnit.host (BitVec.ofNat 32 r.val) (id (constantI S_ 32 64#32) ix0)) 1#32)
            (IntOp.divsi ArithUnit.host (BitVec.ofNat 32 r.val) (id (constantI S_ 32 64#32) ix0)))) 0#32)
        (IntOp.cmpi CmpIPredicate.sle
          (IntOp.subi (Scalar.select
            (IntOp.andi
              (IntOp.cmpi CmpIPredicate.ne
                (if BitVec.ofNat 32 j.val = 0 then (0 : BitVec 32) else if (BitVec.ofNat 32 j.val).msb = true then -1 else 1)
                (if id (constantI S_ 32 64#32) ix0 = 0 then (0 : BitVec 32)
                else if BitVec.msb (id (constantI S_ 32 64#32) ix0) = true then -1 else 1))
              (IntOp.cmpi CmpIPredicate.ne
                (IntOp.remsi ArithUnit.host (BitVec.ofNat 32 j.val) (id (constantI S_ 32 64#32) ix0)) 0#32))
            (IntOp.subi (IntOp.divsi ArithUnit.host (BitVec.ofNat 32 j.val) (id (constantI S_ 32 64#32) ix0)) 1#32)
            (IntOp.divsi ArithUnit.host (BitVec.ofNat 32 j.val) (id (constantI S_ 32 64#32) ix0)))
            (Scalar.select
            (IntOp.andi
              (IntOp.cmpi CmpIPredicate.ne
                (if BitVec.ofNat 32 r.val = 0 then (0 : BitVec 32) else if (BitVec.ofNat 32 r.val).msb = true then -1 else 1)
                (if id (constantI S_ 32 64#32) ix0 = 0 then (0 : BitVec 32)
                else if BitVec.msb (id (constantI S_ 32 64#32) ix0) = true then -1 else 1))
              (IntOp.cmpi CmpIPredicate.ne
                (IntOp.remsi ArithUnit.host (BitVec.ofNat 32 r.val) (id (constantI S_ 32 64#32) ix0)) 0#32))
            (IntOp.subi (IntOp.divsi ArithUnit.host (BitVec.ofNat 32 r.val) (id (constantI S_ 32 64#32) ix0)) 1#32)
            (IntOp.divsi ArithUnit.host (BitVec.ofNat 32 r.val) (id (constantI S_ 32 64#32) ix0)))) 8#32) =
    if base r.val ≤ j.val ∧ j.val < base r.val + 576 then 1#1 else 0#1 := by
  have h64 : id (constantI S_ 32 64#32) ix0 = 64#32 := rfl
  rw [h64, block_word j, block_word ⟨r.val, by omega⟩]
  rw [valid_word ⟨j.val / 64, by omega⟩ ⟨r.val / 64, by omega⟩]
  simp only [base]
  congr 1
  simp only [eq_iff_iff]
  omega

/-- Wrapping, the bounds' test and the signed reading leave the number of a bias as it is. -/
theorem wrap_word : ∀ n : Fin 513,
    Scalar.select (IntOp.cmpi CmpIPredicate.slt (BitVec.ofNat 32 n.val) 0#32) (IntOp.addi (BitVec.ofNat 32 n.val) 513#32)
      (BitVec.ofNat 32 n.val) = BitVec.ofNat 32 n.val ∧
    IntOp.andi (IntOp.cmpi CmpIPredicate.sge (BitVec.ofNat 32 n.val) 0#32) (IntOp.cmpi CmpIPredicate.sle (BitVec.ofNat 32 n.val) 512#32) = 1#1 ∧
    (BitVec.ofNat 32 n.val).toInt.toNat = n.val := by
  decide +kernel

/-- The gather of whole columns at an index: the column's number is read signed and clamped. -/
theorem take_cols {α : Type} (x : S8x513.Idx → α) (idx : IVec S768x1 32) (h : Fin 8) (k : Fin 768) :
    Host.gather gather_S8x513_S768x1_S8x768_0_1_n_n_1_1_81 x idx (ix2 h k) =
      x (ix2 h ⟨min (idx (ix2 k 0)).toInt.toNat 512, by omega⟩) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  match a with
  | ⟨0, h0⟩ =>
    have e : gather_S8x513_S768x1_S8x768_0_1_n_n_1_1_81.start (ix2 h k) idx ⟨0, h0⟩ = 0 := by
      unfold GatherDims.start
      exact dif_neg (show (0 : Fin 2) ∉ [(1 : Fin 2)] by decide)
    rw [e, Nat.add_zero, Nat.zero_add]
    rfl
  | ⟨1, _⟩ =>
    have hsi : gather_S8x513_S768x1_S8x768_0_1_n_n_1_1_81.siIdx (ix2 h k) ⟨0, by decide⟩ = ix2 k 0 := by
      funext b; refine Fin.ext ?_
      match b with
      | ⟨0, _⟩ => rfl
      | ⟨1, _⟩ => rfl
    show min (idx (gather_S8x513_S768x1_S8x768_0_1_n_n_1_1_81.siIdx (ix2 h k) ⟨0, _⟩)).toInt.toNat 512 + 0 + 0 = _
    rw [hsi]
    rfl

/-- The conjunction of ones is one. -/
theorem fold_one {ι : Type*} (s : Finset ι) : Finset.fold IntOp.andi (1#1) (fun _ => 1#1) s = 1#1 := by
  classical
  induction s using Finset.induction_on with
  | empty => rfl
  | insert a s ha ih => rw [Finset.fold_insert ha, ih]; rfl

/-- The biases in the order of the columns' distances. -/
theorem take_apply (h : Fin 8) (k : Fin 768) :
    (V m c main_v22 : (⟨S8x768, .f32⟩ : BufTy).Contents (Elt Ideal)) (ix2 h k) =
      biases (m (c, Proc.tc.devRef main_arg1)) h.val ((max (-256) (min 256 ((512:ℤ)+127-k.val)) + 256).toNat) := by
  have hlt : (max (-256) (min 256 ((512:ℤ)+127-k.val)) + 256).toNat < 513 := by omega
  obtain ⟨h1, h2⟩ := wrap_word ⟨_, hlt⟩
  dsimp only at h1 h2
  rw [biases_eq _ _ _ hlt]
  unfold V
  after_reads_at
  have e : ∀ w : BitVec 32, id (constantI S_ 32 w) ix0 = w := fun _ => rfl
  simp only [e, rel_word k]
  rw [take_cols]
  pointwise
  simp only [e, rel_word k, h1, h2.1, h2.2]
  have hm : min ((max (-256) (min 256 ((512:ℤ)+127-k.val)) + 256).toNat) 512 = (max (-256) (min 256 ((512:ℤ)+127-k.val)) + 256).toNat := by omega
  simp only [hm]
  rw [fold_one]
  rfl

/-- The two parts of a row that is rolled: what comes first -/
theorem roll_left (h : Fin 8) (q : Fin 641) :
  (StableHlo.upto [hostOps0, hostOps0_1, hostOps0_2, hostOps0_3, hostOps0_4, hostOps0_5, hostOps0_6, hostOps0_7, hostOps0_8, hostOps0_9, hostOps0_10].flatten
          (fun b => m (c, b)) 93 (Proc.tc.devRef main_call4_v0) : (⟨S8x641, .f32⟩ : BufTy).Contents (Elt Ideal)) (ix2 h q) =
    (V m c main_v22 : (⟨S8x768, .f32⟩ : BufTy).Contents (Elt Ideal)) (ix2 h ⟨127 + q.val, by omega⟩) := by
  unfold V
  after_reads_at

/-- and what comes last. -/
theorem roll_right (h : Fin 8) (q : Fin 127) :
  (StableHlo.upto [hostOps0, hostOps0_1, hostOps0_2, hostOps0_3, hostOps0_4, hostOps0_5, hostOps0_6, hostOps0_7, hostOps0_8, hostOps0_9, hostOps0_10].flatten
          (fun b => m (c, b)) 93 (Proc.tc.devRef main_call4_v1) : (⟨S8x127, .f32⟩ : BufTy).Contents (Elt Ideal)) (ix2 h q) =
    (V m c main_v22 : (⟨S8x768, .f32⟩ : BufTy).Contents (Elt Ideal)) (ix2 h ⟨q.val, by omega⟩) := by
  unfold V
  after_reads_at

/-- A selection by a word that tells whether `p` holds, its second part `-∞`. -/
theorem select_parts {w : BitVec 1} {x y z : EReal} {p : Prop} [Decidable p] (hw : w = if p then 1#1 else 0#1) (hy : y = ⊥) (hx : p → x = z) :
    Scalar.select w x y = if p then z else ⊥ := by
  subst hw hy
  by_cases hp : p
  · rw [if_pos hp, if_pos hp, ← hx hp]; rfl
  · rw [if_neg hp, if_neg hp]; rfl

/-- The table of biases: inside its chunks a query row has the bias of its distance, outside them it has `-∞`. -/
theorem table_apply (h : Fin 8) (r : Fin 128) (j : Fin 640) :
    (V m c main_v31 : (⟨S8x128x640, .f32⟩ : BufTy).Contents (Elt Ideal)) (ix3 h r j) =
      if base r.val ≤ j.val ∧ j.val < base r.val + 576 then biases (m (c, Proc.tc.devRef main_arg1)) h.val (relIx r.val j.val) else ⊥ := by
  unfold V
  after_reads_at
  refine select_parts (valid_apply r j) ?_ ?_
  · show Ideal.ofBits .f32 0xFF800000#32 = ⊥
    simp [Ideal.ofBits, Ideal.ieee]
  · intro hc
    by_cases h1 : (r.val * 767 + j.val) % 768 < 641
    · refine (dif_pos h1).trans ((roll_left m c h ⟨_, h1⟩).trans ((take_apply m c h _).trans (congrArg (biases _ h.val) ?_)))
      unfold relIx
      dsimp only
      omega
    · refine (dif_neg h1).trans ((roll_right m c h ⟨_, by omega⟩).trans ((take_apply m c h _).trans (congrArg (biases _ h.val) ?_)))
      unfold relIx
      dsimp only
      omega

end Cert.KernelIdeal.Attn
-- ==== Proof.AttnKernelValue.lean ====
/- The arrays that the attention's backward kernel leaves: the gradients of the queries, the keys and the values of the eight heads. -/
module

public import proofs.«01_k».proof.Proof.AttnFrame
public import proofs.«01_k».proof.Proof.AttnTable
public import Idealize.ShloMosaic.Lib.Pipeline.ValueKit

@[expose] public section

set_option maxRecDepth 16384

noncomputable section

namespace Cert.KernelIdeal.Attn

open Idealize.ShloMosaic Idealize.ShloMosaic.TcCoe
open Cert.KernelIdeal Cert.KernelIdeal.Gen Cert.Attn

variable (m : (ℓ : Loc nD τ sig) → Buf (Elt Ideal) ℓ) (c : Dev nD)

/-- An array of the eight heads' columns side by side. -/
def heads (f : Head → ℕ → ℕ → EReal) (x : S2048x6144.Idx → EReal) (y : S8x513.Idx → EReal) (z : S2048x2048.Idx → EReal) : S2048x1024.Idx → EReal :=
  fun i => f (headOf x y z ((i 1).val / 128)) (i 0).val ((i 1).val % 128)

/-- Which block of each array a point works on: its head's. -/
theorem index : ∀ t : Fin cfg0.N, win0_0.index t = ![0, t.val] ∧ win0_1.index t = ![0, 8 + t.val] ∧ win0_2.index t = ![0, 16 + t.val]
    ∧ win0_3.index t = ![0, t.val] ∧ win0_4.index t = ![t.val, 0, 0]
    ∧ win0_5.index t = ![0, t.val] ∧ win0_6.index t = ![0, t.val] ∧ win0_7.index t = ![0, t.val] :=
  fun t => (by decide +kernel : ∀ t : Fin grid0.N, win0_0.index t = ![0, t.val] ∧ win0_1.index t = ![0, 8 + t.val] ∧ win0_2.index t = ![0, 16 + t.val]
    ∧ win0_3.index t = ![0, t.val] ∧ win0_4.index t = ![t.val, 0, 0]
    ∧ win0_5.index t = ![0, t.val] ∧ win0_6.index t = ![0, t.val] ∧ win0_7.index t = ![0, t.val]) t

set_option maxHeartbeats 1000000 in
/-- The point's blocks of the queries, the keys, the values and the cotangents are the head's columns. -/
theorem blocks (t : Fin cfg0.N) :
    (∀ (a : Fin 2048) (d : Fin 128), (iblk m c 0 t : Vec Ideal S2048x128 .bf16) (ix2 a d) = cols (m (c.tc.loc main_arg0)) (128 * t.val) a.val d.val)
      ∧ (∀ (a : Fin 2048) (d : Fin 128), (iblk m c 1 t : Vec Ideal S2048x128 .bf16) (ix2 a d) = cols (m (c.tc.loc main_arg0)) (1024 + 128 * t.val) a.val d.val)
      ∧ (∀ (a : Fin 2048) (d : Fin 128), (iblk m c 2 t : Vec Ideal S2048x128 .bf16) (ix2 a d) = cols (m (c.tc.loc main_arg0)) (2048 + 128 * t.val) a.val d.val)
      ∧ ∀ (a : Fin 2048) (d : Fin 128), (iblk m c 3 t : Vec Ideal S2048x128 .bf16) (ix2 a d) = cols (m (c.tc.loc main_arg2)) (128 * t.val) a.val d.val := by
  have ht : t.val < 8 := t.isLt
  refine ⟨fun a d => ?_, fun a d => ?_, fun a d => ?_, fun a d => ?_⟩
  all_goals
    rw [cols_eq _ _ _ _ a.isLt d.isLt (by omega)]
    blk_simp [iblk]
    first
      | rw [V_main_arg0]
      | rw [V_main_arg2]
    refine congrArg (m _) ?_
    blk_ext [index t]

/-- The point's block of the table: inside its chunks a query row has the bias of its distance, outside them it has `-∞`. -/
theorem block_t (t : Fin cfg0.N) (r : Fin 128) (j : Fin 640) :
    (iblk m c 4 t : Vec Ideal S1x128x640 .f32) (ix3 0 r j) =
      if base r.val ≤ j.val ∧ j.val < base r.val + 576 then biases (m (c, Proc.tc.devRef main_arg1)) t.val (relIx r.val j.val) else ⊥ := by
  have ht : t.val < 8 := t.isLt
  blk_simp [iblk]
  have e : (win0_4.blk t).view.emb (ix3 0 r j) = ix3 ⟨t.val, ht⟩ r j := by
    blk_ext [index t]
  exact (congrArg (V m c main_v31) e).trans (table_apply m c ⟨t.val, ht⟩ r j)

/-- The point's blocks are the head's arrays. -/
theorem reads_at (t : Fin cfg0.N) :
    Reads (headOf (m (c.tc.loc main_arg0)) (m (c.tc.loc main_arg1)) (m (c.tc.loc main_arg2)) t.val)
      (iblk m c 0 t) (iblk m c 1 t) (iblk m c 2 t) (iblk m c 3 t) (iblk m c 4 t) :=
  ⟨(blocks m c t).1, (blocks m c t).2.1, (blocks m c t).2.2.1, (blocks m c t).2.2.2, block_t m c t⟩

/-- Where an index of the three written blocks stands in the arrays. -/
theorem stands (t : Fin cfg0.N) (s : Fin 2048) (d : Fin 128) (h : 128 * t.val + d.val < 1024) :
    (win0_5.blk t).view.emb (ix2 s d) = ix2 s ⟨128 * t.val + d.val, h⟩ ∧ (win0_6.blk t).view.emb (ix2 s d) = ix2 s ⟨128 * t.val + d.val, h⟩
      ∧ (win0_7.blk t).view.emb (ix2 s d) = ix2 s ⟨128 * t.val + d.val, h⟩ := by
  refine ⟨?_, ?_, ?_⟩ <;> blk_ext [index t]

/-- The heads' columns side by side, at a column of head `t`. -/
theorem heads_at (f : Head → ℕ → ℕ → EReal) (x : S2048x6144.Idx → EReal) (y : S8x513.Idx → EReal) (z : S2048x2048.Idx → EReal)
    (t : ℕ) (s : Fin 2048) (d : Fin 128) (h : 128 * t + d.val < 1024) :
    heads f x y z (ix2 s ⟨128 * t + d.val, h⟩) = f (headOf x y z t) s.val d.val := by
  show f (headOf x y z ((128 * t + d.val) / 128)) s.val ((128 * t + d.val) % 128) = _
  rw [show (128 * t + d.val) / 128 = t by omega, show (128 * t + d.val) % 128 = d.val by omega]

/-- The kernel leaves the gradients of the queries, of the keys and of the values. -/
theorem final (hr : ∀ h : Fin 8, (headOf (m (c.tc.loc main_arg0)) (m (c.tc.loc main_arg1)) (m (c.tc.loc main_arg2)) h.val).IsReal) :
    (dats m 0 c).arrAt 5 cfg0.N = heads Head.dq (m (c.tc.loc main_arg0)) (m (c.tc.loc main_arg1)) (m (c.tc.loc main_arg2))
      ∧ (dats m 0 c).arrAt 6 cfg0.N = heads Head.dk (m (c.tc.loc main_arg0)) (m (c.tc.loc main_arg1)) (m (c.tc.loc main_arg2))
      ∧ (dats m 0 c).arrAt 7 cfg0.N = heads Head.dv (m (c.tc.loc main_arg0)) (m (c.tc.loc main_arg1)) (m (c.tc.loc main_arg2)) := by
  refine ⟨(dats m 0 c).arrAt_eq_of_covers 5 _ (by decide +kernel) fun t _ y => ?_, (dats m 0 c).arrAt_eq_of_covers 6 _ (by decide +kernel) fun t _ y => ?_,
    (dats m 0 c).arrAt_eq_of_covers 7 _ (by decide +kernel) fun t _ y => ?_⟩
  all_goals
    have ht : t.val < 8 := t.isLt
    obtain ⟨s, d, rfl⟩ : ∃ (s : Fin 2048) (d : Fin 128), y = ix2 s d := ⟨y 0, y 1, by idx_vars y⟩
    obtain ⟨e5, e6, e7⟩ := stands t s d (by omega)
    have R := reads_at m c t
    have hR := hr ⟨t.val, ht⟩
    blk_simp
    first
      | rw [after_5, e5, heads_at]; exact gradQ_apply R hR s d
      | rw [after_6, e6, heads_at]; exact gradK_apply R hR s d
      | rw [after_7, e7, heads_at]; exact gradV_apply R hR s d

end Cert.KernelIdeal.Attn
-- ==== Proof.AttnRefValue.lean ====
module

public import proofs.«01_k».proof.Proof.Gen.ReferenceIdeal.Run
public import proofs.«01_k».proof.Proof.AttnArrays
public import Idealize.ShloMosaic.Lib.Routing.OpsPair
public import Idealize.ShloMosaic.Lib.Tactic.CleanTypes

/-! The reference's arrays, read at an index. -/

@[expose] public section

set_option maxRecDepth 16384

noncomputable section

namespace Cert.ReferenceIdeal.Attn

open Idealize.ShloMosaic Cert.ReferenceIdeal Cert.ReferenceIdeal.Gen Cert.ReferenceIdeal.Value Cert.Attn

variable (V0 : Valuation τ sig (Elt Ideal))

/-- Head `h` of the arrays a run starts with. -/
def hd (h : ℕ) : Head :=
  headOf (V0 (Proc.devRef .tc main_arg0)) (V0 (Proc.devRef .tc main_arg1)) (V0 (Proc.devRef .tc main_arg2)) h

/-- An array at two spellings of one place. -/
theorem at_ix2 {α : Type} {n0 n1 : ℕ} (x : (⟨2, ![n0, n1]⟩ : Shape).Idx → α) {a a' b b' : ℕ} {ha : a < n0} {ha' : a' < n0} {hb : b < n1} {hb' : b' < n1}
    (h0 : a = a') (h1 : b = b') : x (ix2 ⟨a, ha⟩ ⟨b, hb⟩) = x (ix2 ⟨a', ha'⟩ ⟨b', hb'⟩) := by
  subst h0 h1; rfl

/-- The queries, chunk by chunk. -/
theorem v9_apply (n : Fin 32) (q : Fin 64) (h : Fin 8) (d : Fin 128) :
    (res_main_v9 V0 : (⟨S1x32x64x8x128, .f32⟩ : BufTy).Contents (Elt Ideal)) (ix5 0 n q h d) = (hd V0 h.val).Q (64 * n.val + q.val) d.val := by
  unfold hd headOf
  dsimp only
  rw [cols_eq _ _ _ _ (by omega) (by omega) (by omega)]
  unfold res_main_v9 res_main_v2
  clean_types
  pointwise
  exact at_ix2 _ (by omega) (by omega)

/-- The number of a band's chunk, as a word: it isn't negative and stays as it is. -/
theorem word_n : ∀ (n : Fin 32) (b : Fin 9),
    Scalar.select (IntOp.cmpi CmpIPredicate.slt (IntOp.addi (BitVec.ofNat 32 n.val) (BitVec.ofNat 32 b.val)) 0#32)
      (IntOp.addi (IntOp.addi (BitVec.ofNat 32 n.val) (BitVec.ofNat 32 b.val)) 40#32) (IntOp.addi (BitVec.ofNat 32 n.val) (BitVec.ofNat 32 b.val))
      = BitVec.ofNat 32 (n.val + b.val) := by
  decide +kernel

/-- The numbers of the chunks at which the keys are taken -/
theorem v29_apply (n : Fin 32) (b : Fin 9) :
    (res_main_v29 V0 : (⟨S32x9x1, .i32⟩ : BufTy).Contents (Elt Ideal)) (ix3 n b 0) = BitVec.ofNat 32 (n.val + b.val) := by
  unfold res_main_v29 res_main_v23
  clean_types
  pointwise
  exact word_n n b

/-- and those at which the values are taken: block `b` of chunk `n` is chunk `n + b`. -/
theorem v37_apply (n : Fin 32) (b : Fin 9) :
    (res_main_v37 V0 : (⟨S32x9x1, .i32⟩ : BufTy).Contents (Elt Ideal)) (ix3 n b 0) = BitVec.ofNat 32 (n.val + b.val) :=
  v29_apply V0 n b

/-- The gather of whole chunks at an index: the chunk's number is read signed and clamped. -/
theorem take_chunks {α : Type} (x : S1x40x64x8x128.Idx → α) (idx : IVec S32x9x1 32) (n : Fin 32) (b : Fin 9) (r : Fin 64) (h : Fin 8) (d : Fin 128) :
    Host.gather gather_S1x40x64x8x128_S32x9x1_S1x32x9x64x8x128_0345_1_n_n_1_2_11648128 x idx (ix6 0 n b r h d) =
      x (ix5 0 ⟨min (idx (ix3 n b 0)).toInt.toNat 39, by omega⟩ r h d) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  have e : ∀ a : Fin 5, a ≠ 1 → gather_S1x40x64x8x128_S32x9x1_S1x32x9x64x8x128_0345_1_n_n_1_2_11648128.start (ix6 0 n b r h d) idx a = 0 := by
    intro a ha
    unfold GatherDims.start
    exact dif_neg (show a ∉ [(1 : Fin 5)] by simpa using ha)
  match a with
  | ⟨0, h0⟩ => exact congrArg (· + _) ((Nat.add_zero _).trans (e 0 (by decide))) |>.trans (Nat.zero_add _)
  | ⟨2, h0⟩ => exact congrArg (· + _) ((Nat.add_zero _).trans (e 2 (by decide))) |>.trans (Nat.zero_add _)
  | ⟨3, h0⟩ => exact congrArg (· + _) ((Nat.add_zero _).trans (e 3 (by decide))) |>.trans (Nat.zero_add _)
  | ⟨4, h0⟩ => exact congrArg (· + _) ((Nat.add_zero _).trans (e 4 (by decide))) |>.trans (Nat.zero_add _)
  | ⟨1, _⟩ =>
    have hsi : gather_S1x40x64x8x128_S32x9x1_S1x32x9x64x8x128_0345_1_n_n_1_2_11648128.siIdx (ix6 0 n b r h d) ⟨0, by decide⟩ = ix3 n b 0 := by
      funext b; refine Fin.ext ?_
      match b with
      | ⟨0, _⟩ => rfl
      | ⟨1, _⟩ => rfl
      | ⟨2, _⟩ => rfl
    show min (idx (gather_S1x40x64x8x128_S32x9x1_S1x32x9x64x8x128_0345_1_n_n_1_2_11648128.siIdx (ix6 0 n b r h d) ⟨0, _⟩)).toInt.toNat 39 + 0 + 0 = _
    rw [hsi]
    rfl

/-- The gather of biases at an index: the column's number is read signed and clamped. -/
theorem take_bias {α : Type} (x : S8x513.Idx → α) (idx : IVec S64x576x1 32) (h : Fin 8) (q : Fin 64) (k : Fin 576) :
    Host.gather gather_S8x513_S64x576x1_S8x64x576_0_1_n_n_1_2_81 x idx (ix3 h q k) =
      x (ix2 h ⟨min (idx (ix3 q k 0)).toInt.toNat 512, by omega⟩) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  match a with
  | ⟨0, h0⟩ =>
    have e : gather_S8x513_S64x576x1_S8x64x576_0_1_n_n_1_2_81.start (ix3 h q k) idx ⟨0, h0⟩ = 0 := by
      unfold GatherDims.start
      exact dif_neg (show (0 : Fin 2) ∉ [(1 : Fin 2)] by decide)
    rw [e, Nat.add_zero, Nat.zero_add]
    rfl
  | ⟨1, _⟩ =>
    have hsi : gather_S8x513_S64x576x1_S8x64x576_0_1_n_n_1_2_81.siIdx (ix3 h q k) ⟨0, by decide⟩ = ix3 q k 0 := by
      funext b; refine Fin.ext ?_
      match b with
      | ⟨0, _⟩ => rfl
      | ⟨1, _⟩ => rfl
      | ⟨2, _⟩ => rfl
    show min (idx (gather_S8x513_S64x576x1_S8x64x576_0_1_n_n_1_2_81.siIdx (ix3 h q k) ⟨0, _⟩)).toInt.toNat 512 + 0 + 0 = _
    rw [hsi]
    rfl

/-- Clamping leaves the number of a band's chunk as it is. -/
theorem word_chunk : ∀ (n : Fin 32) (b : Fin 9), min (BitVec.ofNat 32 (n.val + b.val)).toInt.toNat 39 = n.val + b.val := by
  decide +kernel

/-- The gather of whole chunks at `n + b`. -/
theorem take_chunk {α : Type} (x : S1x40x64x8x128.Idx → α) (idx : IVec S32x9x1 32) (n : Fin 32) (b : Fin 9) (r : Fin 64) (h : Fin 8) (d : Fin 128)
    (hi : idx (ix3 n b 0) = BitVec.ofNat 32 (n.val + b.val)) :
    Host.gather gather_S1x40x64x8x128_S32x9x1_S1x32x9x64x8x128_0345_1_n_n_1_2_11648128 x idx (ix6 0 n b r h d) =
      x (ix5 0 ⟨n.val + b.val, by omega⟩ r h d) := by
  rw [take_chunks]
  simp only [hi, word_chunk]

/-- The padded rows of the columns that start at `o`, chunk by chunk. -/
theorem padded (o : ℕ) (hs : S1x2048x3072.Slices ![0, 0, o] S1x2048x1024) (ho : o + 1024 ≤ 3072) (c : Fin 40) (r : Fin 64) (h : Fin 8) (d : Fin 128) :
    shapeCast S1x40x64x8x128
        (concatenate S1x2560x8x128 1
          [⟨S1x512x8x128, res_main_v10 V0⟩,
            ⟨S1x2048x8x128, shapeCast S1x2048x8x128 (extractStridedSlice S1x2048x1024 ![0, 0, o] (res_main_v2 V0) hs) shapeCasts_S1x2048x1024_S1x2048x8x128⟩]
          concatenates_S1x512x8x128_S1x2048x8x128_S1x2560x8x128_d1)
        shapeCasts_S1x2560x8x128_S1x40x64x8x128 (ix5 0 c r h d) =
      padRows (cols (V0 (Proc.devRef .tc main_arg0) : S2048x6144.Idx → EReal) (o + 128 * h.val)) (64 * c.val + r.val) d.val := by
  unfold res_main_v10 res_main_v2 padRows
  clean_types
  pointwise
  by_cases hc : 64 * c.val + r.val < 512
  · exact (dif_pos (show c.val * 64 + r.val < 512 by omega)).trans (if_pos hc).symm
  · refine (dif_neg (show ¬c.val * 64 + r.val < 512 by omega)).trans (Eq.trans ?_ (if_neg hc).symm)
    refine Eq.trans ?_ (cols_eq (n := 6144) _ _ _ _ (by omega) (by omega) (by omega)).symm
    exact at_ix2 _ (by omega) (by omega)

/-- The band of a chunk: from chunks of padded rows, taken at `n + b` for the blocks `b` of the band, the rows that start with chunk `n`. -/
theorem band {f : ℕ → ℕ → EReal} (x : S1x40x64x8x128.Idx → EReal) (idx : IVec S32x9x1 32) (h : Fin 8) (d : Fin 128)
    (hi : ∀ (n : Fin 32) (b : Fin 9), idx (ix3 n b 0) = BitVec.ofNat 32 (n.val + b.val))
    (hx : ∀ (c : Fin 40) (r : Fin 64), x (ix5 0 c r h d) = padRows f (64 * c.val + r.val) d.val) (n : Fin 32) (k : Fin 576) :
    shapeCast S1x32x576x8x128 (Host.gather gather_S1x40x64x8x128_S32x9x1_S1x32x9x64x8x128_0345_1_n_n_1_2_11648128 x idx)
      shapeCasts_S1x32x9x64x8x128_S1x32x576x8x128 (ix5 0 n k h d) = padRows f (64 * n.val + k.val) d.val := by
  rw [show ∀ x : S1x32x9x64x8x128.Idx → EReal, shapeCast S1x32x576x8x128 x shapeCasts_S1x32x9x64x8x128_S1x32x576x8x128 (ix5 0 n k h d) =
    x (ix6 0 n ⟨k.val / 64, by omega⟩ ⟨k.val % 64, by omega⟩ h d) from fun x => by pointwise]
  refine (take_chunk _ _ n ⟨k.val / 64, by omega⟩ _ _ _ (hi _ _)).trans ((hx _ _).trans ?_)
  show padRows f (64 * (n.val + k.val / 64) + k.val % 64) d.val = _
  congr 1
  omega

/-- The keys of a chunk's band. -/
theorem v31_apply (n : Fin 32) (k : Fin 576) (h : Fin 8) (d : Fin 128) :
    (res_main_v31 V0 : (⟨S1x32x576x8x128, .f32⟩ : BufTy).Contents (Elt Ideal)) (ix5 0 n k h d) = padRows (hd V0 h.val).K (64 * n.val + k.val) d.val := by
  unfold res_main_v31
  clean_types
  exact band _ _ h d (v29_apply V0) (fun c r => padded V0 1024 _ (by omega) c r h d) n k

/-- The values of a chunk's band. -/
theorem v39_apply (n : Fin 32) (k : Fin 576) (h : Fin 8) (d : Fin 128) :
    (res_main_v39 V0 : (⟨S1x32x576x8x128, .f32⟩ : BufTy).Contents (Elt Ideal)) (ix5 0 n k h d) = padRows (hd V0 h.val).V (64 * n.val + k.val) d.val := by
  unfold res_main_v39
  clean_types
  exact band _ _ h d (v37_apply V0) (fun c r => padded V0 2048 _ (by omega) c r h d) n k

/-- The mask of the padding, chunk by chunk. -/
theorem word_mask : ∀ (n : Fin 32) (b : Fin 9),
    IntOp.cmpi CmpIPredicate.sge (IntOp.addi (BitVec.ofNat 32 n.val) (BitVec.ofNat 32 b.val)) 8#32 = if 8 ≤ n.val + b.val then 1#1 else 0#1 := by
  decide +kernel

/-- The mask of the padding. -/
theorem v71_1_apply (n : Fin 32) (h : Fin 8) (q : Fin 64) (k : Fin 576) :
    (res_main_v71_1 V0 : (⟨S1x8x32x64x576, .i1⟩ : BufTy).Contents (Elt Ideal)) (ix5 0 h n q k) = if 512 ≤ 64 * n.val + k.val then 1#1 else 0#1 := by
  unfold res_main_v71_1 res_main_v23
  clean_types
  pointwise
  refine (word_mask n ⟨k.val / 64, by omega⟩).trans ?_
  dsimp only
  congr 1
  simp only [eq_iff_iff]
  omega

/-- The distance of a key from a query, as a word. -/
theorem word_dist (q : Fin 64) (k : Fin 576) :
    IntOp.subi (IntOp.addi (BitVec.ofNat 32 q.val) 512#32) (BitVec.ofNat 32 k.val) = IntOp.subi (BitVec.ofNat 32 (q.val + 575 - k.val)) 63#32 := by
  unfold IntOp.subi IntOp.addi
  apply BitVec.eq_of_toNat_eq
  simp only [BitVec.toNat_sub, BitVec.toNat_add, BitVec.toNat_ofNat]
  omega

/-- The clipped distance, as a word. -/
theorem word_clip : ∀ j : Fin 640,
    IntOp.addi (IntOp.minsi 256#32 (IntOp.maxsi 4294967040#32 (IntOp.subi (BitVec.ofNat 32 j.val) 63#32))) 256#32 =
      BitVec.ofNat 32 (max (-256) (min 256 ((j.val : ℤ) - 63)) + 256).toNat := by
  decide +kernel

/-- Wrapping and clamping leave the number of a bias as it is. -/
theorem word_wrap : ∀ n : Fin 513,
    min (Scalar.select (IntOp.cmpi CmpIPredicate.slt (BitVec.ofNat 32 n.val) 0#32) (IntOp.addi (BitVec.ofNat 32 n.val) 513#32)
      (BitVec.ofNat 32 n.val)).toInt.toNat 512 = n.val := by
  decide +kernel

/-- The number of the bias of a query and a key. -/
theorem v54_apply (q : Fin 64) (k : Fin 576) (n : ℕ) :
    (res_main_v54 V0 : (⟨S64x576, .i32⟩ : BufTy).Contents (Elt Ideal)) (ix2 q k) = BitVec.ofNat 32 (relIx (64 * n + q.val) (64 * n + k.val)) := by
  unfold res_main_v54
  clean_types
  pointwise
  have e : ∀ w : BitVec 32, id (constantI S_ 32 w) ix0 = w := fun _ => rfl
  simp only [e, word_dist]
  refine (word_clip ⟨q.val + 575 - k.val, by omega⟩).trans ?_
  unfold relIx
  congr 1
  dsimp only
  omega

end Cert.ReferenceIdeal.Attn
-- ==== Proof.AttnRefGrad.lean ====
module

public import proofs.«01_k».proof.Proof.AttnRefValue

/-! The reference's gradients, read at an index. -/

@[expose] public section

set_option maxRecDepth 16384

noncomputable section

namespace Cert.ReferenceIdeal.Attn

open Idealize.ShloMosaic Cert.ReferenceIdeal Cert.ReferenceIdeal.Gen Cert.ReferenceIdeal.Value Cert.Attn

variable (V0 : Valuation τ sig (Elt Ideal))

/-- A selection by a word that tells whether `p` holds, its two parts known by equations. -/
theorem select_both {w : BitVec 1} {x y z y' : EReal} {p q : Prop} [Decidable p] [Decidable q] (hw : w = if p then 1#1 else 0#1) (hpq : p ↔ q)
    (hx : x = z) (hy : y = y') : Scalar.select w x y = if q then z else y' := by
  subst hw hy hx
  by_cases hp : p
  · rw [if_pos hp, if_pos (hpq.1 hp)]; rfl
  · rw [if_neg hp, if_neg (mt hpq.2 hp)]; rfl

/-- A bias taken at the number that the index array holds. -/
theorem bias_apply (y : S8x513.Idx → EReal) (idx : IVec S64x576x1 32) (h : Fin 8) (q : Fin 64) (k : Fin 576) (r : ℕ) (hr : r < 513)
    (hi : min (idx (ix3 q k 0)).toInt.toNat 512 = r) :
    Host.gather gather_S8x513_S64x576x1_S8x64x576_0_1_n_n_1_2_81 y idx (ix3 h q k) = biases y h.val r := by
  rw [take_bias, biases_eq _ _ _ hr]
  simp only [hi]

/-- The scores, `-∞` off the band and on the padding. -/
theorem v71_0_apply (n : Fin 32) (h : Fin 8) (q : Fin 64) (k : Fin 576) :
    (res_main_v71_0 V0 : (⟨S1x8x32x64x576, .f32⟩ : BufTy).Contents (Elt Ideal)) (ix5 0 h n q k) = (hd V0 h.val).sc (64 * n.val + q.val) (64 * n.val + k.val) := by
  have hlt : relIx (64 * n.val + q.val) (64 * n.val + k.val) < 513 := by unfold relIx; omega
  unfold res_main_v71_0
  clean_types
  pointwise
  refine select_both (v71_1_apply V0 n h q k) (by unfold base; omega) (congrArg₂ (· + ·) ?_ ?_) ?_
  · refine congrArg (· * scale) (Finset.sum_congr rfl fun x _ => ?_)
    rw [v9_apply, v31_apply]
  · refine bias_apply _ _ h q k _ hlt ?_
    pointwise
    simp only [v54_apply V0 q k n.val]
    exact word_wrap ⟨_, hlt⟩
  · show Ideal.ofBits .f32 0xFF800000#32 = ⊥
    simp [Ideal.ofBits, Ideal.ieee]

/-- The first position of a query's band, from its chunk. -/
theorem base_row (n : Fin 32) (q : Fin 64) : base (64 * n.val + q.val) = 64 * n.val := by unfold base; omega

/-- The word of the least number stands for `-∞`. -/
theorem neg_inf : Ideal.ofBits .f32 0xFF800000#32 = ⊥ := by simp [Ideal.ofBits, Ideal.ieee]

/-- The greatest score of a query. -/
theorem v72_apply (n : Fin 32) (h : Fin 8) (q : Fin 64) :
    (res_main_v72 V0 : (⟨S1x8x32x64, .f32⟩ : BufTy).Contents (Elt Ideal)) (ix4 0 h n q) = (hd V0 h.val).mx (64 * n.val + q.val) := by
  unfold res_main_v72
  clean_types
  pointwise
  simp only [v71_0_apply, neg_inf]
  rw [Head.mx, base_row]
  rfl

/-- The greatest scores, spread over the band. -/
theorem max_spread (b : S1x8x32x64.Idx → EReal) (n : Fin 32) (h : Fin 8) (q : Fin 64) (k : Fin 576) :
    (broadcastInDim S1x8x32x64x576 ![0, 1, 2, 3, 4] bcast_S1x8x32x64x1_S1x8x32x64x576_0_1_2_3_4
      (broadcastInDim S1x8x32x64x1 ![0, 1, 2, 3] bcast_S1x8x32x64_S1x8x32x64x1_0_1_2_3
        (maximumf (F := Ideal) (φ := .f32) (broadcastInDim S1x8x32x64 ![] bcast_S_S1x8x32x64 (constant S_ .f32 0xFF800000#32)) b))) (ix5 0 h n q k) =
      b (ix4 0 h n q) := by
  pointwise
  rw [neg_inf]
  exact max_eq_right bot_le

/-- The exponential of a difference, at an index. -/
theorem exp_sub (a c : S1x8x32x64x576.Idx → EReal) (i : S1x8x32x64x576.Idx) :
    Host.exp (F := Ideal) (φ := .f32) (subf a c) i = Ideal.exp (a i - c i) := by rfl

/-- The exponentials. -/
theorem v92_apply (n : Fin 32) (h : Fin 8) (q : Fin 64) (k : Fin 576) :
    (res_main_v92 V0 : (⟨S1x8x32x64x576, .f32⟩ : BufTy).Contents (Elt Ideal)) (ix5 0 h n q k) = (hd V0 h.val).ex (64 * n.val + q.val) (64 * n.val + k.val) := by
  unfold res_main_v92
  refine (exp_sub _ _ _).trans ?_
  rw [max_spread, v71_0_apply, v72_apply]
  rfl

/-- Their sum over the band. -/
theorem v94_apply (n : Fin 32) (h : Fin 8) (q : Fin 64) :
    (res_main_v94 V0 : (⟨S1x8x32x64x1, .f32⟩ : BufTy).Contents (Elt Ideal)) (ix5 0 h n q 0) = (hd V0 h.val).sm (64 * n.val + q.val) := by
  unfold res_main_v94
  clean_types
  pointwise
  simp only [v92_apply]
  rw [Head.sm, base_row]
  rfl

/-- The softmax. -/
theorem v96_apply (n : Fin 32) (h : Fin 8) (q : Fin 64) (k : Fin 576) :
    (res_main_v96 V0 : (⟨S1x8x32x64x576, .f32⟩ : BufTy).Contents (Elt Ideal)) (ix5 0 h n q k) = (hd V0 h.val).pr (64 * n.val + q.val) (64 * n.val + k.val) := by
  unfold res_main_v96
  clean_types
  pointwise
  rw [v92_apply, v94_apply]
  rfl

/-- The cotangents, chunk by chunk. -/
theorem v106_apply (n : Fin 32) (h : Fin 8) (d : Fin 128) (q : Fin 64) :
    (res_main_v106 V0 : (⟨S1x32x8x128x64, .f32⟩ : BufTy).Contents (Elt Ideal)) (ix5 0 n h d q) = (hd V0 h.val).D (64 * n.val + q.val) d.val := by
  unfold hd headOf
  dsimp only
  rw [cols_eq _ _ _ _ (by omega) (by omega) (by omega)]
  unfold res_main_v106
  clean_types
  pointwise
  exact at_ix2 _ (by omega) (by omega)

/-- The gradients of the softmax. -/
theorem v108_apply (n : Fin 32) (h : Fin 8) (q : Fin 64) (k : Fin 576) :
    (res_main_v108 V0 : (⟨S1x8x32x64x576, .f32⟩ : BufTy).Contents (Elt Ideal)) (ix5 0 h n q k) = (hd V0 h.val).dp (64 * n.val + q.val) (64 * n.val + k.val) := by
  unfold res_main_v108
  clean_types
  pointwise
  simp only [v106_apply, v39_apply]
  rfl

/-- A sum over two axes of length one is the entry itself. -/
theorem sum_ends (x : S1x8x32x64x1.Idx → EReal) (n : Fin 32) (h : Fin 8) (q : Fin 64) :
    Ideal.hostReduceAdd reducesTo_S1x8x32x64x1_S8x32x64_d0_4 x 0 (ix3 h n q) = x (ix5 0 h n q 0) := by
  unfold Ideal.hostReduceAdd
  rw [zero_add]
  refine Finset.sum_eq_single_of_mem _ ?_ ?_
  · refine Finset.mem_filter.2 ⟨Finset.mem_univ _, ?_⟩
    funext a
    refine Fin.ext ?_
    match a with
    | ⟨0, _⟩ => rfl
    | ⟨1, _⟩ => rfl
    | ⟨2, _⟩ => rfl
  · intro i hi hne
    refine absurd ?_ hne
    have e := (Finset.mem_filter.1 hi).2
    have e0 : (i 1).val = h.val := congrArg Fin.val (congrFun e 0)
    have e1 : (i 2).val = n.val := congrArg Fin.val (congrFun e 1)
    have e2 : (i 3).val = q.val := congrArg Fin.val (congrFun e 2)
    have f0 : (i 0).val < 1 := (i 0).isLt
    have f4 : (i 4).val < 1 := (i 4).isLt
    funext a
    refine Fin.ext ?_
    match a with
    | ⟨0, _⟩ => show (i 0).val = 0; omega
    | ⟨1, _⟩ => exact e0
    | ⟨2, _⟩ => exact e1
    | ⟨3, _⟩ => exact e2
    | ⟨4, _⟩ => show (i 4).val = 0; omega

/-- The gradients of the scores, scaled. -/
theorem v126_apply (n : Fin 32) (h : Fin 8) (q : Fin 64) (k : Fin 576) (hr : (hd V0 h.val).IsReal) :
    (res_main_v126 V0 : (⟨S1x8x32x64x576, .f32⟩ : BufTy).Contents (Elt Ideal)) (ix5 0 h n q k) = (hd V0 h.val).ds (64 * n.val + q.val) (64 * n.val + k.val) * scale := by
  unfold res_main_v126
  clean_types
  pointwise
  rw [sum_ends]
  pointwise
  simp only [v71_1_apply, v92_apply, v94_apply, v108_apply]
  refine (select_both rfl Iff.rfl rfl rfl).trans ?_
  by_cases hk : 512 ≤ 64 * n.val + k.val
  · rw [if_pos hk, ← hr.ds_quotient, base_row]
    rfl
  · rw [if_neg hk, hr.ds_dead (fun e => hk e.2), zero_mul]

end Cert.ReferenceIdeal.Attn
-- ==== Proof.AttnRefSum.lean ====
module

public import proofs.«01_k».proof.Proof.AttnRefGrad

/-! The reference's three results, read at an index. -/

@[expose] public section

set_option maxRecDepth 16384

noncomputable section

namespace Cert.ReferenceIdeal.Attn

open Idealize.ShloMosaic Idealize.ShloMosaic.Routing Cert.ReferenceIdeal Cert.ReferenceIdeal.Gen Cert.ReferenceIdeal.Value Cert.Attn

variable (V0 : Valuation τ sig (Elt Ideal))

/-- The number of a chunk, read as a signed word. -/
theorem word_int : ∀ (n : Fin 32) (b : Fin 9), (BitVec.ofNat 32 (n.val + b.val)).toInt = ((n.val + b.val : ℕ) : ℤ) := by
  decide +kernel

/-- Where an update of the chunks lands: block `b` of the band of chunk `n` is chunk `n + b`. -/
theorem lands (idx : IVec S32x9x1 32) (j : S1x32x9x64x8x128.Idx) (c : Fin 40) (r : Fin 64) (h : Fin 8) (d : Fin 128)
    (hi : ∀ (n : Fin 32) (b : Fin 9), idx (ix3 n b 0) = BitVec.ofNat 32 (n.val + b.val)) :
    scatter_S1x40x64x8x128_S32x9x1_S1x32x9x64x8x128_0345_1_1_2.resultIdx? j idx = some (ix5 0 c r h d) ↔
      ((j 1).val + (j 2).val = c.val ∧ (j 3).val = r.val ∧ (j 4).val = h.val ∧ (j 5).val = d.val) := by
  have e : ∀ a : Fin 5, a ≠ 1 → scatter_S1x40x64x8x128_S32x9x1_S1x32x9x64x8x128_0345_1_1_2.start j idx a = 0 := by
    intro a ha
    unfold ScatterDims.start
    exact dif_neg (show a ∉ [(1 : Fin 5)] by simpa using ha)
  have e1 : scatter_S1x40x64x8x128_S32x9x1_S1x32x9x64x8x128_0345_1_1_2.start j idx (1 : Fin 5) = ((j 1).val + (j 2).val : ℕ) := by
    have hsi : scatter_S1x40x64x8x128_S32x9x1_S1x32x9x64x8x128_0345_1_1_2.siIdx j ⟨0, by decide⟩ = ix3 (j 1) (j 2) 0 := by
      funext b; refine Fin.ext ?_
      match b with
      | ⟨0, _⟩ => rfl
      | ⟨1, _⟩ => rfl
      | ⟨2, _⟩ => rfl
    show (idx (scatter_S1x40x64x8x128_S32x9x1_S1x32x9x64x8x128_0345_1_1_2.siIdx j ⟨0, _⟩)).toInt = _
    rw [hsi]
    exact (congrArg BitVec.toInt (hi (j 1) (j 2))).trans (word_int (j 1) (j 2))
  have h0 : (j 0).val < 1 := (j 0).isLt
  rw [resultIdx?_eq_some]
  constructor
  · intro q
    have q1 := q 1
    have q2 := q 2
    have q3 := q 3
    have q4 := q 4
    rw [e1] at q1
    rw [e 2 (by decide)] at q2
    rw [e 3 (by decide)] at q3
    rw [e 4 (by decide)] at q4
    have w1 : (((j 1).val + (j 2).val : ℕ) : ℤ) + ((0 : ℕ) : ℤ) = (c.val : ℤ) := q1
    have w2 : (0 : ℤ) + ((j 3).val : ℤ) = (r.val : ℤ) := q2
    have w3 : (0 : ℤ) + ((j 4).val : ℤ) = (h.val : ℤ) := q3
    have w4 : (0 : ℤ) + ((j 5).val : ℤ) = (d.val : ℤ) := q4
    omega
  · rintro ⟨w1, w2, w3, w4⟩ a
    match a with
    | ⟨0, _⟩ =>
      refine (congrArg (· + _) (e 0 (by decide))).trans ?_
      show (0 : ℤ) + ((j 0).val : ℤ) = ((0 : ℕ) : ℤ)
      omega
    | ⟨1, _⟩ =>
      refine (congrArg (· + _) e1).trans ?_
      show (((j 1).val + (j 2).val : ℕ) : ℤ) + ((0 : ℕ) : ℤ) = (c.val : ℤ)
      omega
    | ⟨2, _⟩ =>
      refine (congrArg (· + _) (e 2 (by decide))).trans ?_
      show (0 : ℤ) + ((j 3).val : ℤ) = (r.val : ℤ)
      omega
    | ⟨3, _⟩ =>
      refine (congrArg (· + _) (e 3 (by decide))).trans ?_
      show (0 : ℤ) + ((j 4).val : ℤ) = (h.val : ℤ)
      omega
    | ⟨4, _⟩ =>
      refine (congrArg (· + _) (e 4 (by decide))).trans ?_
      show (0 : ℤ) + ((j 5).val : ℤ) = (d.val : ℤ)
      omega

/-- The sum of the updates of chunk `c`, as a sum over all chunks `n` whose band may hold it. -/
theorem scatter_chunk (x : S1x40x64x8x128.Idx → EReal) (idx : IVec S32x9x1 32) (u : S1x32x9x64x8x128.Idx → EReal)
    (hi : ∀ (n : Fin 32) (b : Fin 9), idx (ix3 n b 0) = BitVec.ofNat 32 (n.val + b.val))
    (c : Fin 40) (r : Fin 64) (h : Fin 8) (d : Fin 128) (G : ℕ → EReal)
    (hx : x (ix5 0 c r h d) = 0)
    (hu : ∀ (n : Fin 32) (b : Fin 9), n.val + b.val = c.val → u (ix6 0 n b r h d) = G n.val)
    (hG : ∀ n : Fin 32, ¬(n.val ≤ c.val ∧ c.val < n.val + 9) → G n.val = 0) :
    Ideal.hostScatterAdd scatter_S1x40x64x8x128_S32x9x1_S1x32x9x64x8x128_0345_1_1_2 x idx u (ix5 0 c r h d) = ∑ n : Fin 32, G n.val := by
  unfold Ideal.hostScatterAdd
  rw [hx, zero_add]
  have hs : ∑ n : Fin 32, G n.val = ∑ n ∈ Finset.univ.filter (fun n : Fin 32 => n.val ≤ c.val ∧ c.val < n.val + 9), G n.val := by
    refine (Finset.sum_subset (Finset.filter_subset _ _) fun n _ hn => hG n fun w => hn ?_).symm
    exact Finset.mem_filter.2 ⟨Finset.mem_univ _, w⟩
  rw [hs]
  refine Finset.sum_nbij' (fun j => (j 1 : Fin 32)) (fun n => ix6 0 n ⟨min (c.val - n.val) 8, by omega⟩ r h d) ?_ ?_ ?_ ?_ ?_
  · intro j hj
    have w := (lands idx j c r h d hi).1 (Finset.mem_filter.1 hj).2
    have h2 : (j 2).val < 9 := (j 2).isLt
    exact Finset.mem_filter.2 ⟨Finset.mem_univ _, (show (j 1).val ≤ c.val ∧ c.val < (j 1).val + 9 by omega)⟩
  · intro n hn
    have w := (Finset.mem_filter.1 hn).2
    refine Finset.mem_filter.2 ⟨Finset.mem_univ _, (lands idx _ c r h d hi).2 ⟨?_, rfl, rfl, rfl⟩⟩
    show n.val + min (c.val - n.val) 8 = c.val
    omega
  · intro j hj
    obtain ⟨w1, w2, w3, w4⟩ := (lands idx j c r h d hi).1 (Finset.mem_filter.1 hj).2
    have h2 : (j 2).val < 9 := (j 2).isLt
    have h0 : (j 0).val < 1 := (j 0).isLt
    funext a
    refine Fin.ext ?_
    match a with
    | ⟨0, _⟩ => show 0 = (j 0).val; omega
    | ⟨1, _⟩ => rfl
    | ⟨2, _⟩ => show min (c.val - (j 1).val) 8 = (j 2).val; omega
    | ⟨3, _⟩ => exact w2.symm
    | ⟨4, _⟩ => exact w3.symm
    | ⟨5, _⟩ => exact w4.symm
  · intro n _
    rfl
  · intro j hj
    obtain ⟨w1, w2, w3, w4⟩ := (lands idx j c r h d hi).1 (Finset.mem_filter.1 hj).2
    refine Eq.trans (congrArg u ?_) (hu (j 1) (j 2) w1)
    have h0 : (j 0).val < 1 := (j 0).isLt
    funext a
    refine Fin.ext ?_
    match a with
    | ⟨0, _⟩ => show (j 0).val = 0; omega
    | ⟨1, _⟩ => rfl
    | ⟨2, _⟩ => rfl
    | ⟨3, _⟩ => exact w2
    | ⟨4, _⟩ => exact w3
    | ⟨5, _⟩ => exact w4

/-- The factor of the scores comes out of a sum. -/
theorem winSum_scale (f g : ℕ → EReal) (o w : ℕ) :
    winSum (fun s => f s * scale * g s) o w = winSum (fun s => f s * g s) o w * scale := by
  obtain ⟨r, hr, e⟩ := scale_real
  unfold winSum
  rw [e, sum_mul_coe r hr]
  refine Finset.sum_congr rfl fun k _ => ?_
  show f _ * (r : EReal) * g _ = f _ * g _ * (r : EReal)
  ac_rfl

/-- A chunk whose band does not hold position `s`. -/
theorem off_band {n s q : ℕ} (hq : q < 64) (hn : ¬(n ≤ s / 64 ∧ s / 64 < n + 9)) :
    ¬((base (64 * n + q) ≤ s ∧ s < base (64 * n + q) + 576) ∧ 512 ≤ s) := by
  unfold base
  omega

/-- The gradient of the padded values: the sum over the queries. -/
theorem v137_apply (s : Fin 2560) (h : Fin 8) (d : Fin 128) (hr : (hd V0 h.val).IsReal) :
    (res_main_v137 V0 : (⟨S1x2560x8x128, .f32⟩ : BufTy).Contents (Elt Ideal)) (ix4 0 s h d) =
      winSum (fun t => (hd V0 h.val).pr t s.val * (hd V0 h.val).D t d.val) 0 2048 := by
  unfold res_main_v137
  clean_types
  pointwise
  rw [← sum_blocks _ 32 64 2048 rfl]
  refine scatter_chunk _ _ _ (v37_apply V0) ⟨s.val / 64, by omega⟩ ⟨s.val % 64, by omega⟩ h d
    (fun n => ∑ q : Fin 64, (hd V0 h.val).pr (64 * n + q.val) s.val * (hd V0 h.val).D (64 * n + q.val) d.val) ?_ ?_ ?_
  · pointwise
  · intro n b hb
    have hb : n.val + b.val = s.val / 64 := hb
    pointwise
    simp only [v96_apply, v106_apply]
    refine Finset.sum_congr rfl fun q _ => ?_
    have e : 64 * n.val + (b.val * 64 + s.val % 64) = s.val := by omega
    rw [e, mul_comm]
  · intro n hn
    refine Finset.sum_eq_zero fun q _ => ?_
    rw [hr.pr_dead (off_band q.isLt hn), zero_mul]

/-- The gradient of the padded keys: the sum over the queries, scaled. -/
theorem v140_apply (s : Fin 2560) (h : Fin 8) (d : Fin 128) (hr : (hd V0 h.val).IsReal) :
    (res_main_v140 V0 : (⟨S1x2560x8x128, .f32⟩ : BufTy).Contents (Elt Ideal)) (ix4 0 s h d) =
      winSum (fun t => (hd V0 h.val).ds t s.val * (hd V0 h.val).Q t d.val) 0 2048 * scale := by
  unfold res_main_v140
  clean_types
  pointwise
  rw [← winSum_scale, ← sum_blocks _ 32 64 2048 rfl]
  refine scatter_chunk _ _ _ (v29_apply V0) ⟨s.val / 64, by omega⟩ ⟨s.val % 64, by omega⟩ h d
    (fun n => ∑ q : Fin 64, (hd V0 h.val).ds (64 * n + q.val) s.val * scale * (hd V0 h.val).Q (64 * n + q.val) d.val) ?_ ?_ ?_
  · pointwise
  · intro n b hb
    have hb : n.val + b.val = s.val / 64 := hb
    pointwise
    refine Finset.sum_congr rfl fun q _ => ?_
    have e : 64 * n.val + (b.val * 64 + s.val % 64) = s.val := by omega
    rw [v126_apply V0 _ _ _ _ hr, v9_apply]
    dsimp only
    rw [e]
  · intro n hn
    refine Finset.sum_eq_zero fun q _ => ?_
    rw [hr.ds_dead (off_band q.isLt hn), zero_mul, zero_mul]

/-- The first result is the gradient of the queries, -/
theorem result_q (hr : ∀ h : Fin 8, (hd V0 h.val).IsReal) (i : S2048x1024.Idx) :
    extractStridedSlice S2048x1024 ![0, 0] (res_main_v150 V0) slices_S2048x6144_S2048x1024_0_0 i =
      (hd V0 ((i 1).val / 128)).dq (i 0).val ((i 1).val % 128) := by
  idx_vars i
  unfold res_main_v150
  clean_types
  pointwise
  refine (dif_pos (show i1.val < 3072 by omega)).trans ((Fin.sum_univ_one _).trans ?_)
  simp only [v126_apply V0 _ _ _ _ (hr _), v31_apply]
  have e : 64 * (i0.val / 64) + i0.val % 64 = i0.val := by omega
  rw [e]
  exact winSum_scale (fun s => (hd V0 (i1.val / 128)).ds i0.val s) (fun s => padRows (hd V0 (i1.val / 128)).K s (i1.val % 128)) (base i0.val) 576

/-- the second that of the keys -/
theorem result_k (hr : ∀ h : Fin 8, (hd V0 h.val).IsReal) (i : S2048x1024.Idx) :
    extractStridedSlice S2048x1024 ![0, 1024] (res_main_v150 V0) slices_S2048x6144_S2048x1024_0_1024 i =
      (hd V0 ((i 1).val / 128)).dk (i 0).val ((i 1).val % 128) := by
  idx_vars i
  unfold res_main_v150
  clean_types
  pointwise
  refine (dif_pos (show 1024 + i1.val < 3072 by omega)).trans ((Fin.sum_univ_one _).trans ((v140_apply V0 _ _ _ (hr _)).trans ?_))
  show winSum (fun t => (hd V0 (i1.val / 128)).ds t (512 + i0.val) * (hd V0 (i1.val / 128)).Q t (i1.val % 128)) 0 2048 * scale = _
  rw [Nat.add_comm 512 i0.val]
  rfl

/-- and the third that of the values. -/
theorem result_v (hr : ∀ h : Fin 8, (hd V0 h.val).IsReal) (i : S2048x1024.Idx) :
    extractStridedSlice S2048x1024 ![0, 2048] (res_main_v150 V0) slices_S2048x6144_S2048x1024_0_2048 i =
      (hd V0 ((i 1).val / 128)).dv (i 0).val ((i 1).val % 128) := by
  idx_vars i
  unfold res_main_v150
  clean_types
  pointwise
  refine (dif_pos (show 2048 + i1.val < 3072 by omega)).trans ((Fin.sum_univ_one _).trans
    ((dif_neg (show ¬2048 + i1.val < 1024 by omega)).trans ((dif_neg (show ¬2048 + i1.val - 1024 < 1024 by omega)).trans ?_)))
  have e : 2048 + i1.val - 1024 - 1024 = i1.val := by omega
  simp only [e]
  refine (v137_apply V0 ⟨512 + i0.val, by omega⟩ ⟨i1.val / 128, by omega⟩ ⟨i1.val % 128, by omega⟩ (hr _)).trans ?_
  show winSum (fun t => (hd V0 (i1.val / 128)).pr t (512 + i0.val) * (hd V0 (i1.val / 128)).D t (i1.val % 128)) 0 2048 = _
  rw [Nat.add_comm 512 i0.val]
  rfl

end Cert.ReferenceIdeal.Attn
-- ==== Proof.AttnClaim.lean ====
/- The kernel and the reference end with the same three arrays: the gradients of the queries, the keys and the values. -/
module

public import proofs.«01_k».proof.Defs
public import proofs.«01_k».proof.Proof.AttnPre
public import proofs.«01_k».proof.Proof.AttnFrame
public import proofs.«01_k».proof.Proof.AttnKernelValue
public import proofs.«01_k».proof.Proof.AttnRefSum

@[expose] public section

noncomputable section

namespace Cert.Proof

open Idealize.ShloMosaic Idealize.SL.Sem Cert.Attn Cert.KernelIdeal.Attn

/-- The reference's device of a kernel's device runs on the same three arrays, hence on the same heads. -/
theorem hd_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' (c.tc.loc Cert.ReferenceIdeal.main_arg0) = m (c.tc.loc Cert.KernelIdeal.main_arg0))
    (h1 : m' (c.tc.loc Cert.ReferenceIdeal.main_arg1) = m (c.tc.loc Cert.KernelIdeal.main_arg1))
    (h2 : m' (c.tc.loc Cert.ReferenceIdeal.main_arg2) = m (c.tc.loc Cert.KernelIdeal.main_arg2)) (a : ℕ) :
    Cert.ReferenceIdeal.Attn.hd (StableHlo.launchContents m' c) a =
      headOf (m (c.tc.loc Cert.KernelIdeal.main_arg0)) (m (c.tc.loc Cert.KernelIdeal.main_arg1)) (m (c.tc.loc Cert.KernelIdeal.main_arg2)) a := by
  rw [← h0, ← h1, ← h2]
  rfl

/-- The two programs end with equal results wherever the queries, the keys and the biases are finite. -/
theorem algebraic [Cert.Pre_scores_finite.Facts] : Cert.algebraic_KernelIdeal_ReferenceIdeal_pre_scores_finite := by
  intro m g m' g' hpre hag
  have hr : ∀ (c : Dev Cert.KernelIdeal.nD) (a : Fin 8), (headOf (m (c.tc.loc Cert.KernelIdeal.main_arg0))
      (m (c.tc.loc Cert.KernelIdeal.main_arg1)) (m (c.tc.loc Cert.KernelIdeal.main_arg2)) a.val).IsReal :=
    fun c a => Cert.Pre_scores_finite.Read.heads_real _ _ _ (hpre c) a
  have hh := fun c => hd_agree m m' c (hag c).1 (hag c).2.1 (hag c).2.2
  have hr' : ∀ (c : Dev Cert.KernelIdeal.nD) (a : Fin 8), (Cert.ReferenceIdeal.Attn.hd (StableHlo.launchContents m' c) a.val).IsReal :=
    fun c a => by rw [hh c]; exact hr c a
  refine ⟨fun c => heads Head.dq (m (c.tc.loc Cert.KernelIdeal.main_arg0)) (m (c.tc.loc Cert.KernelIdeal.main_arg1)) (m (c.tc.loc Cert.KernelIdeal.main_arg2)),
    fun c => heads Head.dk (m (c.tc.loc Cert.KernelIdeal.main_arg0)) (m (c.tc.loc Cert.KernelIdeal.main_arg1)) (m (c.tc.loc Cert.KernelIdeal.main_arg2)),
    fun c => heads Head.dv (m (c.tc.loc Cert.KernelIdeal.main_arg0)) (m (c.tc.loc Cert.KernelIdeal.main_arg1)) (m (c.tc.loc Cert.KernelIdeal.main_arg2)), ?_, ?_⟩
  · refine (θ_run _ _ _).mono (fun r h c => ?_) (θ_run_and (run_arrays m g) (frame_all m g))
    exact ⟨((h.1 c).1 5).trans (final m c (hr c)).1, ((h.1 c).1 6).trans (final m c (hr c)).2.1,
      ((h.1 c).1 7).trans (final m c (hr c)).2.2, h.2.1 c⟩
  · refine (θ_run _ _ _).mono (fun r h c => ?_) (Cert.ReferenceIdeal.Value.run m' g')
    refine ⟨(h c).1.trans (funext fun i => ?_), (h c).2.1.trans (funext fun i => ?_), (h c).2.2.1.trans (funext fun i => ?_), (h c).2.2.2⟩
    · exact (Cert.ReferenceIdeal.Attn.result_q _ (hr' c) i).trans (congrArg (fun y : Head => y.dq (i 0).val ((i 1).val % 128)) (hh c _))
    · exact (Cert.ReferenceIdeal.Attn.result_k _ (hr' c) i).trans (congrArg (fun y : Head => y.dk (i 0).val ((i 1).val % 128)) (hh c _))
    · exact (Cert.ReferenceIdeal.Attn.result_v _ (hr' c) i).trans (congrArg (fun y : Head => y.dv (i 0).val ((i 1).val % 128)) (hh c _))

end Cert.Proof
-- ==== Proof.FfnPre.lean ====
/- What the layer's precondition says of the arguments at an index: all but the gate weights are real numbers. -/
module

public import proofs.«01_k».proof.Pre_operands_finite
public import proofs.«01_k».proof.Proof.AttnPre

@[expose] public section

noncomputable section

namespace Cert.Pre_operands_finite.Read

open Idealize.ShloMosaic Cert.Pre_operands_finite
open Cert.Pre_scores_finite.Read (real_of_lt both)

/-- The side conditions of the precondition's operations. -/
theorem side : Cert.Pre_operands_finite.Facts where
  bitsLt_bf16_f32 := by decide
  bcast_S_S2048x2048 := by decide
  reducesTo_S2048x2048_S_d0_1 := by decide
  h_S_ := by decide
  bcast_S_S8x704x2048 := by decide
  reducesTo_S8x704x2048_S_d0_1_2 := by decide

variable [Cert.Pre_operands_finite.Facts]

/-- The precondition, read at an index: the rows, the up and down weights and the cotangent are real numbers. -/
theorem reads (h : S2048x2048.Idx → EReal) (wg wu wd : S8x704x2048.Idx → EReal) (x : S2048x2048.Idx → EReal)
    (hp : Cert.Pre_operands_finite.fn (F := Ideal) h wg wu wd x = fun _ => 1#1) :
    (∀ i, ∃ r : ℝ, h i = (r : EReal)) ∧ (∀ i, ∃ r : ℝ, wu i = (r : EReal)) ∧ (∀ i, ∃ r : ℝ, wd i = (r : EReal)) ∧
      ∀ i, ∃ r : ℝ, x i = (r : EReal) := by
  have h0 := congrFun hp ix0
  dsimp only [Cert.Pre_operands_finite.fn, Cert.Pre_operands_finite.fn_part1] at h0
  obtain ⟨h1, h2⟩ := both _ _ h0
  obtain ⟨ha, hb⟩ := both _ _ h1
  obtain ⟨hc, hd⟩ := both _ _ h2
  refine ⟨fun i => real_of_lt ?_, fun i => real_of_lt ?_, fun i => real_of_lt ?_, fun i => real_of_lt ?_⟩
  · exact Host.reduce_andi_all _ _ _ _ _ ha i
  · exact Host.reduce_andi_all _ _ _ _ _ hb i
  · exact Host.reduce_andi_all _ _ _ _ _ hc i
  · exact Host.reduce_andi_all _ _ _ _ _ hd i

end Cert.Pre_operands_finite.Read
-- ==== Proof.FfnRun.lean ====
/- The run of the layer's four kernel calls: every buffer ends at what the fourth call leaves. -/
module

public import proofs.«01_k».proof.Proof.Gen.Kernel2Ideal.Frame

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F] (m : (ℓ : Loc nD τ sig) → Buf (Elt F) ℓ) (ρ : Dev nD → PrngReg)

local notation "𝕄" => MT nD τ sig Unit (Elt F) ℕ (UR sig nD τ) ℕ

set_option backward.isDefEq.respectTransparency.types false in
/-- From any memory with zero counters every run ends, nothing faulting, with every array at the contents after the fourth call. -/
theorem run_contents : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- The three results and the arguments at the end of a run. -/
theorem run_results : θ_run defs (onTc (τ := τ) (main (F := F))) ⟨m, fun _ => 0, ρ⟩ (fun r => ∀ c : Dev nD,
      r.2.mem ((c.tc : Thread nD τ).loc main_v3_0) = (dat3 (V3 m ρ) c).arrAt 3 cfg3.N
      ∧ r.2.mem ((c.tc : Thread nD τ).loc main_v3_1) = (dat3 (V3 m ρ) c).arrAt 4 cfg3.N
      ∧ r.2.mem ((c.tc : Thread nD τ).loc main_v2) = (dat2 (V2 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v3_0 (by decide))).trans (W4_arr m ρ c 3),
     (h c _ (mem_uc main_v3_1 (by decide))).trans (W4_arr m ρ c 4),
     (h c _ (mem_uc main_v2 (by decide))).trans ((W4_of m ρ c main_v2 (by decide)).trans (W3_arr m ρ c 2)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_contents m ρ)

end Cert.Kernel2Ideal.Ffn
-- ==== Proof.FfnMath.lean ====
/- The SwiGLU layer of one stack of eight expert blocks, its forward values and the gradients of its weights, over the extended reals. -/
module

public import proofs.«01_k».proof.Proof.AttnMath
public import Idealize.ShloMosaic.Lib.Pointwise

@[expose] public section

noncomputable section

namespace Cert.Ffn

open Idealize.ShloMosaic
open scoped BigOperators

/-- An array of 2048 tokens by 2048 features. -/
abbrev Rows := (⟨2, ![2048, 2048]⟩ : Shape).Idx → EReal

/-- An array of eight blocks of 704 hidden units by 2048 features. -/
abbrev Weights := (⟨3, ![8, 704, 2048]⟩ : Shape).Idx → EReal

/-- An array of eight blocks of 2048 tokens by 704 hidden units. -/
abbrev Hidden := (⟨3, ![8, 2048, 704]⟩ : Shape).Idx → EReal

/-- The logistic function. -/
def sg (x : EReal) : EReal := Ideal.div 1 (1 + Ideal.exp (-x))

/-- Every token's product with every hidden unit's weights. -/
def prod (a : Rows) (w : Weights) : Hidden := fun i => ∑ d : Fin 2048, a (ix2 (i 1) d) * w (ix3 (i 0) (i 2) d)

/-- The activation of a gate and an up value. -/
def act (g u : Hidden) : Hidden := fun i => g i * sg (g i) * u i

/-- The gradient of the gate, from the gradient `d` of the activation. -/
def dgate (d g u : Hidden) : Hidden := fun i => d i * u i * (sg (g i) * (1 + g i * (1 - sg (g i))))

/-- The gradient of the up value. -/
def dup (d g : Hidden) : Hidden := fun i => d i * (g i * sg (g i))

/-- The block whose gradient stands at place `s`: the even blocks first, then the odd ones. -/
def slot (s : Fin 8) : Fin 8 := ⟨s.val % 4 * 2 + s.val / 4, by omega⟩

/-- The gradient of a weight: the sum over the tokens, the blocks in the order of `slot`. -/
def wgrad (a : Hidden) (x : Rows) : Weights := fun i => ∑ t : Fin 2048, a (ix3 (slot (i 0)) t (i 1)) * x (ix2 t (i 2))

/-- The gate, the up values, the gradient of the activation, and the three gradients of the weights. -/
structure Layer where
  (h : Rows) (wg wu wd : Weights) (x : Rows)

namespace Layer

variable (L : Layer)

/-- The gate values, -/
def gate : Hidden := prod L.h L.wg
/-- the up values, -/
def up : Hidden := prod L.h L.wu
/-- the gradient of the activation, -/
def dact : Hidden := prod L.x L.wd
/-- the gradients of the gate weights, -/
def dwg : Weights := wgrad (dgate L.dact L.gate L.up) L.h
/-- of the up weights -/
def dwu : Weights := wgrad (dup L.dact L.gate) L.h
/-- and of the down weights. -/
def dwd : Weights := wgrad (act L.gate L.up) L.x

end Layer

/-- A finite sum of real numbers is real. -/
theorem sum_real {n : ℕ} {f : Fin n → EReal} (h : ∀ i, ∃ r : ℝ, f i = r) : ∃ r : ℝ, ∑ i, f i = r := by
  choose r hr using h
  exact ⟨∑ i, r i, by rw [Finset.sum_congr rfl fun i _ => hr i, Cert.Attn.coe_sum]⟩

/-- A product of real rows and real weights is real. -/
theorem prod_real {a : Rows} {w : Weights} (ha : ∀ i, ∃ r : ℝ, a i = r) (hw : ∀ i, ∃ r : ℝ, w i = r) (i) : ∃ r : ℝ, prod a w i = r :=
  sum_real fun d => by
    obtain ⟨p, hp⟩ := ha (ix2 (i 1) d)
    obtain ⟨q, hq⟩ := hw (ix3 (i 0) (i 2) d)
    exact ⟨p * q, by rw [hp, hq, EReal.coe_mul]⟩

/-- The logistic function at `∞`, -/
theorem sg_top : sg ⊤ = 1 := by
  have e : Ideal.exp (-(⊤ : EReal)) = 0 := rfl
  unfold sg
  rw [e]
  simp [Ideal.div]

/-- at `-∞` -/
theorem sg_bot : sg ⊥ = 0 := by
  have e : Ideal.exp (-(⊥ : EReal)) = ⊤ := rfl
  have e' : (1 : EReal) + ⊤ = ⊤ := EReal.add_top_of_ne_bot (by decide)
  unfold sg
  rw [e, e']
  simp [Ideal.div]

/-- and at a real number. -/
theorem sg_coe (x : ℝ) : sg x = ((1 / (1 + Real.exp (-x)) : ℝ) : EReal) := by
  have h : (1 + Real.exp (-x)) ≠ 0 := by positivity
  unfold sg
  rw [← EReal.coe_neg, Ideal.exp_coe, ← EReal.coe_one, ← EReal.coe_add, Ideal.div_coe h, EReal.coe_one, one_mul]

/-- The derivative of `x ↦ x · sg x` at `g`, times a real cotangent: the two ways it is written agree. -/
theorem silu_grad (c : ℝ) (g : EReal) :
    (c : EReal) * (sg g * (1 + g * (1 - sg g))) = c * sg g + g * c * (sg g * (1 - sg g)) := by
  induction g using EReal.rec with
  | bot => rw [sg_bot]; simp
  | top =>
    have e : (1 : EReal) - 1 = 0 := by rw [← EReal.coe_one, ← EReal.coe_sub, sub_self, EReal.coe_zero]
    rw [sg_top, e]
    simp
  | coe g =>
    rw [sg_coe]
    norm_cast
    ring

end Cert.Ffn
-- ==== Proof.InputMath.lean ====
/- The gradient of the feed-forward layer's input, from the gradients of its gate and up values. -/
module

public import proofs.«01_k».proof.Proof.FfnMath

@[expose] public section

noncomputable section

namespace Cert.Ffn

open Idealize.ShloMosaic
open scoped BigOperators

/-- What one block of hidden units adds to the input's gradient at a token and a feature. -/
def inputPart (dg du : Hidden) (wg wu : Weights) (t d : Fin 2048) (j : Fin 8) : EReal :=
  (∑ f : Fin 704, dg (ix3 j t f) * wg (ix3 j f d)) + ∑ f : Fin 704, du (ix3 j t f) * wu (ix3 j f d)

/-- The input's gradient, the sum over the blocks of hidden units. -/
def inputGrad (dg du : Hidden) (wg wu : Weights) : Rows := fun i => ∑ j : Fin 8, inputPart dg du wg wu (i 0) (i 1) j

/-- Hidden unit `f` of block `j`, among all the blocks' units. -/
def hid (j : Fin 8) (f : Fin 704) : Fin 5632 := ⟨704 * j.val + f.val, by omega⟩

/-- A sum over all hidden units, block by block. -/
theorem sum_hid (F : Fin 5632 → EReal) : ∑ k, F k = ∑ j : Fin 8, ∑ f : Fin 704, F (hid j f) := by
  rw [← Fintype.sum_prod_type' (f := fun j f => F (hid j f))]
  refine (Equiv.sum_comp (finProdFinEquiv (m := 8) (n := 704)) F).symm.trans (Finset.sum_congr rfl fun p _ => ?_)
  exact congrArg F (Fin.ext (Nat.add_comm _ _))

/-- A hidden unit's block and its place there, from its place among all. -/
theorem hid_split (j : Fin 8) (f : Fin 704) :
    ((⟨(hid j f).val / 704, by have := (hid j f).isLt; omega⟩, ⟨(hid j f).val % 704, Nat.mod_lt _ (by decide)⟩) : Fin 8 × Fin 704) = (j, f) :=
  Prod.ext (Fin.ext (show (704 * j.val + f.val) / 704 = j.val by omega)) (Fin.ext (show (704 * j.val + f.val) % 704 = f.val by omega))

end Cert.Ffn
-- ==== Proof.NormMath.lean ====
/- The root-mean-square norm of rows, and the feed-forward layer's last product, over the extended reals. -/
module

public import proofs.«01_k».proof.Proof.InputMath

@[expose] public section

noncomputable section

namespace Cert.Ffn

open Idealize.ShloMosaic
open scoped BigOperators

/-- Rows of 32-bit values. -/
abbrev Wide := (⟨2, ![2048, 2048]⟩ : Shape).Idx → EReal
/-- One gain for each column. -/
abbrev Gain := (⟨1, ![2048]⟩ : Shape).Idx → EReal

/-- A row over the root of its mean square (with the small constant added), times a gain, at a column. -/
def normAt (x : Fin 2048 → EReal) (g : EReal) (d : Fin 2048) : EReal :=
  x d * Ideal.rsqrt (Ideal.div (∑ e, x e * x e) (Ideal.ofBits FTy.f32 1157627904#32) + Ideal.ofBits FTy.f32 897988541#32) * g

/-- Every row so normed. -/
def normed (x : Wide) (gain : Gain) : Wide := fun i => normAt (fun e => x (ix2 (i 0) e)) (gain (ix1 (i 1))) (i 1)

/-- What one block of hidden units adds to the layer's output at a token and a feature. -/
def downPart (act : Hidden) (wd : Weights) (t d : Fin 2048) (j : Fin 8) : EReal := ∑ f : Fin 704, act (ix3 j t f) * wd (ix3 j f d)

/-- The residual and the layer's output. -/
def downOut (act : Hidden) (wd : Weights) (x : Wide) : Wide := fun i => x i + ∑ j : Fin 8, downPart act wd (i 0) (i 1) j

end Cert.Ffn
-- ==== Proof.ProductMath.lean ====
/- Products of arrays of tokens with weights and the gradients of those weights, over the extended reals. -/
module

public import proofs.«01_k».proof.Proof.NormMath

@[expose] public section

noncomputable section

namespace Cert.Product

open Idealize.ShloMosaic Cert.Ffn
open scoped BigOperators

/-- An array of 2048 tokens by `N` columns. -/
abbrev Flat (N : ℕ) := (⟨2, ![2048, N]⟩ : Shape).Idx → EReal

/-- An array of eight blocks of 256 rows by 2048 columns. -/
abbrev RowBlocks := (⟨3, ![8, 256, 2048]⟩ : Shape).Idx → EReal

/-- An array of eight blocks of 2048 rows by `n` columns. -/
abbrev ColBlocks (n : ℕ) := (⟨3, ![8, 2048, n]⟩ : Shape).Idx → EReal

/-- Place `f` of block `j`, among all the blocks' places. -/
def place {n N : ℕ} (hN : 8 * n = N) (j : Fin 8) (f : Fin n) : Fin N :=
  ⟨n * j.val + f.val, calc
    n * j.val + f.val < n * j.val + n := Nat.add_lt_add_left f.isLt _
    _ = n * (j.val + 1) := (Nat.mul_succ n j.val).symm
    _ ≤ n * 8 := Nat.mul_le_mul_left n j.isLt
    _ = N := (Nat.mul_comm n 8).trans hN⟩

/-- Every row's product with every row of the weights. -/
def perRow (x w : Rows) : Rows := fun i => ∑ e : Fin 2048, x (ix2 (i 0) e) * w (ix2 (i 1) e)

/-- The gradient of weights that are kept in blocks of rows: the sum over the tokens, the blocks in the order of `slot`. -/
def rowsGrad (a x : Rows) : RowBlocks := fun i =>
  ∑ t : Fin 2048, a (ix2 t (place (n := 256) (N := 2048) rfl (slot (i 0)) (i 1))) * x (ix2 t (i 2))

/-- The gradient of weights that are kept in blocks of columns: the sum over the tokens, the blocks in the order of `slot`. -/
def colsGrad {n N : ℕ} (hN : 8 * n = N) (h : Rows) (p : Flat N) : ColBlocks n := fun i =>
  ∑ t : Fin 2048, h (ix2 t (i 1)) * p (ix2 t (place hN (slot (i 0)) (i 2)))

/-- Every row's product with weights that are kept in blocks of columns, at a column of a block. -/
def colsOut {n : ℕ} (h : Rows) (w : ColBlocks n) (t : Fin 2048) (j : Fin 8) (f : Fin n) : EReal :=
  ∑ d : Fin 2048, h (ix2 t d) * w (ix3 j d f)

/-- Those products in one array, the blocks' columns side by side. -/
def joined {n N : ℕ} (hN : 8 * n = N) (hn : 0 < n) (h : Rows) (w : ColBlocks n) : Flat N := fun i =>
  have hi : (i 1).val < n * 8 := lt_of_lt_of_eq (i 1).isLt (hN.symm.trans (Nat.mul_comm 8 n))
  colsOut h w (i 0) ⟨(i 1).val / n, Nat.div_lt_of_lt_mul hi⟩ ⟨(i 1).val % n, Nat.mod_lt _ hn⟩

/-- The array at a place of a block. -/
theorem joined_place {n N : ℕ} (hN : 8 * n = N) (hn : 0 < n) (h : Rows) (w : ColBlocks n) (t : Fin 2048) (j : Fin 8) (f : Fin n) :
    joined hN hn h w (ix2 t (place hN j f)) = colsOut h w t j f := by
  have e : (n * j.val + f.val) / n = j.val := by rw [Nat.mul_add_div hn, Nat.div_eq_of_lt f.isLt, Nat.add_zero]
  have e' : (n * j.val + f.val) % n = f.val := by rw [Nat.mul_add_mod, Nat.mod_eq_of_lt f.isLt]
  exact congrArg₂ (colsOut h w t) (Fin.ext e) (Fin.ext e')

/-- The rows' products with the weights. -/
def perCol (a w : Rows) : Rows := fun i => ∑ d : Fin 2048, a (ix2 (i 0) d) * w (ix2 d (i 1))

/-- The residual and those products. -/
def withResid (a w : Rows) (x : Wide) : Wide := fun i => x i + perCol a w i

/-- A product of equal factors. -/
theorem mul_of {p P q Q : EReal} (hp : p = P) (hq : q = Q) : p * q = P * Q := by rw [hp, hq]

/-- The block whose gradient stands at the place to which a block is written. -/
theorem slot_place (j : ℕ) (h : j < 8) (h' : j % 2 * 4 + j / 2 < 8) : slot ⟨j % 2 * 4 + j / 2, h'⟩ = ⟨j, h⟩ :=
  Fin.ext (by show (j % 2 * 4 + j / 2) % 4 * 2 + (j % 2 * 4 + j / 2) / 4 = j; omega)

/-- The gradient of weights in blocks of rows, at a place whose block is known. -/
theorem rowsGrad_at (a x : Rows) {s j : Fin 8} (h : slot s = j) (f : Fin 256) (d : Fin 2048) :
    rowsGrad a x (ix3 s f d) = ∑ t : Fin 2048, a (ix2 t (place (n := 256) (N := 2048) rfl j f)) * x (ix2 t d) := by
  subst h; rfl

/-- The gradient of weights in blocks of columns, at a place whose block is known. -/
theorem colsGrad_at {n N : ℕ} (hN : 8 * n = N) (h : Rows) (p : Flat N) {s j : Fin 8} (e : slot s = j) (d : Fin 2048) (f : Fin n) :
    colsGrad hN h p (ix3 s d f) = ∑ t : Fin 2048, h (ix2 t d) * p (ix2 t (place hN j f)) := by
  subst e; rfl

/-- An index of an array of one block has no more than its last two coordinates. -/
theorem one_block {p q : ℕ} (y : (⟨3, ![1, p, q]⟩ : Shape).Idx) : ∃ (a : Fin p) (f : Fin q), y = ix3 0 a f :=
  ⟨y 1, y 2, funext fun k => match k with
    | 0 => Subsingleton.elim (α := Fin 1) _ _
    | 1 => rfl
    | 2 => rfl⟩

/-- The place at which the gradient of a block of weights is written. -/
def spotOf (j : Fin 8) : Fin 8 := ⟨j.val % 2 * 4 + j.val / 2, by omega⟩

/-- A sum over the tokens, whose factors belong to a row and to a block's column, is the gradient of a weight at the block's place. -/
theorem sum_eq_colsGrad {n N : ℕ} (hN : 8 * n = N) {H : Rows} {P : Flat N} {x w : Fin 2048 → EReal} {j : Fin 8} {d : Fin 2048} {f : Fin n}
    (hx : ∀ a, x a = H (ix2 a d)) (hw : ∀ a, w a = P (ix2 a (place hN j f))) : ∑ a, x a * w a = colsGrad hN H P (ix3 (spotOf j) d f) :=
  (Finset.sum_congr rfl fun a _ => mul_of (hx a) (hw a)).trans (colsGrad_at hN H P (slot_place j.val j.isLt _) d f).symm

end Cert.Product
-- ==== Proof.FfnBlock.lean ====
/- What the layer's kernel bodies leave in their blocks, at an index, over the extended reals. -/
module

public import proofs.«01_k».proof.Proof.Gen.Kernel2Ideal.Frame
public import proofs.«01_k».proof.Proof.ProductMath
public import Idealize.ShloMosaic.Lib.Pipeline.ValueKit

@[expose] public section

set_option maxRecDepth 16384
set_option maxHeartbeats 1000000

noncomputable section

namespace Cert.Kernel2Ideal.Ffn

open Idealize.ShloMosaic Idealize.ShloMosaic.TcCoe
open Idealize.ShloMosaic.Tactic
open Cert.Kernel2Ideal Cert.Kernel2Ideal.Gen Cert.Ffn
open scoped BigOperators

/-- A row of a block times a row of a weight block. -/
def rowDot (x : Vec Ideal S1024x2048 .bf16) (w : Vec Ideal S1x704x2048 .bf16) (t : Fin 1024) (f : Fin 704) : EReal :=
  ∑ d : Fin 2048, x (ix2 t d) * w (ix3 0 f d)

/-- The same product, its row and column given by their numbers. -/
theorem rowDot_at (x : Vec Ideal S1024x2048 .bf16) (w : Vec Ideal S1x704x2048 .bf16) {a a' : Fin 1024} {f : Fin 704} {n : ℕ} {hn : n < 704}
    (ha : a.val = a'.val) (hf : f.val = n) : ∑ d : Fin 2048, x (ix2 a' d) * w (ix3 0 ⟨n, hn⟩ d) = rowDot x w a f := by
  obtain rfl : a = a' := Fin.ext ha
  subst hf
  rfl

/-- A block's value at a token and a hidden unit. -/
def cell (x : Vec Ideal S1x1024x704 .bf16) (a : Fin 1024) (f : Fin 704) : EReal := x (ix3 0 a f)

/-- The same value, its token and hidden unit given by their numbers. -/
theorem cell_at (x : Vec Ideal S1x1024x704 .bf16) {a a' : Fin 1024} {f : Fin 704} {n : ℕ} {hn : n < 704}
    (ha : a.val = a'.val) (hf : f.val = n) : x (ix3 0 a' ⟨n, hn⟩) = cell x a f := by
  obtain rfl : a = a' := Fin.ext ha
  subst hf
  rfl

/-- An activation from its gate and up value, each known by an equation. -/
theorem act_of {p P q Q : EReal} (hp : p = P) (hq : q = Q) : p * sg p * q = P * sg P * Q := by rw [hp, hq]

/-- A gate's gradient from its three factors, each known by an equation. -/
theorem dgate_of {p P q Q u U : EReal} (hp : p = P) (hu : u = U) (hq : q = Q) :
    p * u * (sg q * (1 + q * (1 - sg q))) = P * U * (sg Q * (1 + Q * (1 - sg Q))) := by rw [hp, hu, hq]

/-- An up value's gradient from its two factors, each known by an equation. -/
theorem dup_of {p P q Q : EReal} (hp : p = P) (hq : q = Q) : p * (q * sg q) = P * (Q * sg Q) := by rw [hp, hq]

variable (V : (c : Dev nD) → (b : Ref sig .tc) → Buf (Elt Ideal) ((c : Thread nD τ).loc b)) (c : Dev nD)

/-- The first call's blocks: the gate values, the up values and the activations. -/
theorem block0 (t : Fin cfg0.N) (a : Fin 1024) (f : Fin 704) :
    (outsAt0 V c t).1 (ix3 0 a f) = rowDot (iblk0 V c 0 t) (iblk0 V c 1 t) a f
      ∧ (outsAt0 V c t).2.1 (ix3 0 a f) = rowDot (iblk0 V c 0 t) (iblk0 V c 2 t) a f
      ∧ (outsAt0 V c t).2.2 (ix3 0 a f) = rowDot (iblk0 V c 0 t) (iblk0 V c 1 t) a f * sg (rowDot (iblk0 V c 0 t) (iblk0 V c 1 t) a f)
        * rowDot (iblk0 V c 0 t) (iblk0 V c 2 t) a f := by
  unfold outsAt0
  dsimp only
  refine ⟨?_, ?_, ?_⟩
  all_goals
    frame_out
    canon_tiles x h using (View.cover_of_tiledBy _ ![1, 1024, 64] (by sl_kernel_rfl) _)
  all_goals
    open_payloads
    pointwise
    first
      | exact rowDot_at _ _ h1 h2
      | exact act_of (rowDot_at _ _ h1 h2) (rowDot_at _ _ h1 h2)

/-- The second call's blocks: the gradients of the gate values and of the up values. -/
theorem block1 (t : Fin cfg1.N) (a : Fin 1024) (f : Fin 704) :
    (outsAt1 V c t).1 (ix3 0 a f) = rowDot (iblk1 V c 0 t) (iblk1 V c 1 t) a f * cell (iblk1 V c 3 t) a f
        * (sg (cell (iblk1 V c 2 t) a f) * (1 + cell (iblk1 V c 2 t) a f * (1 - sg (cell (iblk1 V c 2 t) a f))))
      ∧ (outsAt1 V c t).2 (ix3 0 a f) = rowDot (iblk1 V c 0 t) (iblk1 V c 1 t) a f
        * (cell (iblk1 V c 2 t) a f * sg (cell (iblk1 V c 2 t) a f)) := by
  unfold outsAt1
  dsimp only
  refine ⟨?_, ?_⟩
  all_goals
    frame_out
    canon_tiles x h using (View.cover_of_tiledBy _ ![1, 1024, 64] (by sl_kernel_rfl) _)
  all_goals
    open_payloads
    pointwise
    first
      | exact dgate_of (rowDot_at _ _ h1 h2) (cell_at _ h1 h2) (cell_at _ h1 h2)
      | exact dup_of (rowDot_at _ _ h1 h2) (cell_at _ h1 h2)

/-- The third call's block: the products of the activations and the cotangents, summed over the tokens. -/
theorem block2 (x0 : Vec Ideal S1x2048x704 .bf16) (x1 : Vec Ideal S2048x2048 .bf16) (f : Fin 704) (d : Fin 2048) :
    out2_2 x0 x1 (ix3 0 f d) = ∑ t : Fin 2048, x0 (ix3 0 t f) * x1 (ix2 t d) := by
  frame_out
  open_payloads
  pointwise

/-- The fourth call's blocks: the same products of two arrays with the activations. -/
theorem block3 (x0 x1 : Vec Ideal S1x2048x704 .bf16) (x2 : Vec Ideal S2048x1024 .bf16) (f : Fin 704) (d : Fin 1024) :
    out3_3 x0 x1 x2 (ix3 0 f d) = ∑ t : Fin 2048, x0 (ix3 0 t f) * x2 (ix2 t d)
      ∧ out3_4 x0 x1 x2 (ix3 0 f d) = ∑ t : Fin 2048, x1 (ix3 0 t f) * x2 (ix2 t d) := by
  refine ⟨?_, ?_⟩
  all_goals
    frame_out
    open_payloads
    pointwise

end Cert.Kernel2Ideal.Ffn
-- ==== Proof.FfnArrays.lean ====
/- The arrays that each of the layer's four kernel calls leaves, from the arrays that it is given, over the extended reals. -/
module

public import proofs.«01_k».proof.Proof.FfnBlock

@[expose] public section

set_option maxRecDepth 16384

noncomputable section

namespace Cert.Kernel2Ideal.Ffn

open Idealize.ShloMosaic Idealize.ShloMosaic.TcCoe
open Cert.Kernel2Ideal Cert.Kernel2Ideal.Gen Cert.Ffn Cert.Product
open scoped BigOperators

/-- Token `a` of the half of the tokens that a point of the first two calls works on, -/
def tokenOf (t : Fin 16) (a : Fin 1024) : Fin 2048 := ⟨1024 * (t.val / 8) + a.val, by omega⟩
/-- and the point's block of hidden units. -/
def expertOf (t : Fin 16) : Fin 8 := ⟨t.val % 8, by omega⟩

/-- Feature `d` of the half of the features that a point of the fourth call works on, -/
def featureOf (t : Fin 16) (d : Fin 1024) : Fin 2048 := ⟨1024 * (t.val % 2) + d.val, by omega⟩
/-- and the point's block of hidden units. -/
def pairOf (t : Fin 16) : Fin 8 := ⟨t.val / 2, by omega⟩
/-- A row of a block times a row of a weight block, from the arrays that the two blocks belong to. -/
theorem rowDot_eq {x : Vec Ideal S1024x2048 .bf16} {w : Vec Ideal S1x704x2048 .bf16} {X : Rows} {W : Weights} {t : Fin 16}
    (hx : ∀ a d, x (ix2 a d) = X (ix2 (tokenOf t a) d)) (hw : ∀ f d, w (ix3 0 f d) = W (ix3 (expertOf t) f d)) (a : Fin 1024) (f : Fin 704) :
    rowDot x w a f = prod X W (ix3 (expertOf t) (tokenOf t a) f) :=
  Finset.sum_congr rfl fun d _ => mul_of (hx a d) (hw f d)

/-- A sum over the tokens, whose factors belong to a block and to a feature, is the gradient of a weight at the block's place. -/
theorem sum_eq_wgrad {A : Hidden} {X : Rows} {x w : Fin 2048 → EReal} {j : Fin 8} {f : Fin 704} {d : Fin 2048}
    (hx : ∀ a, x a = A (ix3 j a f)) (hw : ∀ a, w a = X (ix2 a d)) : ∑ a, x a * w a = wgrad A X (ix3 (spotOf j) f d) := by
  show _ = ∑ a : Fin 2048, A (ix3 (slot (spotOf j)) a f) * X (ix2 a d)
  rw [show slot (spotOf j) = j from slot_place j.val j.isLt _]
  exact Finset.sum_congr rfl fun a _ => mul_of (hx a) (hw a)

/-- Which block of each array a point of the first call works on, -/
theorem index0 : ∀ t : Fin cfg0.N, win0_0.index t = ![t.val / 8, 0] ∧ (win0_1.index t = ![t.val % 8, 0, 0] ∧ win0_2.index t = ![t.val % 8, 0, 0])
    ∧ win0_3.index t = ![t.val % 8, t.val / 8, 0] ∧ win0_4.index t = ![t.val % 8, t.val / 8, 0] ∧ win0_5.index t = ![t.val % 8, t.val / 8, 0] :=
  fun t => (by decide +kernel : ∀ t : Fin grid0.N, win0_0.index t = ![t.val / 8, 0] ∧ (win0_1.index t = ![t.val % 8, 0, 0] ∧ win0_2.index t = ![t.val % 8, 0, 0])
    ∧ win0_3.index t = ![t.val % 8, t.val / 8, 0] ∧ win0_4.index t = ![t.val % 8, t.val / 8, 0] ∧ win0_5.index t = ![t.val % 8, t.val / 8, 0]) t

/-- a point of the second, -/
theorem index1 : ∀ t : Fin cfg1.N, win1_0.index t = ![t.val / 8, 0] ∧ win1_1.index t = ![t.val % 8, 0, 0]
    ∧ (win1_2.index t = ![t.val % 8, t.val / 8, 0] ∧ win1_3.index t = ![t.val % 8, t.val / 8, 0])
    ∧ win1_4.index t = ![t.val % 8, t.val / 8, 0] ∧ win1_5.index t = ![t.val % 8, t.val / 8, 0] :=
  fun t => (by decide +kernel : ∀ t : Fin grid1.N, win1_0.index t = ![t.val / 8, 0] ∧ win1_1.index t = ![t.val % 8, 0, 0]
    ∧ (win1_2.index t = ![t.val % 8, t.val / 8, 0] ∧ win1_3.index t = ![t.val % 8, t.val / 8, 0])
    ∧ win1_4.index t = ![t.val % 8, t.val / 8, 0] ∧ win1_5.index t = ![t.val % 8, t.val / 8, 0]) t

/-- a point of the third -/
theorem index2 : ∀ t : Fin cfg2.N, win2_0.index t = ![t.val, 0, 0] ∧ win2_1.index t = ![0, 0] ∧ win2_2.index t = ![t.val % 2 * 4 + t.val / 2, 0, 0] :=
  fun t => (by decide +kernel : ∀ t : Fin grid2.N, win2_0.index t = ![t.val, 0, 0] ∧ win2_1.index t = ![0, 0] ∧ win2_2.index t = ![t.val % 2 * 4 + t.val / 2, 0, 0]) t

/-- and a point of the fourth. -/
theorem index3 : ∀ t : Fin cfg3.N, (win3_0.index t = ![t.val / 2, 0, 0] ∧ win3_1.index t = ![t.val / 2, 0, 0]) ∧ win3_2.index t = ![0, t.val % 2]
    ∧ win3_3.index t = ![t.val / 2 % 2 * 4 + t.val / 2 / 2, 0, t.val % 2] ∧ win3_4.index t = ![t.val / 2 % 2 * 4 + t.val / 2 / 2, 0, t.val % 2] :=
  fun t => (by decide +kernel : ∀ t : Fin grid3.N, (win3_0.index t = ![t.val / 2, 0, 0] ∧ win3_1.index t = ![t.val / 2, 0, 0]) ∧ win3_2.index t = ![0, t.val % 2]
    ∧ win3_3.index t = ![t.val / 2 % 2 * 4 + t.val / 2 / 2, 0, t.val % 2] ∧ win3_4.index t = ![t.val / 2 % 2 * 4 + t.val / 2 / 2, 0, t.val % 2]) t

variable (V : (c : Dev nD) → (b : Ref sig .tc) → Buf (Elt Ideal) ((c : Thread nD τ).loc b)) (c : Dev nD)

/-- The first call's three blocks: tokens of the layer's input, and weights of the gate and of the up values. -/
theorem given0 (t : Fin cfg0.N) :
    (∀ (a : Fin 1024) (d : Fin 2048), (iblk0 V c 0 t : Vec Ideal S1024x2048 .bf16) (ix2 a d) = (V c main_arg0 : Rows) (ix2 (tokenOf t a) d))
      ∧ (∀ (f : Fin 704) (d : Fin 2048), (iblk0 V c 1 t : Vec Ideal S1x704x2048 .bf16) (ix3 0 f d) = (V c main_arg1 : Weights) (ix3 (expertOf t) f d))
      ∧ ∀ (f : Fin 704) (d : Fin 2048), (iblk0 V c 2 t : Vec Ideal S1x704x2048 .bf16) (ix3 0 f d) = (V c main_arg2 : Weights) (ix3 (expertOf t) f d) := by
  refine ⟨fun a d => ?_, fun f d => ?_, fun f d => ?_⟩
  all_goals
    blk_simp [iblk0]
    refine congrArg (V c _) ?_
    blk_ext [index0, tokenOf, expertOf]

/-- The second call's four: tokens of the cotangent, weights of the down product, and the gate and up values. -/
theorem given1 (t : Fin cfg1.N) :
    (∀ (a : Fin 1024) (d : Fin 2048), (iblk1 V c 0 t : Vec Ideal S1024x2048 .bf16) (ix2 a d) = (V c main_arg4 : Rows) (ix2 (tokenOf t a) d))
      ∧ (∀ (f : Fin 704) (d : Fin 2048), (iblk1 V c 1 t : Vec Ideal S1x704x2048 .bf16) (ix3 0 f d) = (V c main_arg3 : Weights) (ix3 (expertOf t) f d))
      ∧ (∀ (a : Fin 1024) (f : Fin 704), cell (iblk1 V c 2 t) a f = (V c main_v0_0 : Hidden) (ix3 (expertOf t) (tokenOf t a) f))
      ∧ ∀ (a : Fin 1024) (f : Fin 704), cell (iblk1 V c 3 t) a f = (V c main_v0_1 : Hidden) (ix3 (expertOf t) (tokenOf t a) f) := by
  unfold cell
  refine ⟨fun a d => ?_, fun f d => ?_, fun a f => ?_, fun a f => ?_⟩
  all_goals
    blk_simp [iblk1]
    refine congrArg (V c _) ?_
    blk_ext [index1, tokenOf, expertOf]

/-- The third call's two: the activations of a block of hidden units, and the cotangent. -/
theorem given2 (t : Fin cfg2.N) :
    (∀ (a : Fin 2048) (f : Fin 704), (iblk2 V c 0 t : Vec Ideal S1x2048x704 .bf16) (ix3 0 a f) = (V c main_v0_2 : Hidden) (ix3 t a f))
      ∧ ∀ a d : Fin 2048, (iblk2 V c 1 t : Vec Ideal S2048x2048 .bf16) (ix2 a d) = (V c main_arg4 : Rows) (ix2 a d) := by
  refine ⟨fun a f => ?_, fun a d => ?_⟩
  all_goals
    blk_simp [iblk2]
    refine congrArg (V c _) ?_
    blk_ext [index2]

/-- The fourth call's three: the gradients of the gate and of the up values of a block of hidden units, and half of the layer's input. -/
theorem given3 (t : Fin cfg3.N) :
    (∀ (a : Fin 2048) (f : Fin 704), (iblk3 V c 0 t : Vec Ideal S1x2048x704 .bf16) (ix3 0 a f) = (V c main_v1_0 : Hidden) (ix3 (pairOf t) a f))
      ∧ (∀ (a : Fin 2048) (f : Fin 704), (iblk3 V c 1 t : Vec Ideal S1x2048x704 .bf16) (ix3 0 a f) = (V c main_v1_1 : Hidden) (ix3 (pairOf t) a f))
      ∧ ∀ (a : Fin 2048) (d : Fin 1024), (iblk3 V c 2 t : Vec Ideal S2048x1024 .bf16) (ix2 a d) = (V c main_arg0 : Rows) (ix2 a (featureOf t d)) := by
  refine ⟨fun a f => ?_, fun a f => ?_, fun a d => ?_⟩
  all_goals
    blk_simp [iblk3]
    refine congrArg (V c _) ?_
    blk_ext [index3, pairOf, featureOf]

/-- Where an index of each written block stands in its array: for the first call, -/
theorem stands0 (t : Fin cfg0.N) (a : Fin 1024) (f : Fin 704) :
    (win0_3.blk t).view.emb (ix3 0 a f) = ix3 (expertOf t) (tokenOf t a) f
      ∧ (win0_4.blk t).view.emb (ix3 0 a f) = ix3 (expertOf t) (tokenOf t a) f
      ∧ (win0_5.blk t).view.emb (ix3 0 a f) = ix3 (expertOf t) (tokenOf t a) f := by
  refine ⟨?_, ?_, ?_⟩ <;> blk_ext [index0, tokenOf, expertOf]

/-- the second, -/
theorem stands1 (t : Fin cfg1.N) (a : Fin 1024) (f : Fin 704) :
    (win1_4.blk t).view.emb (ix3 0 a f) = ix3 (expertOf t) (tokenOf t a) f
      ∧ (win1_5.blk t).view.emb (ix3 0 a f) = ix3 (expertOf t) (tokenOf t a) f := by
  refine ⟨?_, ?_⟩ <;> blk_ext [index1, tokenOf, expertOf]

/-- the third -/
theorem stands2 (t : Fin cfg2.N) (f : Fin 704) (d : Fin 2048) : (win2_2.blk t).view.emb (ix3 0 f d) = ix3 (spotOf t) f d := by
  blk_ext [index2, spotOf]

/-- and the fourth. -/
theorem stands3 (t : Fin cfg3.N) (f : Fin 704) (d : Fin 1024) :
    (win3_3.blk t).view.emb (ix3 0 f d) = ix3 (spotOf (pairOf t)) f (featureOf t d)
      ∧ (win3_4.blk t).view.emb (ix3 0 f d) = ix3 (spotOf (pairOf t)) f (featureOf t d) := by
  refine ⟨?_, ?_⟩ <;> blk_ext [index3, spotOf, pairOf, featureOf]

/-- The first call leaves the gate values, the up values and the activations. -/
theorem final0 : (dat0 V c).arrAt 3 cfg0.N = prod (V c main_arg0) (V c main_arg1)
    ∧ (dat0 V c).arrAt 4 cfg0.N = prod (V c main_arg0) (V c main_arg2)
    ∧ (dat0 V c).arrAt 5 cfg0.N = act (prod (V c main_arg0) (V c main_arg1)) (prod (V c main_arg0) (V c main_arg2)) := by
  refine ⟨(dat0 V c).arrAt_eq_of_covers 3 _ (by decide +kernel) fun t _ y => ?_, (dat0 V c).arrAt_eq_of_covers 4 _ (by decide +kernel) fun t _ y => ?_,
    (dat0 V c).arrAt_eq_of_covers 5 _ (by decide +kernel) fun t _ y => ?_⟩
  all_goals
    obtain ⟨a, f, rfl⟩ := one_block y
    obtain ⟨hg, hu, ha⟩ := block0 V c t a f
    obtain ⟨hx, hwg, hwu⟩ := given0 V c t
    obtain ⟨e3, e4, e5⟩ := stands0 t a f
    rw [rowDot_eq hx hwg] at hg ha
    rw [rowDot_eq hx hwu] at hu ha
    blk_simp
    first
      | rw [after0_3, e3]; exact hg
      | rw [after0_4, e4]; exact hu
      | rw [after0_5, e5]; exact ha

/-- The second call leaves the gradients of the gate values and of the up values. -/
theorem final1 : (dat1 V c).arrAt 4 cfg1.N = dgate (prod (V c main_arg4) (V c main_arg3)) (V c main_v0_0) (V c main_v0_1)
    ∧ (dat1 V c).arrAt 5 cfg1.N = dup (prod (V c main_arg4) (V c main_arg3)) (V c main_v0_0) := by
  refine ⟨(dat1 V c).arrAt_eq_of_covers 4 _ (by decide +kernel) fun t _ y => ?_, (dat1 V c).arrAt_eq_of_covers 5 _ (by decide +kernel) fun t _ y => ?_⟩
  all_goals
    obtain ⟨a, f, rfl⟩ := one_block y
    obtain ⟨hg, hu⟩ := block1 V c t a f
    obtain ⟨hx, hw, hgate, hup⟩ := given1 V c t
    obtain ⟨e4, e5⟩ := stands1 t a f
    rw [rowDot_eq hx hw, hgate] at hg hu
    rw [hup] at hg
    blk_simp
    first
      | rw [after1_4, e4]; exact hg
      | rw [after1_5, e5]; exact hu

/-- The third call leaves the gradient of the down weights. -/
theorem final2 : (dat2 V c).arrAt 2 cfg2.N = wgrad (V c main_v0_2) (V c main_arg4) := by
  refine (dat2 V c).arrAt_eq_of_covers 2 _ (by decide +kernel) fun t _ y => ?_
  obtain ⟨f, d, rfl⟩ := one_block y
  blk_simp
  rw [after2_2, stands2]
  exact (block2 _ _ f d).trans (sum_eq_wgrad (fun a => (given2 V c t).1 a f) fun a => (given2 V c t).2 a d)

/-- The fourth call leaves the gradients of the gate weights and of the up weights. -/
theorem final3 : (dat3 V c).arrAt 3 cfg3.N = wgrad (V c main_v1_0) (V c main_arg0)
    ∧ (dat3 V c).arrAt 4 cfg3.N = wgrad (V c main_v1_1) (V c main_arg0) := by
  refine ⟨(dat3 V c).arrAt_eq_of_covers 3 _ (by decide +kernel) fun t _ y => ?_, (dat3 V c).arrAt_eq_of_covers 4 _ (by decide +kernel) fun t _ y => ?_⟩
  all_goals
    obtain ⟨f, d, rfl⟩ := one_block y
    obtain ⟨hg, hu, hx⟩ := given3 V c t
    obtain ⟨e3, e4⟩ := stands3 t f d
    blk_simp
    first
      | rw [after3_3, e3]; exact (block3 _ _ _ f d).1.trans (sum_eq_wgrad (fun a => hg a f) fun a => hx a d)
      | rw [after3_4, e4]; exact (block3 _ _ _ f d).2.trans (sum_eq_wgrad (fun a => hu a f) fun a => hx a d)

end Cert.Kernel2Ideal.Ffn
-- ==== Proof.FfnKernel.lean ====
/- The three arrays that the layer's kernel calls end with, from the five that they start with, over the extended reals. -/
module

public import proofs.«01_k».proof.Proof.FfnRun
public import proofs.«01_k».proof.Proof.FfnArrays

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen Cert.Ffn

variable (m : (ℓ : Loc nD τ sig) → Buf (Elt Ideal) ℓ) (ρ : Dev nD → PrngReg) (c : Dev nD)

/-- The layer of a device: its activations, its three weights and the cotangent of its output. -/
def layer : Layer where
  h := m (c.tc.loc main_arg0)
  wg := m (c.tc.loc main_arg1)
  wu := m (c.tc.loc main_arg2)
  wd := m (c.tc.loc main_arg3)
  x := m (c.tc.loc main_arg4)

/-- The arguments that the second call is given: the down weights -/
theorem V1_arg3 : V1 m ρ c main_arg3 = (layer m c).wd := W1_args m ρ c main_arg3 (by decide)
/-- and the cotangent, -/
theorem V1_arg4 : V1 m ρ c main_arg4 = (layer m c).x := W1_args m ρ c main_arg4 (by decide)
/-- the third the cotangent -/
theorem V2_arg4 : V2 m ρ c main_arg4 = (layer m c).x := W2_args m ρ c main_arg4 (by decide)
/-- and the fourth the activations. -/
theorem V3_arg0 : V3 m ρ c main_arg0 = (layer m c).h := W3_args m ρ c main_arg0 (by decide)

/-- After the first call: the gate values, -/
theorem V1_gate : V1 m ρ c main_v0_0 = (layer m c).gate := (W1_arr m ρ c 3).trans (final0 (V0 m ρ) c).1
/-- the up values -/
theorem V1_up : V1 m ρ c main_v0_1 = (layer m c).up := (W1_arr m ρ c 4).trans (final0 (V0 m ρ) c).2.1
/-- and the activations, which the second call leaves as they are. -/
theorem V2_act : V2 m ρ c main_v0_2 = act (layer m c).gate (layer m c).up :=
  (W2_of m ρ c main_v0_2 (by decide)).trans ((W1_arr m ρ c 5).trans (final0 (V0 m ρ) c).2.2)

/-- After the second call: the gradients of the gate values -/
theorem V2_dgate : V2 m ρ c main_v1_0 = dgate (layer m c).dact (layer m c).gate (layer m c).up := by
  refine (W2_arr m ρ c 4).trans ((final1 (V1 m ρ) c).1.trans ?_)
  rw [V1_arg3, V1_arg4, V1_gate, V1_up]
  rfl

/-- and of the up values. -/
theorem V2_dup : V2 m ρ c main_v1_1 = dup (layer m c).dact (layer m c).gate := by
  refine (W2_arr m ρ c 5).trans ((final1 (V1 m ρ) c).2.trans ?_)
  rw [V1_arg3, V1_arg4, V1_gate]
  rfl

/-- The gradient of the gate weights, -/
theorem result_dwg : (dat3 (V3 m ρ) c).arrAt 3 cfg3.N = (layer m c).dwg := by
  refine (final3 (V3 m ρ) c).1.trans ?_
  rw [V3_arg0, show V3 m ρ c main_v1_0 = V2 m ρ c main_v1_0 from W3_of m ρ c main_v1_0 (by decide), V2_dgate]
  rfl

/-- of the up weights -/
theorem result_dwu : (dat3 (V3 m ρ) c).arrAt 4 cfg3.N = (layer m c).dwu := by
  refine (final3 (V3 m ρ) c).2.trans ?_
  rw [V3_arg0, show V3 m ρ c main_v1_1 = V2 m ρ c main_v1_1 from W3_of m ρ c main_v1_1 (by decide), V2_dup]
  rfl

/-- and of the down weights. -/
theorem result_dwd : (dat2 (V2 m ρ) c).arrAt 2 cfg2.N = (layer m c).dwd := by
  refine (final2 (V2 m ρ) c).trans ?_
  rw [V2_arg4, V2_act]
  rfl

end Cert.Kernel2Ideal.Ffn
-- ==== Proof.FfnRef.lean ====
/- The three arrays of the layer's reference, read at an index, over the extended reals. -/
module

public import proofs.«01_k».proof.Proof.Gen.Reference2Ideal.Run
public import proofs.«01_k».proof.Proof.FfnMath
public import Idealize.ShloMosaic.Lib.Tactic.CleanTypes

@[expose] public section

set_option maxRecDepth 16384

noncomputable section

namespace Cert.Reference2Ideal.Ffn

open Idealize.ShloMosaic Idealize.ShloMosaic.TcCoe
open Cert.Reference2Ideal Cert.Reference2Ideal.Gen Cert.Ffn
open scoped BigOperators

/-- Tokens by hidden units, all blocks' units in one row. -/
abbrev Wide := FVec Ideal S2048x5632 .f32

/-- A product of the rows with the weights' transposes. -/
def inner (h : FVec Ideal S2048x2048 .bf16) (w : FVec Ideal S8x704x2048 .bf16) : Wide :=
  Host.dotGeneral dot_S2048x2048_S2048x5632_S2048x5632_1_0_0_1_n_n none (extf .f32 h bitsLt_bf16_f32)
    (transpose S2048x5632 [1, 0] (shapeCast _ (extf .f32 w bitsLt_bf16_f32) shapeCasts_S8x704x2048_S5632x2048) transposes_S5632x2048_S2048x5632_1_0)

/-- The gradient of the activations. -/
def outer (x : FVec Ideal S2048x2048 .bf16) (w : FVec Ideal S8x704x2048 .bf16) : Wide :=
  Host.dotGeneral dot_S2048x2048_S5632x2048_S2048x5632_1_1_0_0_n_n none (extf .f32 x bitsLt_bf16_f32)
    (shapeCast _ (extf .f32 w bitsLt_bf16_f32) shapeCasts_S8x704x2048_S5632x2048)

/-- The constant one. -/
def ones : Wide := broadcastInDim S2048x5632 ![] bcast_S_S2048x5632 (constant S_ .f32 0x3F800000#32)

/-- The logistic function of a product. -/
def sig (g : Wide) : Wide := Host.divf ones (addf ones (Host.exp (Host.negf g)))

/-- The gradient of the gate values. -/
def gateGrad (d u g : Wide) : Wide := addf (mulf (mulf d u) (sig g)) (mulf (mulf g (mulf d u)) (mulf (sig g) (subf ones (sig g))))

/-- The blocks' gradients in the order in which they are scattered. -/
def slots (a : FVec Ideal S5632x2048 .f32) : FVec Ideal S8x704x2048 .bf16 :=
  truncf .bf16 (shapeCast _ (transpose S2x4x704x2048 [1, 0, 2, 3] (shapeCast _ a shapeCasts_S5632x2048_S4x2x704x2048)
    transposes_S4x2x704x2048_S2x4x704x2048_1_0_2_3) shapeCasts_S2x4x704x2048_S8x704x2048) bitsLt_bf16_f32

/-- The gradient of the transpose of a weight, the sum over the tokens. -/
def transGrad (a : Wide) (h : FVec Ideal S2048x2048 .bf16) : FVec Ideal S5632x2048 .f32 :=
  transpose S5632x2048 [1, 0] (transpose S2048x5632 [1, 0] (Host.dotGeneral dot_S2048x5632_S2048x2048_S5632x2048_0_0_1_1_n_n none a
    (extf .f32 h bitsLt_bf16_f32)) transposes_S5632x2048_S2048x5632_1_0) transposes_S2048x5632_S5632x2048_1_0

/-- The gradient of the down weights. -/
def downGrad (x : FVec Ideal S2048x2048 .bf16) (a : Wide) : FVec Ideal S5632x2048 .f32 :=
  transpose S5632x2048 [1, 0] (Host.dotGeneral dot_S2048x2048_S2048x5632_S2048x5632_0_0_1_1_n_n none (extf .f32 x bitsLt_bf16_f32) a)
    transposes_S2048x5632_S5632x2048_1_0

/-- Hidden unit `f` of block `j`, among all the blocks' units. -/
def unit (j : Fin 8) (f : Fin 704) : Fin 5632 := ⟨704 * j.val + f.val, by omega⟩

/-- A hidden unit's block and its place there, from its place among all. -/
theorem unit_split (j : Fin 8) (f : Fin 704) :
    ((⟨(unit j f).val / 704, by have := (unit j f).isLt; omega⟩, ⟨(unit j f).val % 704, Nat.mod_lt _ (by decide)⟩) : Fin 8 × Fin 704) = (j, f) :=
  Prod.ext (Fin.ext (show (704 * j.val + f.val) / 704 = j.val by omega)) (Fin.ext (show (704 * j.val + f.val) % 704 = f.val by omega))

/-- The product of the rows with the weights, at a token and a hidden unit. -/
theorem inner_apply (h : FVec Ideal S2048x2048 .bf16) (w : FVec Ideal S8x704x2048 .bf16) (j : Fin 8) (t : Fin 2048) (f : Fin 704) :
    inner h w (ix2 t (unit j f)) = prod h w (ix3 j t f) := by
  unfold inner
  pointwise
  refine Finset.sum_congr rfl fun d _ => ?_
  exact congrArg (fun k : Fin 8 × Fin 704 => h (ix2 t d) * w (ix3 k.1 k.2 d)) (unit_split j f)

/-- The gradient of the activations, at a token and a hidden unit. -/
theorem outer_apply (h : FVec Ideal S2048x2048 .bf16) (w : FVec Ideal S8x704x2048 .bf16) (j : Fin 8) (t : Fin 2048) (f : Fin 704) :
    outer h w (ix2 t (unit j f)) = prod h w (ix3 j t f) := by
  unfold outer
  pointwise
  refine Finset.sum_congr rfl fun d _ => ?_
  exact congrArg (fun k : Fin 8 × Fin 704 => h (ix2 t d) * w (ix3 k.1 k.2 d)) (unit_split j f)

/-- The logistic function is taken entry by entry. -/
theorem sig_apply (g : Wide) (i) : sig g i = sg (g i) := by
  unfold sig ones
  pointwise
  rfl

/-- The gradient of the gate values, entry by entry. -/
theorem gateGrad_apply (d u g : Wide) (i) :
    gateGrad d u g i = d i * u i * sg (g i) + g i * (d i * u i) * (sg (g i) * (1 - sg (g i))) := by
  show d i * u i * sig g i + g i * (d i * u i) * (sig g i * (ones i - sig g i)) = _
  rw [sig_apply, show ones i = (1 : EReal) from by unfold ones; pointwise]

/-- Which block's gradient stands in which place. -/
theorem slots_apply (a : FVec Ideal S5632x2048 .f32) (s : Fin 8) (f : Fin 704) (d : Fin 2048) :
    slots a (ix3 s f d) = a (ix2 (unit (slot s) f) d) := by
  unfold slots
  pointwise
  exact congrArg (fun k => a (ix2 k d)) (Fin.ext (show s.val % 4 * 1408 + s.val / 4 * 704 + f.val = 704 * (s.val % 4 * 2 + s.val / 4) + f.val by omega))

/-- The gradient of an inner weight, a sum over the tokens. -/
theorem transGrad_apply (a : Wide) (h : FVec Ideal S2048x2048 .bf16) (k : Fin 5632) (d : Fin 2048) :
    transGrad a h (ix2 k d) = ∑ t : Fin 2048, a (ix2 t k) * h (ix2 t d) := by
  unfold transGrad
  pointwise

/-- The gradient of a down weight, a sum over the tokens. -/
theorem downGrad_apply (x : FVec Ideal S2048x2048 .bf16) (a : Wide) (k : Fin 5632) (d : Fin 2048) :
    downGrad x a (ix2 k d) = ∑ t : Fin 2048, a (ix2 t k) * x (ix2 t d) := by
  unfold downGrad
  pointwise
  exact Finset.sum_congr rfl fun t _ => mul_comm _ _

/-- The reference's gradient of the up weights is the layer's. -/
theorem dwu_eq (h x : FVec Ideal S2048x2048 .bf16) (wg wu wd : FVec Ideal S8x704x2048 .bf16) :
    slots (transGrad (mulf (mulf (inner h wg) (sig (inner h wg))) (outer x wd)) h) = (Layer.mk h wg wu wd x).dwu := by
  funext i
  idx_vars i
  rw [slots_apply, transGrad_apply]
  show _ = ∑ t : Fin 2048, dup (prod x wd) (prod h wg) (ix3 (slot i0) t i1) * h (ix2 t i2)
  refine Finset.sum_congr rfl fun t _ => ?_
  show inner h wg _ * sig (inner h wg) _ * outer x wd _ * _ = _
  rw [sig_apply, inner_apply, outer_apply, mul_comm (_ * _) (prod x wd _)]
  rfl

/-- The reference's gradient of the down weights is the layer's. -/
theorem dwd_eq (h x : FVec Ideal S2048x2048 .bf16) (wg wu wd : FVec Ideal S8x704x2048 .bf16) :
    slots (downGrad x (mulf (mulf (inner h wg) (sig (inner h wg))) (inner h wu))) = (Layer.mk h wg wu wd x).dwd := by
  funext i
  idx_vars i
  rw [slots_apply, downGrad_apply]
  show _ = ∑ t : Fin 2048, act (prod h wg) (prod h wu) (ix3 (slot i0) t i1) * x (ix2 t i2)
  refine Finset.sum_congr rfl fun t _ => ?_
  show inner h wg _ * sig (inner h wg) _ * inner h wu _ * _ = _
  rw [sig_apply, inner_apply, inner_apply]
  rfl

/-- The reference's gradient of the gate weights is the layer's, where the rows, the up and down
weights and the cotangent are finite. -/
theorem dwg_eq (h x : FVec Ideal S2048x2048 .bf16) (wg wu wd : FVec Ideal S8x704x2048 .bf16)
    (hh : ∀ i, ∃ r : ℝ, h i = (r : EReal)) (hu : ∀ i, ∃ r : ℝ, wu i = (r : EReal))
    (hd : ∀ i, ∃ r : ℝ, wd i = (r : EReal)) (hx : ∀ i, ∃ r : ℝ, x i = (r : EReal)) :
    slots (transGrad (gateGrad (outer x wd) (inner h wu) (inner h wg)) h) = (Layer.mk h wg wu wd x).dwg := by
  funext i
  idx_vars i
  rw [slots_apply, transGrad_apply]
  show _ = ∑ t : Fin 2048, dgate (prod x wd) (prod h wg) (prod h wu) (ix3 (slot i0) t i1) * h (ix2 t i2)
  refine Finset.sum_congr rfl fun t _ => ?_
  rw [gateGrad_apply, inner_apply, inner_apply, outer_apply]
  obtain ⟨p, hp⟩ := prod_real hx hd (ix3 (slot i0) t i1)
  obtain ⟨q, hq⟩ := prod_real hh hu (ix3 (slot i0) t i1)
  have e := silu_grad (p * q) (prod h wg (ix3 (slot i0) t i1))
  rw [EReal.coe_mul, ← hp, ← hq] at e
  exact congrArg (· * h (ix2 t i2)) e.symm

end Cert.Reference2Ideal.Ffn
-- ==== Proof.FfnClaim.lean ====
/- The layer's kernel calls and its reference end with the same three arrays: the gradients of the gate, up and down weights. -/
module

public import proofs.«01_k».proof.Defs
public import proofs.«01_k».proof.Proof.FfnPre
public import proofs.«01_k».proof.Proof.FfnKernel
public import proofs.«01_k».proof.Proof.FfnRef

@[expose] public section

noncomputable section

namespace Cert.Proof

open Idealize.ShloMosaic Idealize.SL.Sem Cert.Ffn

/-- The two programs end with equal results wherever the activations, the up and down weights and the cotangent are finite. -/
theorem algebraic_layer [Cert.Pre_operands_finite.Facts] : Cert.algebraic_Kernel2Ideal_Reference2Ideal_pre_operands_finite := by
  intro m g m' g' hpre hag
  refine ⟨fun c => (Cert.Kernel2Ideal.Ffn.layer m c).dwg, fun c => (Cert.Kernel2Ideal.Ffn.layer m c).dwu,
    fun c => (Cert.Kernel2Ideal.Ffn.layer m c).dwd, ?_, ?_⟩
  · refine (θ_run _ _ _).mono (fun r h c => ?_) (Cert.Kernel2Ideal.Ffn.run_results m g)
    exact ⟨(h c).1.trans (Cert.Kernel2Ideal.Ffn.result_dwg m g c), (h c).2.1.trans (Cert.Kernel2Ideal.Ffn.result_dwu m g c),
      (h c).2.2.1.trans (Cert.Kernel2Ideal.Ffn.result_dwd m g c), (h c).2.2.2⟩
  · refine (θ_run _ _ _).mono (fun r h c => ?_) (Cert.Reference2Ideal.Value.run m' g')
    obtain ⟨rh, ru, rd, rx⟩ := Cert.Pre_operands_finite.Read.reads _ _ _ _ _ (hpre c)
    obtain ⟨h0, h1, h2, h3, h4⟩ := hag c
    have e : Layer.mk (m' (c.tc.loc Cert.Reference2Ideal.main_arg0)) (m' (c.tc.loc Cert.Reference2Ideal.main_arg1))
        (m' (c.tc.loc Cert.Reference2Ideal.main_arg2)) (m' (c.tc.loc Cert.Reference2Ideal.main_arg3))
        (m' (c.tc.loc Cert.Reference2Ideal.main_arg4)) = Cert.Kernel2Ideal.Ffn.layer m c := by
      rw [h0, h1, h2, h3, h4]
      rfl
    rw [← h0] at rh
    rw [← h2] at ru
    rw [← h3] at rd
    rw [← h4] at rx
    exact ⟨(h c).1.trans ((Cert.Reference2Ideal.Ffn.dwg_eq _ _ _ _ _ rh ru rd rx).trans (congrArg Layer.dwg e)),
      (h c).2.1.trans ((Cert.Reference2Ideal.Ffn.dwu_eq _ _ _ (m' (c.tc.loc Cert.Reference2Ideal.main_arg2)) _).trans (congrArg Layer.dwu e)),
      (h c).2.2.1.trans ((Cert.Reference2Ideal.Ffn.dwd_eq _ _ _ _ (m' (c.tc.loc Cert.Reference2Ideal.main_arg3))).trans (congrArg Layer.dwd e)), (h c).2.2.2⟩

end Cert.Proof
-- ==== Proof.InputKernel.lean ====
/- The array that the call for the input's gradient ends with, over the extended reals: each point adds one block of hidden units
   to a buffer that the points of a row of blocks carry on, and the last of the row writes it out. -/
module

public import proofs.«01_k».proof.Proof.Gen.Kernel3Ideal.Frame
public import proofs.«01_k».proof.Proof.Gen.Kernel3Ideal.Value
public import proofs.«01_k».proof.Proof.InputMath
public import Idealize.ShloMosaic.Lib.Pipeline.ValueKit
public import Idealize.ShloMosaic.Lib.Pipeline.ReadBack

@[expose] public section

set_option maxRecDepth 16384

noncomputable section

namespace Cert.Kernel3Ideal.Input

open Idealize.ShloMosaic Idealize.ShloMosaic.TcCoe
open Idealize.ShloMosaic.Tactic
open Cert.Kernel3Ideal Cert.Kernel3Ideal.Gen Cert.Ffn
open scoped BigOperators

variable (m : (ℓ : Loc nD τ sig) → Buf (Elt Ideal) ℓ) (c : Dev nD)

/-- The gradients of the gate values, -/
abbrev dgate : Hidden := m (c.tc.loc main_arg0)
/-- those of the up values, -/
abbrev dup : Hidden := m (c.tc.loc main_arg1)
/-- the gate weights -/
abbrev wgate : Weights := m (c.tc.loc main_arg2)
/-- and the up weights that a device starts with. -/
abbrev wup : Weights := m (c.tc.loc main_arg3)

/-- The two products of a point's blocks, at a row and a column. -/
def pair (x0 x1 : Vec Ideal S1x1024x704 .bf16) (x2 x3 : Vec Ideal S1x704x2048 .bf16) (a : Fin 1024) (d : Fin 2048) : EReal :=
  (∑ f : Fin 704, x0 (ix3 0 a f) * x2 (ix3 0 f d)) + ∑ f : Fin 704, x1 (ix3 0 a f) * x3 (ix3 0 f d)

/-- At the first point of a row of blocks the carried buffer holds the point's products. -/
theorem carried_first (t : Fin cfg0.N) (h0 : t.val % 8 = 0) (h1 : ¬t.val % 8 = 7) (a : Fin 1024) (d : Fin 2048) :
    (outsAt0 m c t.val t.isLt).2 (ix2 a d) = pair (iblk m c 0 t) (iblk m c 1 t) (iblk m c 2 t) (iblk m c 3 t) a d := by
  rw [outsAt0_A m c t h0 h1]
  dsimp only
  frame_out
  open_payloads
  pointwise
  rfl

/-- At a point between it holds the products and what the point before left. -/
theorem carried_next (t : Fin cfg0.N) (h0 : ¬t.val % 8 = 0) (h1 : ¬t.val % 8 = 7) (a : Fin 1024) (d : Fin 2048) :
    (outsAt0 m c t.val t.isLt).2 (ix2 a d) = (outsAt0 m c (t.val - 1) (Nat.lt_of_le_of_lt (Nat.sub_le _ _) t.isLt)).2 (ix2 a d)
      + pair (iblk m c 0 t) (iblk m c 1 t) (iblk m c 2 t) (iblk m c 3 t) a d := by
  rw [outsAt0_B m c t h0 h1]
  dsimp only
  frame_out
  open_payloads
  pointwise
  simp only [read_unread_whole]
  exact add_assoc _ _ _

/-- At the last point the block that is written out holds the products and what the point before left. -/
theorem written_last (t : Fin cfg0.N) (h0 : ¬t.val % 8 = 0) (h1 : t.val % 8 = 7) (a : Fin 1024) (d : Fin 2048) :
    (outsAt0 m c t.val t.isLt).1 (ix2 a d) = (outsAt0 m c (t.val - 1) (Nat.lt_of_le_of_lt (Nat.sub_le _ _) t.isLt)).2 (ix2 a d)
      + pair (iblk m c 0 t) (iblk m c 1 t) (iblk m c 2 t) (iblk m c 3 t) a d := by
  rw [outsAt0_C m c t h0 h1]
  dsimp only
  frame_out
  open_payloads
  pointwise
  simp only [read_unread_whole]
  exact add_assoc _ _ _

/-- Which block of each array a point works on. -/
theorem index0_0 : ∀ t : Fin cfg0.N, win0_0.index t = ![t.val % 8, t.val / 8, 0] := (by decide +kernel : ∀ t : Fin grid0.N, win0_0.index t = ![t.val % 8, t.val / 8, 0])
/-- The same for the array numbered 1. -/
theorem index0_1 : ∀ t : Fin cfg0.N, win0_1.index t = ![t.val % 8, t.val / 8, 0] := (by decide +kernel : ∀ t : Fin grid0.N, win0_1.index t = ![t.val % 8, t.val / 8, 0])
/-- The same for the array numbered 2. -/
theorem index0_2 : ∀ t : Fin cfg0.N, win0_2.index t = ![t.val % 8, 0, 0] := (by decide +kernel : ∀ t : Fin grid0.N, win0_2.index t = ![t.val % 8, 0, 0])
/-- The same for the array numbered 3. -/
theorem index0_3 : ∀ t : Fin cfg0.N, win0_3.index t = ![t.val % 8, 0, 0] := (by decide +kernel : ∀ t : Fin grid0.N, win0_3.index t = ![t.val % 8, 0, 0])
/-- The same for the array numbered 4. -/
theorem index0_4 : ∀ t : Fin cfg0.N, win0_4.index t = ![t.val / 8, 0] := (by decide +kernel : ∀ t : Fin grid0.N, win0_4.index t = ![t.val / 8, 0])

/-- A point's block of the gate values' gradients. -/
theorem block_dgate (t : Fin cfg0.N) (a : Fin 1024) (f : Fin 704) (h : t.val % 8 < 8) (h' : 1024 * (t.val / 8) + a.val < 2048) :
    (iblk m c 0 t : Vec Ideal S1x1024x704 .bf16) (ix3 0 a f) = dgate m c (ix3 ⟨t.val % 8, h⟩ ⟨1024 * (t.val / 8) + a.val, h'⟩ f) := by
  blk_simp [iblk, index0_0]
  refine congrArg (dgate m c) ?_
  blk_ext [index0_0]

/-- A point's block of the up values' gradients. -/
theorem block_dup (t : Fin cfg0.N) (a : Fin 1024) (f : Fin 704) (h : t.val % 8 < 8) (h' : 1024 * (t.val / 8) + a.val < 2048) :
    (iblk m c 1 t : Vec Ideal S1x1024x704 .bf16) (ix3 0 a f) = dup m c (ix3 ⟨t.val % 8, h⟩ ⟨1024 * (t.val / 8) + a.val, h'⟩ f) := by
  blk_simp [iblk, index0_1]
  refine congrArg (dup m c) ?_
  blk_ext [index0_1]

/-- A point's block of the gate weights. -/
theorem block_wgate (t : Fin cfg0.N) (f : Fin 704) (d : Fin 2048) (h : t.val % 8 < 8) :
    (iblk m c 2 t : Vec Ideal S1x704x2048 .bf16) (ix3 0 f d) = wgate m c (ix3 ⟨t.val % 8, h⟩ f d) := by
  blk_simp [iblk, index0_2]
  refine congrArg (wgate m c) ?_
  blk_ext [index0_2]

/-- A point's block of the up weights. -/
theorem block_wup (t : Fin cfg0.N) (f : Fin 704) (d : Fin 2048) (h : t.val % 8 < 8) :
    (iblk m c 3 t : Vec Ideal S1x704x2048 .bf16) (ix3 0 f d) = wup m c (ix3 ⟨t.val % 8, h⟩ f d) := by
  blk_simp [iblk, index0_3]
  refine congrArg (wup m c) ?_
  blk_ext [index0_3]

/-- A point's products are its block's part of the input's gradient. -/
theorem pair_part (t : Fin cfg0.N) (a : Fin 1024) (d : Fin 2048) (h : t.val % 8 < 8) (h' : 1024 * (t.val / 8) + a.val < 2048) :
    pair (iblk m c 0 t) (iblk m c 1 t) (iblk m c 2 t) (iblk m c 3 t) a d
      = inputPart (dgate m c) (dup m c) (wgate m c) (wup m c) ⟨1024 * (t.val / 8) + a.val, h'⟩ d ⟨t.val % 8, h⟩ := by
  refine congrArg₂ (· + ·) (Finset.sum_congr rfl fun f _ => ?_) (Finset.sum_congr rfl fun f _ => ?_)
  · exact congrArg₂ (· * ·) (block_dgate m c t a f h h') (block_wgate m c t f d h)
  · exact congrArg₂ (· * ·) (block_dup m c t a f h h') (block_wup m c t f d h)

/-- The parts of the first `n` blocks of hidden units, summed. -/
def firstParts (r d : Fin 2048) (n : ℕ) (hn : n ≤ 8) : EReal :=
  ∑ j : Fin n, inputPart (dgate m c) (dup m c) (wgate m c) (wup m c) r d ⟨j.val, by omega⟩

/-- One more part. -/
theorem firstParts_succ (r d : Fin 2048) (n : ℕ) (hn : n + 1 ≤ 8) :
    firstParts m c r d (n + 1) hn = firstParts m c r d n (by omega) + inputPart (dgate m c) (dup m c) (wgate m c) (wup m c) r d ⟨n, by omega⟩ :=
  Fin.sum_univ_castSucc _

/-- As many parts from the same row. -/
theorem firstParts_congr {r r' : Fin 2048} (d : Fin 2048) {n n' : ℕ} (hn : n ≤ 8) (hn' : n' ≤ 8) (hr : r = r') (h : n = n') :
    firstParts m c r d n hn = firstParts m c r' d n' hn' := by
  subst hr; subst h; rfl

/-- Before the last point of a row of blocks, the carried buffer holds the parts of the blocks so far. -/
theorem carried (n : ℕ) (hn : n < cfg0.N) (h7 : ¬n % 8 = 7) (a : Fin 1024) (d : Fin 2048) (h' : 1024 * (n / 8) + a.val < 2048) :
    (outsAt0 m c n hn).2 (ix2 a d) = firstParts m c ⟨1024 * (n / 8) + a.val, h'⟩ d (n % 8 + 1) (by omega) := by
  induction n with
  | zero =>
    rw [firstParts_succ]
    refine (carried_first m c ⟨0, hn⟩ rfl h7 a d).trans ?_
    refine (pair_part m c ⟨0, hn⟩ a d (Nat.mod_lt 0 (by decide)) h').trans (zero_add _).symm
  | succ n ih =>
    have hp := pair_part m c ⟨n + 1, hn⟩ a d (Nat.mod_lt _ (by decide)) h'
    rw [firstParts_succ]
    by_cases h0 : (n + 1) % 8 = 0
    · refine (carried_first m c ⟨n + 1, hn⟩ h0 h7 a d).trans (hp.trans ?_)
      have hz : firstParts m c ⟨1024 * ((n + 1) / 8) + a.val, h'⟩ d ((n + 1) % 8) (by omega) = 0 :=
        (firstParts_congr m c d _ (Nat.zero_le 8) rfl h0).trans rfl
      rw [hz, zero_add]
    · refine (carried_next m c ⟨n + 1, hn⟩ h0 h7 a d).trans (congrArg₂ (· + ·) ?_ hp)
      refine (ih (by omega) (by omega) (by omega)).trans (firstParts_congr m c d _ _ (Fin.ext ?_) (by omega))
      show 1024 * (n / 8) + a.val = 1024 * ((n + 1) / 8) + a.val
      omega

/-- The block that a row's last point writes out. -/
theorem written (t : Fin cfg0.N) (h7 : t.val % 8 = 7) (a : Fin 1024) (d : Fin 2048) (h' : 1024 * (t.val / 8) + a.val < 2048) :
    (outsAt0 m c t.val t.isLt).1 (ix2 a d)
      = inputGrad (dgate m c) (dup m c) (wgate m c) (wup m c) (ix2 ⟨1024 * (t.val / 8) + a.val, h'⟩ d) := by
  refine (written_last m c t (by omega) h7 a d).trans ?_
  refine (congrArg₂ (· + ·) (carried m c (t.val - 1) (Nat.lt_of_le_of_lt (Nat.sub_le _ _) t.isLt) (by omega) a d (by omega))
    (pair_part m c t a d (Nat.mod_lt _ (by decide)) h')).trans ?_
  have e : firstParts m c ⟨1024 * ((t.val - 1) / 8) + a.val, by omega⟩ d ((t.val - 1) % 8 + 1) (by omega)
      = firstParts m c ⟨1024 * (t.val / 8) + a.val, h'⟩ d 7 (by decide) :=
    firstParts_congr m c d _ _ (Fin.ext (show 1024 * ((t.val - 1) / 8) + a.val = 1024 * (t.val / 8) + a.val by omega)) (by omega)
  rw [e]
  have e' : (⟨t.val % 8, Nat.mod_lt _ (by decide)⟩ : Fin 8) = ⟨7, by decide⟩ := Fin.ext h7
  rw [e']
  exact (firstParts_succ m c _ d 7 (by decide)).symm

/-- The array that the call ends with is the input's gradient. -/
theorem final : (dats m 0 c).arrAt 4 cfg0.N = inputGrad (dgate m c) (dup m c) (wgate m c) (wup m c) := by
  refine (dats m 0 c).arrAt_eq_of_covers 4 _ (by decide +kernel) fun t hf y => ?_
  have ht : t.val < 16 := t.isLt
  have h7 : t.val % 8 = 7 := (flush0_4 t).mp hf
  blk_simp
  rw [after0_4]
  obtain ⟨a, d, rfl⟩ : ∃ (a : Fin 1024) (d : Fin 2048), y = ix2 a d := ⟨y 0, y 1, by idx_vars y⟩
  have h' : 1024 * (t.val / 8) + a.val < 2048 := by omega
  refine (written m c t h7 a d h').trans ?_
  have e : (win0_4.blk t).view.emb (ix2 a d) = ix2 ⟨1024 * (t.val / 8) + a.val, h'⟩ d := by
    blk_ext [index0_4]
  rw [e]

end Cert.Kernel3Ideal.Input
-- ==== Proof.InputRef.lean ====
/- The array of the reference for the input's gradient, read at an index, over the extended reals. -/
module

public import proofs.«01_k».proof.Proof.Gen.Reference3Ideal.Run
public import proofs.«01_k».proof.Proof.InputMath
public import Idealize.ShloMosaic.Lib.Tactic.CleanTypes

@[expose] public section

set_option maxRecDepth 16384

noncomputable section

namespace Cert.Reference3Ideal.Input

open Idealize.ShloMosaic Idealize.ShloMosaic.TcCoe
open Cert.Reference3Ideal Cert.Reference3Ideal.Gen Cert.Ffn
open scoped BigOperators

/-- The gradient of the rows in one product with the weights' transposes, from the gradient of that product's blocks. -/
def rowsGrad (g : FVec Ideal S8x2048x704 .bf16) (w : FVec Ideal S8x704x2048 .bf16) : FVec Ideal S2048x2048 .f32 :=
  Host.dotGeneral dot_S2048x5632_S2048x5632_S2048x2048_1_1_0_0_n_n none
    (shapeCast _ (transpose S2048x8x704 [1, 0, 2] (extf .f32 g bitsLt_bf16_f32) transposes_S8x2048x704_S2048x8x704_1_0_2) shapeCasts_S2048x8x704_S2048x5632)
    (transpose S2048x5632 [1, 0] (shapeCast _ (extf .f32 w bitsLt_bf16_f32) shapeCasts_S8x704x2048_S5632x2048) transposes_S5632x2048_S2048x5632_1_0)

/-- It is a sum over the hidden units, block by block. -/
theorem rowsGrad_apply (g : FVec Ideal S8x2048x704 .bf16) (w : FVec Ideal S8x704x2048 .bf16) (t d : Fin 2048) :
    rowsGrad g w (ix2 t d) = ∑ j : Fin 8, ∑ f : Fin 704, g (ix3 j t f) * w (ix3 j f d) := by
  unfold rowsGrad
  pointwise
  refine (sum_hid _).trans (Finset.sum_congr rfl fun j _ => Finset.sum_congr rfl fun f _ => ?_)
  exact congrArg (fun k : Fin 8 × Fin 704 => g (ix3 k.1 t k.2) * w (ix3 k.1 k.2 d)) (hid_split j f)

/-- The reference's array is the input's gradient. -/
theorem grad_eq (dg du : FVec Ideal S8x2048x704 .bf16) (wg wu : FVec Ideal S8x704x2048 .bf16) :
    truncf .bf16 (addf (rowsGrad du wu) (rowsGrad dg wg)) bitsLt_bf16_f32 = inputGrad dg du wg wu := by
  funext i
  idx_vars i
  show rowsGrad du wu (ix2 i0 i1) + rowsGrad dg wg (ix2 i0 i1) = ∑ j : Fin 8, inputPart dg du wg wu i0 i1 j
  rw [rowsGrad_apply, rowsGrad_apply, add_comm]
  exact Finset.sum_add_distrib.symm

end Cert.Reference3Ideal.Input
-- ==== Proof.InputClaim.lean ====
/- The kernel call and its reference end with the same array: the gradient of the feed-forward layer's input. -/
module

public import proofs.«01_k».proof.Defs
public import proofs.«01_k».proof.Proof.InputKernel
public import proofs.«01_k».proof.Proof.InputRef

@[expose] public section

noncomputable section

namespace Cert.Proof

open Idealize.ShloMosaic Idealize.SL.Sem Cert.Ffn

/-- The two programs end with equal results on every device, whatever the arguments. -/
theorem algebraic_input : Cert.algebraic_Kernel3Ideal_Reference3Ideal := by
  intro m g m' g' hpre hag
  refine ⟨fun c => inputGrad (m (c.tc.loc Cert.Kernel3Ideal.main_arg0)) (m (c.tc.loc Cert.Kernel3Ideal.main_arg1))
    (m (c.tc.loc Cert.Kernel3Ideal.main_arg2)) (m (c.tc.loc Cert.Kernel3Ideal.main_arg3)), ?_, ?_⟩
  · refine (θ_run _ _ _).mono (fun r h c => ?_) (Cert.Kernel3Ideal.Value.run_blocks m g)
    exact ⟨(h c).1.trans (Cert.Kernel3Ideal.Input.final m c), (h c).2⟩
  · refine (θ_run _ _ _).mono (fun r h c => ?_) (Cert.Reference3Ideal.Value.run m' g')
    obtain ⟨h0, h1, h2, h3⟩ := hag c
    refine ⟨(h c).1.trans ((Cert.Reference3Ideal.Input.grad_eq _ _ _ _).trans ?_), (h c).2⟩
    rw [h0, h1, h2, h3]

end Cert.Proof
-- ==== Proof.ConvMath.lean ====
/- The gated short convolution of one stack of channels and its gradients, over the extended reals. -/
module

public import proofs.«01_k».proof.Proof.AttnMath
public import Idealize.ShloMosaic.Lib.Pointwise

@[expose] public section

noncomputable section

namespace Cert.Conv

open Idealize.ShloMosaic
open scoped BigOperators

/-- A column of 2048 positions. -/
abbrev Col := Fin 2048 → EReal

/-- A column moved `k` positions later; nothing stands before its start. -/
def later (k : ℕ) (z : Col) : Col := fun t => if h : k ≤ t.val then z ⟨t.val - k, by omega⟩ else 0

/-- A column moved `k` positions earlier; nothing stands after its end. -/
def earlier (k : ℕ) (z : Col) : Col := fun t => if h : t.val + k < 2048 then z ⟨t.val + k, h⟩ else 0

/-- A factor may be taken out of a column that is moved. -/
theorem mul_earlier (k : ℕ) (a : EReal) (z : Col) (t : Fin 2048) : earlier k (fun s => a * z s) t = a * earlier k z t := by
  unfold earlier
  split
  · rfl
  · exact (mul_zero a).symm

/-- One channel: its output gate, its input gate, its values, the gradient of its output, and its three taps. -/
structure Channel where
  b : Col
  c : Col
  h : Col
  d : Col
  w0 : EReal
  w1 : EReal
  w2 : EReal

namespace Channel

/-- The gated values. -/
def z (x : Channel) : Col := fun t => x.c t * x.h t

/-- The convolution. -/
def y (x : Channel) : Col := fun t => x.w0 * later 2 x.z t + x.w1 * later 1 x.z t + x.w2 * x.z t

/-- The gradient of the output gate. -/
def db (x : Channel) : Col := fun t => x.d t * x.y t

/-- The gradient of the convolution. -/
def dy (x : Channel) : Col := fun t => x.d t * x.b t

/-- The gradient of the gated values. -/
def dz (x : Channel) : Col := fun t => x.w2 * x.dy t + x.w1 * earlier 1 x.dy t + x.w0 * earlier 2 x.dy t

/-- The gradient of the input gate. -/
def dc (x : Channel) : Col := fun t => x.dz t * x.h t

/-- The gradient of the values. -/
def dh (x : Channel) : Col := fun t => x.dz t * x.c t

/-- The gradient of a tap, whose operand is the column `u`. -/
def tap (x : Channel) (u : Col) : EReal := ∑ t, x.dy t * u t

/-- The gradients of the three taps. -/
def dw (x : Channel) : Fin 3 → EReal := ![x.tap (later 2 x.z), x.tap (later 1 x.z), x.tap x.z]

end Channel

/-- The projections of every position. -/
abbrev Proj := (⟨2, ![2048, 6144]⟩ : Shape).Idx → EReal
/-- The gradients of the mixers' outputs. -/
abbrev Mixed := (⟨2, ![2048, 2048]⟩ : Shape).Idx → EReal
/-- The taps. -/
abbrev Taps := (⟨2, ![3, 1024]⟩ : Shape).Idx → EReal
/-- One value for each position and channel. -/
abbrev Chans := (⟨2, ![2048, 1024]⟩ : Shape).Idx → EReal

/-- A channel of the arrays: the convolution owns the second half of the projections and of the mixers' outputs. -/
def channel (p : Proj) (w : Taps) (g : Mixed) (x : Fin 1024) : Channel where
  b t := p (ix2 t ⟨3072 + x.val, by omega⟩)
  c t := p (ix2 t ⟨4096 + x.val, by omega⟩)
  h t := p (ix2 t ⟨5120 + x.val, by omega⟩)
  d t := g (ix2 t ⟨1024 + x.val, by omega⟩)
  w0 := w (ix2 0 x)
  w1 := w (ix2 1 x)
  w2 := w (ix2 2 x)

/-- The gradients of the output gates, -/
def gradB (p : Proj) (w : Taps) (g : Mixed) : Chans := fun i => (channel p w g (i 1)).db (i 0)
/-- of the input gates, -/
def gradC (p : Proj) (w : Taps) (g : Mixed) : Chans := fun i => (channel p w g (i 1)).dc (i 0)
/-- of the values -/
def gradH (p : Proj) (w : Taps) (g : Mixed) : Chans := fun i => (channel p w g (i 1)).dh (i 0)
/-- and of the taps. -/
def gradW (p : Proj) (w : Taps) (g : Mixed) : Taps := fun i => (channel p w g (i 1)).dw (i 0)

end Cert.Conv
-- ==== Proof.ConvKernel.lean ====
/- The arrays that the convolution's backward call ends with, at an index, over the extended reals. -/
module

public import proofs.«01_k».proof.Proof.Gen.Kernel4Ideal.Frame
public import proofs.«01_k».proof.Proof.Gen.Kernel4Ideal.Value
public import proofs.«01_k».proof.Proof.ConvMath
public import Idealize.ShloMosaic.Lib.Pipeline.ValueKit

@[expose] public section

set_option maxRecDepth 16384

noncomputable section

namespace Cert.Kernel4Ideal.Conv

open Idealize.ShloMosaic Idealize.ShloMosaic.TcCoe
open Idealize.ShloMosaic.Tactic
open Cert.Kernel4Ideal Cert.Kernel4Ideal.Gen Cert.Conv
open scoped BigOperators

/-- The channel of a point's blocks at a lane. -/
def lane (x0 x1 x2 x3 : Vec Ideal S2048x128 .bf16) (x4 : Vec Ideal S3x128 .f32) (l : Fin 128) : Channel where
  b t := x0 (ix2 t l)
  c t := x1 (ix2 t l)
  h t := x2 (ix2 t l)
  d t := x3 (ix2 t l)
  w0 := x4 (ix2 0 l)
  w1 := x4 (ix2 1 l)
  w2 := x4 (ix2 2 l)

variable (x0 x1 x2 x3 : Vec Ideal S2048x128 .bf16) (x4 : Vec Ideal S3x128 .f32) (t : Fin 2048) (l : Fin 128)

/-- A rotation whose wrapped rows are replaced by zero moves a column later. -/
theorem select_later (k : ℕ) (hk : k < 2048) (z : Col) (h : (t.val + 2048 - k) % 2048 < 2048) :
    Scalar.select (IntOp.cmpi CmpIPredicate.sge (BitVec.ofNat 32 t.val) (BitVec.ofNat 32 k)) (z ⟨(t.val + 2048 - k) % 2048, h⟩) 0
      = later k z t := by
  have ht := t.isLt
  unfold later
  by_cases hkt : k ≤ t.val
  · have e : IntOp.cmpi CmpIPredicate.sge (BitVec.ofNat 32 t.val) (BitVec.ofNat 32 k) = 1#1 := by
      exact (WordCmp.cmpi_sge_ofNat_eq_one_iff (by show t.val < 2 ^ 31; omega) (by show k < 2 ^ 31; omega)).mpr (by omega)
    rw [e, dif_pos hkt]
    refine congrArg z (Fin.ext ?_)
    show (t.val + 2048 - k) % 2048 = t.val - k
    omega
  · have e : IntOp.cmpi CmpIPredicate.sge (BitVec.ofNat 32 t.val) (BitVec.ofNat 32 k) = 0#1 := by
      exact (WordCmp.cmpi_sge_ofNat_eq_zero_iff (by show t.val < 2 ^ 31; omega) (by show k < 2 ^ 31; omega)).mpr (by omega)
    rw [e, dif_neg hkt]
    rfl

/-- A rotation the other way, whose wrapped rows are replaced by zero, moves a column earlier. -/
theorem select_earlier (k : ℕ) (hk : k < 2048) (z : Col) (h : (t.val + 2048 - (2048 - k)) % 2048 < 2048) :
    Scalar.select (IntOp.cmpi CmpIPredicate.slt (BitVec.ofNat 32 t.val) (BitVec.ofNat 32 (2048 - k)))
      (z ⟨(t.val + 2048 - (2048 - k)) % 2048, h⟩) 0 = earlier k z t := by
  have ht := t.isLt
  unfold earlier
  by_cases hkt : t.val + k < 2048
  · have e : IntOp.cmpi CmpIPredicate.slt (BitVec.ofNat 32 t.val) (BitVec.ofNat 32 (2048 - k)) = 1#1 := by
      exact (WordCmp.cmpi_slt_ofNat_eq_one_iff (by show t.val < 2 ^ 31; omega) (by show 2048 - k < 2 ^ 31; omega)).mpr (by omega)
    rw [e, dif_pos hkt]
    refine congrArg z (Fin.ext ?_)
    show (t.val + 2048 - (2048 - k)) % 2048 = t.val + k
    omega
  · have e : IntOp.cmpi CmpIPredicate.slt (BitVec.ofNat 32 t.val) (BitVec.ofNat 32 (2048 - k)) = 0#1 := by
      exact (WordCmp.cmpi_slt_ofNat_eq_zero_iff (by show t.val < 2 ^ 31; omega) (by show 2048 - k < 2 ^ 31; omega)).mpr (by omega)
    rw [e, dif_neg hkt]
    rfl

/-- The gated values, at a position of a lane. -/
theorem pay3_apply : k0_pay3 x1 x2 (ix2 t l) = (lane x0 x1 x2 x3 x4 l).z t := by
  unfold k0_pay3 k0_pay1 k0_pay2
  pointwise
  rfl

/-- The gated values one position later, at a position of a lane. -/
theorem pay4_apply : k0_pay4 x1 x2 (ix2 t l) = later 1 (lane x0 x1 x2 x3 x4 l).z t := by
  unfold k0_pay4
  pointwise
  rw [pay3_apply x0 x1 x2 x3 x4]
  exact select_later t 1 (by decide) _ _

/-- The gated values two positions later, at a position of a lane. -/
theorem pay5_apply : k0_pay5 x1 x2 (ix2 t l) = later 2 (lane x0 x1 x2 x3 x4 l).z t := by
  unfold k0_pay5
  pointwise
  rw [pay3_apply x0 x1 x2 x3 x4]
  exact select_later t 2 (by decide) _ _

/-- The gradient of the convolution, at a position of a lane. -/
theorem pay8_apply : k0_pay8 x0 x3 (ix2 t l) = (lane x0 x1 x2 x3 x4 l).dy t := by
  unfold k0_pay8 k0_pay6
  pointwise
  rfl

/-- The last tap times that gradient, at a position of a lane. -/
theorem pay9_apply : k0_pay9 x0 x4 x3 (ix2 t l) = x4 (ix2 2 l) * (lane x0 x1 x2 x3 x4 l).dy t := by
  unfold k0_pay9
  pointwise
  rw [pay8_apply x0 x1 x2 x3 x4]

/-- The gradient of the gated values, at a position of a lane. -/
theorem pay10_apply : k0_pay10 x4 (k0_pay8 x0 x3) (k0_pay9 x0 x4 x3) (ix2 t l) = (lane x0 x1 x2 x3 x4 l).dz t := by
  unfold k0_pay10
  pointwise
  simp only [pay8_apply x0 x1 x2 x3 x4, pay9_apply x0 x1 x2 x3 x4]
  refine congrArg₂ (· + ·) (congrArg₂ (· + ·) rfl ?_) ?_
  · exact (select_earlier t 1 (by decide) (fun s => x4 (ix2 1 l) * (lane x0 x1 x2 x3 x4 l).dy s) _).trans (mul_earlier _ _ _ t)
  · exact (select_earlier t 2 (by decide) (fun s => x4 (ix2 0 l) * (lane x0 x1 x2 x3 x4 l).dy s) _).trans (mul_earlier _ _ _ t)

/-- The block of the output gates' gradients, at a position of a lane. -/
theorem block5 : out0_5 x0 x1 x2 x3 x4 (ix2 t l) = (lane x0 x1 x2 x3 x4 l).db t := by
  unfold out0_5
  frame_out
  unfold k0_pay7 k0_pay6
  pointwise
  rw [pay3_apply x0 x1 x2 x3 x4, pay4_apply x0 x1 x2 x3 x4, pay5_apply x0 x1 x2 x3 x4]
  rfl

/-- The block of the input gates' gradients, at a position of a lane. -/
theorem block6 : out0_6 x0 x1 x2 x3 x4 (ix2 t l) = (lane x0 x1 x2 x3 x4 l).dc t := by
  unfold_out out0_6
  frame_out
  unfold k0_pay11 k0_pay2
  pointwise
  rw [pay10_apply x0 x1 x2 x3 x4]
  rfl

/-- The block of the values' gradients, at a position of a lane. -/
theorem block7 : out0_7 x0 x1 x2 x3 x4 (ix2 t l) = (lane x0 x1 x2 x3 x4 l).dh t := by
  unfold_out out0_7
  frame_out
  unfold k0_pay12 k0_pay1
  pointwise
  rw [pay10_apply x0 x1 x2 x3 x4]
  rfl

/-- The block of the taps' gradients, at a lane. -/
theorem block8 (j : Fin 3) : out0_8 x0 x1 x2 x3 x4 (ix2 j l) = (lane x0 x1 x2 x3 x4 l).dw j := by
  unfold_out out0_8
  canon_tiles x h using (View.cover_of_tiledBy _ ![1, 128] (by sl_kernel_rfl) _)
  all_goals
    obtain ⟨a, b, rfl⟩ : ∃ (a : Fin 1) (b : Fin 128), x = ix2 a b := ⟨x 0, x 1, by idx_vars x⟩
    obtain rfl : l = b := Fin.ext h1
    have e : ∀ x : Vec Ideal S2048x128 .bf16, View.ld x r0_0 = x := fun x => View.ld_unit_zero (by funext a; fin_cases a <;> rfl) _ x
    simp only [e]
  · obtain rfl : j = 2 := Fin.ext (h0.trans (by omega))
    unfold k0_pay15
    pointwise
    simp only [pay3_apply x0 x1 x2 x3 x4, pay8_apply x0 x1 x2 x3 x4]
    rfl
  · obtain rfl : j = 1 := Fin.ext (h0.trans (by omega))
    unfold k0_pay14
    pointwise
    simp only [pay4_apply x0 x1 x2 x3 x4, pay8_apply x0 x1 x2 x3 x4]
    rfl
  · obtain rfl : j = 0 := Fin.ext (h0.trans (by omega))
    unfold k0_pay13
    pointwise
    simp only [pay5_apply x0 x1 x2 x3 x4, pay8_apply x0 x1 x2 x3 x4]
    rfl

variable (m : (ℓ : Loc nD τ sig) → Buf (Elt Ideal) ℓ) (c : Dev nD)

/-- The projections, -/
abbrev proj : Proj := m (c.tc.loc main_arg0)
/-- the taps -/
abbrev taps : Taps := m (c.tc.loc main_arg1)
/-- and the gradients of the mixers' outputs that a device starts with. -/
abbrev grads : Mixed := m (c.tc.loc main_arg2)

/-- Which block of each array a point works on. -/
theorem index0_0 : ∀ t : Fin cfg0.N, win0_0.index t = ![0, 24 + t.val] := (by decide +kernel : ∀ t : Fin grid0.N, win0_0.index t = ![0, 24 + t.val])
/-- The same for the array numbered 1. -/
theorem index0_1 : ∀ t : Fin cfg0.N, win0_1.index t = ![0, 32 + t.val] := (by decide +kernel : ∀ t : Fin grid0.N, win0_1.index t = ![0, 32 + t.val])
/-- The same for the array numbered 2. -/
theorem index0_2 : ∀ t : Fin cfg0.N, win0_2.index t = ![0, 40 + t.val] := (by decide +kernel : ∀ t : Fin grid0.N, win0_2.index t = ![0, 40 + t.val])
/-- The same for the array numbered 3. -/
theorem index0_3 : ∀ t : Fin cfg0.N, win0_3.index t = ![0, 8 + t.val] := (by decide +kernel : ∀ t : Fin grid0.N, win0_3.index t = ![0, 8 + t.val])
/-- The same for the array numbered 4. -/
theorem index0_4 : ∀ t : Fin cfg0.N, win0_4.index t = ![0, t.val] := (by decide +kernel : ∀ t : Fin grid0.N, win0_4.index t = ![0, t.val])
/-- The same for the array numbered 5. -/
theorem index0_5 : ∀ t : Fin cfg0.N, win0_5.index t = ![0, t.val] := (by decide +kernel : ∀ t : Fin grid0.N, win0_5.index t = ![0, t.val])
/-- The same for the array numbered 6. -/
theorem index0_6 : ∀ t : Fin cfg0.N, win0_6.index t = ![0, t.val] := (by decide +kernel : ∀ t : Fin grid0.N, win0_6.index t = ![0, t.val])
/-- The same for the array numbered 7. -/
theorem index0_7 : ∀ t : Fin cfg0.N, win0_7.index t = ![0, t.val] := (by decide +kernel : ∀ t : Fin grid0.N, win0_7.index t = ![0, t.val])
/-- The same for the array numbered 8. -/
theorem index0_8 : ∀ t : Fin cfg0.N, win0_8.index t = ![0, t.val] := (by decide +kernel : ∀ t : Fin grid0.N, win0_8.index t = ![0, t.val])

/-- The lane of a point's blocks is a channel of the arrays. -/
theorem lane_channel (t : Fin cfg0.N) (l : Fin 128) (h : 128 * t.val + l.val < 1024) :
    lane (iblk m c 0 t) (iblk m c 1 t) (iblk m c 2 t) (iblk m c 3 t) (iblk m c 4 t) l
      = channel (proj m c) (taps m c) (grads m c) ⟨128 * t.val + l.val, h⟩ := by
  unfold lane channel
  congr 1
  · funext s
    blk_simp [iblk, index0_0]
    refine congrArg (proj m c) ?_
    blk_ext [index0_0]
  · funext s
    blk_simp [iblk, index0_1]
    refine congrArg (proj m c) ?_
    blk_ext [index0_1]
  · funext s
    blk_simp [iblk, index0_2]
    refine congrArg (proj m c) ?_
    blk_ext [index0_2]
  · funext s
    blk_simp [iblk, index0_3]
    refine congrArg (grads m c) ?_
    blk_ext [index0_3]
  all_goals
    blk_simp [iblk, index0_4]
    refine congrArg (taps m c) ?_
    blk_ext [index0_4]

/-- The arrays that the call ends with: the gradients of the output gates, -/
theorem final5 : (dats m 0 c).arrAt 5 cfg0.N = gradB (proj m c) (taps m c) (grads m c) := by
  refine (dats m 0 c).arrAt_eq_of_covers 5 _ (by decide +kernel) fun t hf y => ?_
  have ht : t.val < 8 := t.isLt
  blk_simp
  rw [after0_5]
  obtain ⟨s, l, rfl⟩ : ∃ (s : Fin 2048) (l : Fin 128), y = ix2 s l := ⟨y 0, y 1, by idx_vars y⟩
  have h : 128 * t.val + l.val < 1024 := by omega
  have e : (win0_5.blk t).view.emb (ix2 s l) = ix2 s ⟨128 * t.val + l.val, h⟩ := by
    blk_ext [index0_5]
  rw [e]
  exact (block5 _ _ _ _ _ s l).trans (congrArg (fun x : Channel => x.db s) (lane_channel m c t l h))

/-- of the input gates, -/
theorem final6 : (dats m 0 c).arrAt 6 cfg0.N = gradC (proj m c) (taps m c) (grads m c) := by
  refine (dats m 0 c).arrAt_eq_of_covers 6 _ (by decide +kernel) fun t hf y => ?_
  have ht : t.val < 8 := t.isLt
  blk_simp
  rw [after0_6]
  obtain ⟨s, l, rfl⟩ : ∃ (s : Fin 2048) (l : Fin 128), y = ix2 s l := ⟨y 0, y 1, by idx_vars y⟩
  have h : 128 * t.val + l.val < 1024 := by omega
  have e : (win0_6.blk t).view.emb (ix2 s l) = ix2 s ⟨128 * t.val + l.val, h⟩ := by
    blk_ext [index0_6]
  rw [e]
  exact (block6 _ _ _ _ _ s l).trans (congrArg (fun x : Channel => x.dc s) (lane_channel m c t l h))

/-- of the values -/
theorem final7 : (dats m 0 c).arrAt 7 cfg0.N = gradH (proj m c) (taps m c) (grads m c) := by
  refine (dats m 0 c).arrAt_eq_of_covers 7 _ (by decide +kernel) fun t hf y => ?_
  have ht : t.val < 8 := t.isLt
  blk_simp
  rw [after0_7]
  obtain ⟨s, l, rfl⟩ : ∃ (s : Fin 2048) (l : Fin 128), y = ix2 s l := ⟨y 0, y 1, by idx_vars y⟩
  have h : 128 * t.val + l.val < 1024 := by omega
  have e : (win0_7.blk t).view.emb (ix2 s l) = ix2 s ⟨128 * t.val + l.val, h⟩ := by
    blk_ext [index0_7]
  rw [e]
  exact (block7 _ _ _ _ _ s l).trans (congrArg (fun x : Channel => x.dh s) (lane_channel m c t l h))

/-- and of the taps. -/
theorem final8 : (dats m 0 c).arrAt 8 cfg0.N = gradW (proj m c) (taps m c) (grads m c) := by
  refine (dats m 0 c).arrAt_eq_of_covers 8 _ (by decide +kernel) fun t hf y => ?_
  have ht : t.val < 8 := t.isLt
  blk_simp
  rw [after0_8]
  obtain ⟨j, l, rfl⟩ : ∃ (j : Fin 3) (l : Fin 128), y = ix2 j l := ⟨y 0, y 1, by idx_vars y⟩
  have h : 128 * t.val + l.val < 1024 := by omega
  have e : (win0_8.blk t).view.emb (ix2 j l) = ix2 j ⟨128 * t.val + l.val, h⟩ := by
    blk_ext [index0_8]
  rw [e]
  exact (block8 _ _ _ _ _ l j).trans (congrArg (fun x : Channel => x.dw j) (lane_channel m c t l h))

end Cert.Kernel4Ideal.Conv
-- ==== Proof.ConvRef.lean ====
/- The gradients that the convolution's reference computes, at an index, over the extended reals. -/
module

public import proofs.«01_k».proof.Proof.Gen.Reference4Ideal.Run
public import proofs.«01_k».proof.Proof.ConvMath

@[expose] public section

set_option maxRecDepth 16384

noncomputable section

namespace Cert.Reference4Ideal.Conv

open Idealize.ShloMosaic Idealize.ShloMosaic.TcCoe
open Idealize.ShloMosaic.Tactic
open Cert.Reference4Ideal Cert.Reference4Ideal.Gen Cert.Conv
open scoped BigOperators

variable (m : (ℓ : Loc nD τ sig) → Buf (Elt Ideal) ℓ) (c : Dev nD)

/-- The projections, -/
abbrev proj : Proj := m (c.tc.loc main_arg0)
/-- the taps -/
abbrev taps : Taps := m (c.tc.loc main_arg1)
/-- and the gradients of the mixers' outputs that a device starts with. -/
abbrev grads : Mixed := m (c.tc.loc main_arg2)

/-- The convolution's half of the projections, in 32 bits. -/
def gates : FVec Ideal S1x2048x3072 .f32 :=
  extf (F := Ideal) .f32 (broadcastInDim S1x2048x3072 ![1, 2] bcast_S2048x3072_S1x2048x3072_1_2 (extractStridedSlice S2048x3072 ![0, 3072] (m ((c.tc : Thread nD τ).loc main_arg0)) slices_S2048x6144_S2048x3072_0_3072)) bitsLt_bf16_f32
/-- Its output gates, -/
def outGate : FVec Ideal S1x2048x1024 .f32 := extractStridedSlice S1x2048x1024 ![0, 0, 0] (gates m c) slices_S1x2048x3072_S1x2048x1024_0_0_0
/-- its input gates -/
def inGate : FVec Ideal S1x2048x1024 .f32 := extractStridedSlice S1x2048x1024 ![0, 0, 1024] (gates m c) slices_S1x2048x3072_S1x2048x1024_0_0_1024
/-- and its values. -/
def values : FVec Ideal S1x2048x1024 .f32 := extractStridedSlice S1x2048x1024 ![0, 0, 2048] (gates m c) slices_S1x2048x3072_S1x2048x1024_0_0_2048
/-- The gradients of its outputs. -/
def douts : FVec Ideal S1x2048x1024 .f32 :=
  extf (F := Ideal) .f32 (broadcastInDim S1x2048x1024 ![1, 2] bcast_S2048x1024_S1x2048x1024_1_2 (extractStridedSlice S2048x1024 ![0, 1024] (m ((c.tc : Thread nD τ).loc main_arg2)) slices_S2048x2048_S2048x1024_0_1024)) bitsLt_bf16_f32
/-- The gradients of the convolution. -/
def dconv : FVec Ideal S1x2048x1024 .f32 := mulf (outGate m c) (douts m c)
/-- The gated values after two rows of zeros. -/
def padded : FVec Ideal S1x2050x1024 .f32 :=
  concatenate S1x2050x1024 1 [⟨S1x2x1024, (broadcastInDim S1x2x1024 ![] bcast_S_S1x2x1024 (constant S_ .f32 0x00000000#32))⟩, ⟨S1x2048x1024, mulf (inGate m c) (values m c)⟩] concatenates_S1x2x1024_S1x2048x1024_S1x2050x1024_d1
/-- The gated values two positions later, -/
def moved2 : FVec Ideal S1x2048x1024 .f32 := extractStridedSlice S1x2048x1024 ![0, 0, 0] (padded m c) slices_S1x2050x1024_S1x2048x1024_0_0_0
/-- one position later, -/
def moved1 : FVec Ideal S1x2048x1024 .f32 := extractStridedSlice S1x2048x1024 ![0, 1, 0] (padded m c) slices_S1x2050x1024_S1x2048x1024_0_1_0
/-- and where they are. -/
def moved0 : FVec Ideal S1x2048x1024 .f32 := extractStridedSlice S1x2048x1024 ![0, 2, 0] (padded m c) slices_S1x2050x1024_S1x2048x1024_0_2_0
/-- A row of the taps at every position: the first, -/
def tap0 : FVec Ideal S1x2048x1024 .f32 :=
  broadcastInDim S1x2048x1024 ![0, 1, 2] bcast_S1x1x1024_S1x2048x1024_0_1_2 (broadcastInDim S1x1x1024 ![2] bcast_S1024_S1x1x1024_2 (shapeCast _ (extractStridedSlice S1x1024 ![0, 0] (m ((c.tc : Thread nD τ).loc main_arg1)) slices_S3x1024_S1x1024_0_0) shapeCasts_S1x1024_S1024))
/-- the second -/
def tap1 : FVec Ideal S1x2048x1024 .f32 :=
  broadcastInDim S1x2048x1024 ![0, 1, 2] bcast_S1x1x1024_S1x2048x1024_0_1_2 (broadcastInDim S1x1x1024 ![2] bcast_S1024_S1x1x1024_2 (shapeCast _ (extractStridedSlice S1x1024 ![1, 0] (m ((c.tc : Thread nD τ).loc main_arg1)) slices_S3x1024_S1x1024_1_0) shapeCasts_S1x1024_S1024))
/-- and the third. -/
def tap2 : FVec Ideal S1x2048x1024 .f32 :=
  broadcastInDim S1x2048x1024 ![0, 1, 2] bcast_S1x1x1024_S1x2048x1024_0_1_2 (broadcastInDim S1x1x1024 ![2] bcast_S1024_S1x1x1024_2 (shapeCast _ (extractStridedSlice S1x1024 ![2, 0] (m ((c.tc : Thread nD τ).loc main_arg1)) slices_S3x1024_S1x1024_2_0) shapeCasts_S1x1024_S1024))
/-- The gradients of the padded values. -/
def dpadded : FVec Ideal S1x2050x1024 .f32 :=
  addf (addf (pad S1x2050x1024 ![0, 2, 0] ![0, 0, 0] ![0, 0, 0] (mulf (tap2 m c) (dconv m c)) (constant S_ .f32 0x00000000#32) pads_S1x2048x1024_S1x2050x1024_000_200_000 h_S_)
    (pad S1x2050x1024 ![0, 1, 0] ![0, 1, 0] ![0, 0, 0] (mulf (tap1 m c) (dconv m c)) (constant S_ .f32 0x00000000#32) pads_S1x2048x1024_S1x2050x1024_000_110_000 h_S_))
    (pad S1x2050x1024 ![0, 0, 0] ![0, 2, 0] ![0, 0, 0] (mulf (tap0 m c) (dconv m c)) (constant S_ .f32 0x00000000#32) pads_S1x2048x1024_S1x2050x1024_000_020_000 h_S_)
/-- The gradients of the gated values. -/
def dgated : FVec Ideal S1x2048x1024 .f32 := extractStridedSlice S1x2048x1024 ![0, 2, 0] (dpadded m c) slices_S1x2050x1024_S1x2048x1024_0_2_0
/-- The convolution. -/
def convolved : FVec Ideal S1x2048x1024 .f32 := addf (addf (mulf (tap0 m c) (moved2 m c)) (mulf (tap1 m c) (moved1 m c))) (mulf (tap2 m c) (moved0 m c))
/-- The gradient of a tap whose operand is given. -/
def tapSum (u : FVec Ideal S1x2048x1024 .f32) : FVec Ideal S1024 .f32 :=
  Host.reduceAdd (shapeCast _ (Host.reduceAdd (mulf (dconv m c) u) (constant S_ .f32 0x00000000#32) reducesTo_S1x2048x1024_S1x1024_d1 h_S_) shapeCasts_S1x1024_S1x1x1024) (constant S_ .f32 0x00000000#32) reducesTo_S1x1x1024_S1024_d0_1 h_S_

/-- The channel that the arrays hold. -/
abbrev ch (l : Fin 1024) : Channel := channel (proj m c) (taps m c) (grads m c) l

/-- A sum over two axes of one element is that element. -/
theorem sum_ones (x : S1x1x1024.Idx → EReal) (l : Fin 1024) :
    Ideal.hostReduceAdd reducesTo_S1x1x1024_S1024_d0_1 x 0 (ix1 l) = x (ix3 0 0 l) := by
  unfold Ideal.hostReduceAdd
  rw [zero_add]
  refine Finset.sum_eq_single_of_mem _ ?_ ?_
  · refine Finset.mem_filter.2 ⟨Finset.mem_univ _, ?_⟩
    funext a
    refine Fin.ext ?_
    match a with
    | ⟨0, _⟩ => rfl
  · intro i hi hne
    refine absurd ?_ hne
    have e : (i 2).val = l.val := congrArg Fin.val (congrFun (Finset.mem_filter.1 hi).2 0)
    have f0 : (i 0).val < 1 := (i 0).isLt
    have f1 : (i 1).val < 1 := (i 1).isLt
    funext a
    refine Fin.ext ?_
    match a with
    | ⟨0, _⟩ => show (i 0).val = 0; omega
    | ⟨1, _⟩ => show (i 1).val = 0; omega
    | ⟨2, _⟩ => exact e

variable (t : Fin 2048) (l : Fin 1024)

/-- The arrays named above, at a position of a channel: the gates and the values, -/
theorem gates_apply (k : Fin 3072) : gates m c (ix3 0 t k) = proj m c (ix2 t ⟨3072 + k.val, by omega⟩) := by
  unfold gates
  pointwise

/-- the output gates, -/
theorem outGate_apply : outGate m c (ix3 0 t l) = (ch m c l).b t := by
  unfold outGate
  pointwise
  exact gates_apply m c t _

/-- the input gates, -/
theorem inGate_apply : inGate m c (ix3 0 t l) = (ch m c l).c t := by
  unfold inGate
  pointwise
  rw [gates_apply]
  exact congrArg (proj m c) (congrArg (ix2 t) (Fin.ext (by show 3072 + (1024 + l.val) = 4096 + l.val; omega)))

/-- the values, -/
theorem values_apply : values m c (ix3 0 t l) = (ch m c l).h t := by
  unfold values
  pointwise
  rw [gates_apply]
  exact congrArg (proj m c) (congrArg (ix2 t) (Fin.ext (by show 3072 + (2048 + l.val) = 5120 + l.val; omega)))

/-- the gradients of the outputs, -/
theorem douts_apply : douts m c (ix3 0 t l) = (ch m c l).d t := by
  unfold douts
  pointwise
  rfl

/-- the gradients of the convolution, -/
theorem dconv_apply : dconv m c (ix3 0 t l) = (ch m c l).dy t := by
  unfold dconv
  pointwise
  rw [outGate_apply, douts_apply]
  exact mul_comm _ _

/-- the gated values two positions later, -/
theorem moved2_apply : moved2 m c (ix3 0 t l) = later 2 (ch m c l).z t := by
  unfold moved2 padded
  pointwise
  unfold later
  by_cases h : t.val < 2
  · rw [dif_pos h, dif_neg (by omega)]
  · rw [dif_neg h, dif_pos (by omega), inGate_apply, values_apply]
    rfl

/-- one position later, -/
theorem moved1_apply : moved1 m c (ix3 0 t l) = later 1 (ch m c l).z t := by
  unfold moved1 padded
  pointwise
  unfold later
  by_cases h : 1 + t.val < 2
  · rw [dif_pos h, dif_neg (by omega)]
  · rw [dif_neg h, dif_pos (by omega), inGate_apply, values_apply]
    exact congrArg (ch m c l).z (Fin.ext (by show 1 + t.val - 2 = t.val - 1; omega))

/-- and where they are, -/
theorem moved0_apply : moved0 m c (ix3 0 t l) = (ch m c l).z t := by
  unfold moved0 padded
  pointwise
  rw [inGate_apply, values_apply]
  rfl

/-- the taps, -/
theorem tap0_apply : tap0 m c (ix3 0 t l) = (ch m c l).w0 := by
  unfold tap0
  pointwise
  rfl

/-- the second -/
theorem tap1_apply : tap1 m c (ix3 0 t l) = (ch m c l).w1 := by
  unfold tap1
  pointwise
  rfl

/-- and the third of them, -/
theorem tap2_apply : tap2 m c (ix3 0 t l) = (ch m c l).w2 := by
  unfold tap2
  pointwise
  rfl

/-- the gradients of the gated values, -/
theorem dgated_apply : dgated m c (ix3 0 t l) = (ch m c l).dz t := by
  unfold dgated dpadded
  pointwise
  simp only [tap0_apply, tap1_apply, tap2_apply, dconv_apply]
  have ht := t.isLt
  refine congrArg₂ (· + ·) (congrArg₂ (· + ·) rfl ?_) ?_
  · refine Eq.trans ?_ (mul_earlier 1 _ _ t)
    unfold earlier
    by_cases h : t.val + 1 < 2048
    · rw [dif_pos (by omega), dif_pos h]
      exact congrArg (fun s => (ch m c l).w1 * (ch m c l).dy s) (Fin.ext (by show 2 + t.val - 1 = t.val + 1; omega))
    · rw [dif_neg (by omega), dif_neg h]
  · refine Eq.trans ?_ (mul_earlier 2 _ _ t)
    unfold earlier
    by_cases h : t.val + 2 < 2048
    · rw [dif_pos (by omega), dif_pos h]
      exact congrArg (fun s => (ch m c l).w0 * (ch m c l).dy s) (Fin.ext (by show 2 + t.val = t.val + 2; omega))
    · rw [dif_neg (by omega), dif_neg h]

/-- the convolution, -/
theorem convolved_apply : convolved m c (ix3 0 t l) = (ch m c l).y t := by
  unfold convolved
  pointwise
  rw [tap0_apply, tap1_apply, tap2_apply, moved0_apply, moved1_apply, moved2_apply]
  rfl

/-- and the gradients of the taps. -/
theorem tapSum_apply (u : FVec Ideal S1x2048x1024 .f32) (z : Col) (h : ∀ t, u (ix3 0 t l) = z t) :
    tapSum m c u (ix1 l) = (ch m c l).tap z := by
  unfold tapSum
  pointwise
  rw [sum_ones]
  pointwise
  simp only [h, dconv_apply]
  rfl

/-- The gradients that the reference computes: of the output gates, -/
theorem value_b : (truncf .bf16 (shapeCast S2048x1024 (mulf (douts m c) (convolved m c)) shapeCasts_S1x2048x1024_S2048x1024) bitsLt_bf16_f32 : FVec Ideal S2048x1024 .bf16) = gradB (proj m c) (taps m c) (grads m c) := by
  funext i
  idx_vars i
  pointwise
  rw [douts_apply, convolved_apply]
  rfl

/-- of the input gates, -/
theorem value_c : (truncf .bf16 (shapeCast S2048x1024 (mulf (dgated m c) (values m c)) shapeCasts_S1x2048x1024_S2048x1024) bitsLt_bf16_f32 : FVec Ideal S2048x1024 .bf16) = gradC (proj m c) (taps m c) (grads m c) := by
  funext i
  idx_vars i
  pointwise
  rw [dgated_apply, values_apply]
  rfl

/-- of the values -/
theorem value_h : (truncf .bf16 (shapeCast S2048x1024 (mulf (inGate m c) (dgated m c)) shapeCasts_S1x2048x1024_S2048x1024) bitsLt_bf16_f32 : FVec Ideal S2048x1024 .bf16) = gradH (proj m c) (taps m c) (grads m c) := by
  funext i
  idx_vars i
  pointwise
  rw [dgated_apply, inGate_apply]
  exact mul_comm _ _

/-- and of the taps. -/
theorem value_w : Value.res_main_v66 m c = gradW (proj m c) (taps m c) (grads m c) := by
  funext i
  show addf (addf (pad S3x1024 ![2, 0] ![0, 0] ![0, 0] (broadcastInDim S1x1024 ![1] bcast_S1024_S1x1024_1 (tapSum m c (moved0 m c))) (constant S_ .f32 0x00000000#32) pads_S1x1024_S3x1024_200_000 h_S_)
    (pad S3x1024 ![1, 0] ![1, 0] ![0, 0] (broadcastInDim S1x1024 ![1] bcast_S1024_S1x1024_1 (tapSum m c (moved1 m c))) (constant S_ .f32 0x00000000#32) pads_S1x1024_S3x1024_110_000 h_S_))
    (pad S3x1024 ![0, 0] ![2, 0] ![0, 0] (broadcastInDim S1x1024 ![1] bcast_S1024_S1x1024_1 (tapSum m c (moved2 m c))) (constant S_ .f32 0x00000000#32) pads_S1x1024_S3x1024_020_000 h_S_) i = _
  idx_vars i
  pointwise
  rw [tapSum_apply m c i1 _ _ (moved0_apply m c · i1), tapSum_apply m c i1 _ _ (moved1_apply m c · i1), tapSum_apply m c i1 _ _ (moved2_apply m c · i1)]
  show _ = (ch m c i1).dw i0
  fin_cases i0
  · exact (congrArg (· + _) (add_zero (0 : EReal))).trans (zero_add _)
  · exact (add_zero _).trans (zero_add _)
  · exact (add_zero _).trans (add_zero _)

end Cert.Reference4Ideal.Conv
-- ==== Proof.ConvClaim.lean ====
/- The kernel call and its reference end with the same arrays: the gradients of the gated short convolution. -/
module

public import proofs.«01_k».proof.Defs
public import proofs.«01_k».proof.Proof.ConvKernel
public import proofs.«01_k».proof.Proof.ConvRef

@[expose] public section

set_option maxRecDepth 16384

noncomputable section

namespace Cert.Proof

open Idealize.ShloMosaic Idealize.SL.Sem Cert.Conv

/-- The two programs end with equal results on every device, whatever the arguments. -/
theorem algebraic_conv : Cert.algebraic_Kernel4Ideal_Reference4Ideal := by
  intro m g m' g' hpre hag
  refine ⟨fun c => gradB (m (c.tc.loc Cert.Kernel4Ideal.main_arg0)) (m (c.tc.loc Cert.Kernel4Ideal.main_arg1)) (m (c.tc.loc Cert.Kernel4Ideal.main_arg2)),
    fun c => gradC (m (c.tc.loc Cert.Kernel4Ideal.main_arg0)) (m (c.tc.loc Cert.Kernel4Ideal.main_arg1)) (m (c.tc.loc Cert.Kernel4Ideal.main_arg2)),
    fun c => gradH (m (c.tc.loc Cert.Kernel4Ideal.main_arg0)) (m (c.tc.loc Cert.Kernel4Ideal.main_arg1)) (m (c.tc.loc Cert.Kernel4Ideal.main_arg2)),
    fun c => gradW (m (c.tc.loc Cert.Kernel4Ideal.main_arg0)) (m (c.tc.loc Cert.Kernel4Ideal.main_arg1)) (m (c.tc.loc Cert.Kernel4Ideal.main_arg2)), ?_, ?_⟩
  · refine (θ_run _ _ _).mono (fun r h c => ?_) (Cert.Kernel4Ideal.Value.run_blocks m g)
    obtain ⟨e5, e6, e7, e8, rest⟩ := h c
    exact ⟨e5.trans (Cert.Kernel4Ideal.Conv.final5 m c), e6.trans (Cert.Kernel4Ideal.Conv.final6 m c),
      e7.trans (Cert.Kernel4Ideal.Conv.final7 m c), e8.trans (Cert.Kernel4Ideal.Conv.final8 m c), rest⟩
  · refine (θ_run _ _ _).mono (fun r h c => ?_) (Cert.Reference4Ideal.Value.run m' g')
    obtain ⟨h0, h1, h2⟩ := hag c
    obtain ⟨e5, e6, e7, e8, rest⟩ := h c
    refine ⟨(e5.trans (Cert.Reference4Ideal.Conv.value_b m' c)).trans ?_, (e6.trans (Cert.Reference4Ideal.Conv.value_c m' c)).trans ?_,
      (e7.trans (Cert.Reference4Ideal.Conv.value_h m' c)).trans ?_, (e8.trans (Cert.Reference4Ideal.Conv.value_w m' c)).trans ?_, rest⟩
    all_goals
      unfold Cert.Reference4Ideal.Conv.proj Cert.Reference4Ideal.Conv.taps Cert.Reference4Ideal.Conv.grads
      rw [h0, h1, h2]

end Cert.Proof
-- ==== Proof.MixRun.lean ====
/- The run of the four kernel calls for the gradients of the products around the mixers: every buffer ends at what the fourth call leaves. -/
module

public import proofs.«01_k».proof.Proof.Gen.Kernel5Ideal.Frame

@[expose] public section

set_option maxRecDepth 16384

noncomputable section

namespace Cert.Kernel5Ideal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel5Ideal Cert.Kernel5Ideal.Gen

variable {F : FTy → Type} [FloatOps F] (m : (ℓ : Loc nD τ sig) → Buf (Elt F) ℓ) (ρ : Dev nD → PrngReg)

local notation "𝕄" => MT nD τ sig Unit (Elt F) ℕ (UR sig nD τ) ℕ

set_option backward.isDefEq.respectTransparency.types false in
/-- From any memory with zero counters every run ends, nothing faulting, with every array at the contents after the fourth call. -/
theorem run_contents : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- The four results and the arguments at the end of a run. -/
theorem run_results : θ_run defs (onTc (τ := τ) (main (F := F))) ⟨m, fun _ => 0, ρ⟩ (fun r => ∀ c : Dev nD,
      r.2.mem ((c.tc : Thread nD τ).loc main_v0) = (dat0 (V0 m ρ) c).arrAt 2 cfg0.N
      ∧ r.2.mem ((c.tc : Thread nD τ).loc main_v1) = (dat1 (V1 m ρ) c).arrAt 2 cfg1.N
      ∧ r.2.mem ((c.tc : Thread nD τ).loc main_v2) = (dat2 (V2 m ρ) c).arrAt 2 cfg2.N
      ∧ r.2.mem ((c.tc : Thread nD τ).loc main_v3) = (dat3 (V3 m ρ) c).arrAt 2 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v0 (by decide))).trans ((W4_of m ρ c main_v0 (by decide)).trans ((W3_of m ρ c main_v0 (by decide)).trans
        ((W2_of m ρ c main_v0 (by decide)).trans (W1_arr m ρ c 2)))),
     (h c _ (mem_uc main_v1 (by decide))).trans ((W4_of m ρ c main_v1 (by decide)).trans ((W3_of m ρ c main_v1 (by decide)).trans (W2_arr m ρ c 2))),
     (h c _ (mem_uc main_v2 (by decide))).trans ((W4_of m ρ c main_v2 (by decide)).trans (W3_arr m ρ c 2)),
     (h c _ (mem_uc main_v3 (by decide))).trans (W4_arr m ρ c 2),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_contents m ρ)

end Cert.Kernel5Ideal.Mix
-- ==== Proof.MixKernel.lean ====
/- The arrays that each of the four calls leaves, from the arrays that it is given, over the extended reals. -/
module

public import proofs.«01_k».proof.Proof.MixRun
public import proofs.«01_k».proof.Proof.ProductMath
public import Idealize.ShloMosaic.Lib.Pipeline.ValueKit

@[expose] public section

set_option maxRecDepth 16384

noncomputable section

namespace Cert.Kernel5Ideal.Mix

open Idealize.ShloMosaic Idealize.ShloMosaic.TcCoe
open Idealize.ShloMosaic.Tactic
open Cert.Kernel5Ideal Cert.Kernel5Ideal.Gen Cert.Ffn Cert.Product
open scoped BigOperators

/-- A row of a block times a row of a block of weights. -/
def rowDot (x : Vec Ideal S2048x2048 .bf16) (w : Vec Ideal S1024x2048 .bf16) (a : Fin 2048) (b : Fin 1024) : EReal :=
  ∑ e : Fin 2048, x (ix2 a e) * w (ix2 b e)

/-- The same product, its row and column given by their numbers. -/
theorem rowDot_at (x : Vec Ideal S2048x2048 .bf16) (w : Vec Ideal S1024x2048 .bf16) {a a' : Fin 2048} {b : Fin 1024} {n : ℕ} {hn : n < 1024}
    (ha : a.val = a'.val) (hb : b.val = n) : ∑ e : Fin 2048, x (ix2 a' e) * w (ix2 ⟨n, hn⟩ e) = rowDot x w a b := by
  obtain rfl : a = a' := Fin.ext ha
  subst hb
  rfl

/-- The first call's block. -/
theorem block0 (x : Vec Ideal S2048x2048 .bf16) (w : Vec Ideal S1024x2048 .bf16) (a : Fin 2048) (b : Fin 1024) :
    out0_2 x w (ix2 a b) = rowDot x w a b := by
  frame_out
  canon_tiles x h using (View.cover_of_tiledBy _ ![2048, 256] (by sl_kernel_rfl) _)
  all_goals
    open_payloads
    pointwise
    exact rowDot_at _ _ h0 h1

/-- The second call's block: the products summed over the tokens. -/
theorem block1 (x : Vec Ideal S2048x256 .bf16) (w : Vec Ideal S2048x2048 .bf16) (f : Fin 256) (d : Fin 2048) :
    out1_2 x w (ix3 0 f d) = ∑ t : Fin 2048, x (ix2 t f) * w (ix2 t d) := by
  frame_out
  open_payloads
  pointwise

/-- The third and the fourth call's blocks: such products again. -/
theorem block2_3 (x : Vec Ideal S2048x1024 .bf16) (w : Vec Ideal S2048x768 .bf16) (w' : Vec Ideal S2048x512 .bf16) (d : Fin 1024) :
    (∀ f : Fin 768, out2_2 x w (ix3 0 d f) = ∑ t : Fin 2048, x (ix2 t d) * w (ix2 t f))
      ∧ ∀ f : Fin 512, out3_2 x w' (ix3 0 d f) = ∑ t : Fin 2048, x (ix2 t d) * w' (ix2 t f) := by
  refine ⟨fun f => ?_, fun f => ?_⟩
  all_goals
    frame_out
    open_payloads
    pointwise

/-- Feature `d` of the half of the features that a point of the last two calls works on, -/
def featureOf (t : Fin 16) (d : Fin 1024) : Fin 2048 := ⟨1024 * (t.val / 8) + d.val, by omega⟩
/-- and the point's block of columns. -/
def columnsOf (t : Fin 16) : Fin 8 := ⟨t.val % 8, by omega⟩

/-- Which block of each array a point of the first call works on, -/
theorem index0 : ∀ t : Fin cfg0.N, win0_0.index t = ![0, 0] ∧ win0_1.index t = ![t.val, 0] ∧ win0_2.index t = ![0, t.val] :=
  fun t => (by decide +kernel : ∀ t : Fin grid0.N, win0_0.index t = ![0, 0] ∧ win0_1.index t = ![t.val, 0] ∧ win0_2.index t = ![0, t.val]) t
/-- a point of the second -/
theorem index1 : ∀ t : Fin cfg1.N, win1_0.index t = ![0, t.val] ∧ win1_1.index t = ![0, 0] ∧ win1_2.index t = ![t.val % 2 * 4 + t.val / 2, 0, 0] :=
  fun t => (by decide +kernel : ∀ t : Fin grid1.N, win1_0.index t = ![0, t.val] ∧ win1_1.index t = ![0, 0] ∧ win1_2.index t = ![t.val % 2 * 4 + t.val / 2, 0, 0]) t
/-- and a point of the third and of the fourth. -/
theorem index2_3 : ∀ t : Fin cfg2.N, (win2_0.index t = ![0, t.val / 8] ∧ win3_0.index t = ![0, t.val / 8])
    ∧ (win2_1.index t = ![0, t.val % 8] ∧ win3_1.index t = ![0, t.val % 8])
    ∧ win2_2.index t = ![t.val % 8 % 2 * 4 + t.val % 8 / 2, t.val / 8, 0] ∧ win3_2.index t = ![t.val % 8 % 2 * 4 + t.val % 8 / 2, t.val / 8, 0] :=
  fun t => (by decide +kernel : ∀ t : Fin grid2.N, (win2_0.index t = ![0, t.val / 8] ∧ win3_0.index t = ![0, t.val / 8])
    ∧ (win2_1.index t = ![0, t.val % 8] ∧ win3_1.index t = ![0, t.val % 8])
    ∧ win2_2.index t = ![t.val % 8 % 2 * 4 + t.val % 8 / 2, t.val / 8, 0] ∧ win3_2.index t = ![t.val % 8 % 2 * 4 + t.val % 8 / 2, t.val / 8, 0]) t

variable (V : (c : Dev nD) → (b : Ref sig .tc) → Buf (Elt Ideal) ((c : Thread nD τ).loc b)) (c : Dev nD)

/-- The first call's block of the cotangents. -/
theorem rows0_0 (t : Fin cfg0.N) (a d : Fin 2048) :
    (iblk0 V c 0 t : Vec Ideal S2048x2048 .bf16) (ix2 a d) = (V c main_arg2 : Rows) (ix2 a d) := by
  blk_simp [iblk0, index0]
  refine congrArg (V c main_arg2) ?_
  blk_ext [index0]

/-- The first call's block of the weights. -/
theorem rows0_1 (t : Fin cfg0.N) (b : Fin 1024) (d : Fin 2048) (h : 1024 * t.val + b.val < 2048) :
    (iblk0 V c 1 t : Vec Ideal S1024x2048 .bf16) (ix2 b d) = (V c main_arg1 : Rows) (ix2 ⟨1024 * t.val + b.val, h⟩ d) := by
  blk_simp [iblk0, index0]
  refine congrArg (V c main_arg1) ?_
  blk_ext [index0]

/-- The first call leaves the gradient of the mixers' output. -/
theorem final0 : (dat0 V c).arrAt 2 cfg0.N = perRow (V c main_arg2) (V c main_arg1) := by
  refine (dat0 V c).arrAt_eq_of_covers 2 _ (by decide +kernel) fun t hf y => ?_
  have ht : t.val < 2 := t.isLt
  blk_simp
  rw [after0_2]
  obtain ⟨a, b, rfl⟩ : ∃ (a : Fin 2048) (b : Fin 1024), y = ix2 a b := ⟨y 0, y 1, by idx_vars y⟩
  refine (block0 _ _ a b).trans ?_
  have h : 1024 * t.val + b.val < 2048 := by omega
  have e : (win0_2.blk t).view.emb (ix2 a b) = ix2 a ⟨1024 * t.val + b.val, h⟩ := by
    blk_ext [index0]
  rw [e]
  exact Finset.sum_congr rfl fun d _ => mul_of (rows0_0 V c t a d) (rows0_1 V c t b d h)

/-- The second call's block of the mixers' output. -/
theorem cols1_0 (t : Fin cfg1.N) (a : Fin 2048) (f : Fin 256) (h : t.val < 8) :
    (iblk1 V c 0 t : Vec Ideal S2048x256 .bf16) (ix2 a f) = (V c main_arg0 : Rows) (ix2 a (place (n := 256) (N := 2048) rfl ⟨t.val, h⟩ f)) := by
  blk_simp [iblk1, index1]
  refine congrArg (V c main_arg0) ?_
  unfold place
  blk_ext [index1]

/-- The second call's block of the cotangents. -/
theorem rows1_1 (t : Fin cfg1.N) (a d : Fin 2048) :
    (iblk1 V c 1 t : Vec Ideal S2048x2048 .bf16) (ix2 a d) = (V c main_arg2 : Rows) (ix2 a d) := by
  blk_simp [iblk1, index1]
  refine congrArg (V c main_arg2) ?_
  blk_ext [index1]

/-- The second call leaves the gradient of the output's weights. -/
theorem final1 : (dat1 V c).arrAt 2 cfg1.N = rowsGrad (V c main_arg0) (V c main_arg2) := by
  refine (dat1 V c).arrAt_eq_of_covers 2 _ (by decide +kernel) fun t hf y => ?_
  have ht : t.val < 8 := t.isLt
  blk_simp
  rw [after1_2]
  obtain ⟨f, d, rfl⟩ : ∃ (f : Fin 256) (d : Fin 2048), y = ix3 0 f d := ⟨y 1, y 2, by idx_vars y; exact congrArg (fun z => ix3 z _ _) (Subsingleton.elim _ _)⟩
  refine (block1 _ _ f d).trans ?_
  have h : t.val % 2 * 4 + t.val / 2 < 8 := by omega
  have e : (win1_2.blk t).view.emb (ix3 0 f d) = ix3 ⟨t.val % 2 * 4 + t.val / 2, h⟩ f d := by
    blk_ext [index1]
  rw [e]
  exact (Finset.sum_congr rfl fun a _ => mul_of (cols1_0 V c t a f ht) (rows1_1 V c t a d)).trans
    (rowsGrad_at _ _ (slot_place t.val ht h) _ _).symm

/-- The last two calls' blocks: the layer's input, -/
theorem input2_3 (t : Fin cfg2.N) (a : Fin 2048) (d : Fin 1024) :
    (iblk2 V c 0 t : Vec Ideal S2048x1024 .bf16) (ix2 a d) = (V c main_arg3 : Rows) (ix2 a (featureOf t d))
      ∧ (iblk3 V c 0 t : Vec Ideal S2048x1024 .bf16) (ix2 a d) = (V c main_arg3 : Rows) (ix2 a (featureOf t d)) := by
  refine ⟨?_, ?_⟩
  all_goals
    blk_simp [iblk2, iblk3]
    refine congrArg (V c main_arg3) ?_
    blk_ext [index2_3 t, featureOf]

/-- and the two projections' cotangents. -/
theorem cols2_3 (t : Fin cfg2.N) (a : Fin 2048) :
    (∀ f : Fin 768, (iblk2 V c 1 t : Vec Ideal S2048x768 .bf16) (ix2 a f) = (V c main_arg4 : Flat 6144) (ix2 a (place (n := 768) (N := 6144) rfl (columnsOf t) f)))
      ∧ ∀ f : Fin 512, (iblk3 V c 1 t : Vec Ideal S2048x512 .bf16) (ix2 a f) = (V c main_arg5 : Flat 4096) (ix2 a (place (n := 512) (N := 4096) rfl (columnsOf t) f)) := by
  refine ⟨fun f => ?_, fun f => ?_⟩
  all_goals
    blk_simp [iblk2, iblk3]
    refine congrArg (V c _) ?_
    blk_ext [index2_3 t, place, columnsOf]

/-- Where an index of the blocks that they write stands in the arrays. -/
theorem stands2_3 (t : Fin cfg2.N) (d : Fin 1024) :
    (∀ f : Fin 768, (win2_2.blk t).view.emb (ix3 0 d f) = ix3 (spotOf (columnsOf t)) (featureOf t d) f)
      ∧ ∀ f : Fin 512, (win3_2.blk t).view.emb (ix3 0 d f) = ix3 (spotOf (columnsOf t)) (featureOf t d) f := by
  refine ⟨fun f => ?_, fun f => ?_⟩ <;> blk_ext [index2_3 t, spotOf, columnsOf, featureOf]

/-- The last two calls leave the gradients of the two projections' weights. -/
theorem final2_3 : (dat2 V c).arrAt 2 cfg2.N = colsGrad (n := 768) (N := 6144) rfl (V c main_arg3) (V c main_arg4)
    ∧ (dat3 V c).arrAt 2 cfg3.N = colsGrad (n := 512) (N := 4096) rfl (V c main_arg3) (V c main_arg5) := by
  refine ⟨(dat2 V c).arrAt_eq_of_covers 2 _ (by decide +kernel) fun t _ y => ?_, (dat3 V c).arrAt_eq_of_covers 2 _ (by decide +kernel) fun t _ y => ?_⟩
  all_goals
    obtain ⟨d, f, rfl⟩ := one_block y
    blk_simp
    first
      | rw [after2_2, (stands2_3 t d).1]
        exact ((block2_3 _ _ (iblk3 V c 1 t) d).1 f).trans (sum_eq_colsGrad rfl (fun a => (input2_3 V c t a d).1) fun a => (cols2_3 V c t a).1 f)
      | rw [after3_2, (stands2_3 t d).2]
        exact ((block2_3 _ (iblk2 V c 1 t) _ d).2 f).trans (sum_eq_colsGrad rfl (fun a => (input2_3 V c t a d).2) fun a => (cols2_3 V c t a).2 f)

variable (m : (ℓ : Loc nD τ sig) → Buf (Elt Ideal) ℓ) (ρ : Dev nD → PrngReg)

/-- The four results from the arguments: the gradient of the mixers' output, -/
theorem result0 : (dat0 (V0 m ρ) c).arrAt 2 cfg0.N = perRow (m (c.tc.loc main_arg2)) (m (c.tc.loc main_arg1)) := final0 (V0 m ρ) c

/-- of the output's weights, -/
theorem result1 : (dat1 (V1 m ρ) c).arrAt 2 cfg1.N = rowsGrad (m (c.tc.loc main_arg0)) (m (c.tc.loc main_arg2)) := by
  refine (final1 (V1 m ρ) c).trans ?_
  rw [show V1 m ρ c main_arg0 = m (c.tc.loc main_arg0) from W1_args m ρ c main_arg0 (by decide),
    show V1 m ρ c main_arg2 = m (c.tc.loc main_arg2) from W1_args m ρ c main_arg2 (by decide)]

/-- of the first projection's weights -/
theorem result2 : (dat2 (V2 m ρ) c).arrAt 2 cfg2.N = colsGrad (n := 768) (N := 6144) rfl (m (c.tc.loc main_arg3)) (m (c.tc.loc main_arg4)) := by
  refine (final2_3 (V2 m ρ) c).1.trans ?_
  rw [show V2 m ρ c main_arg3 = m (c.tc.loc main_arg3) from W2_args m ρ c main_arg3 (by decide),
    show V2 m ρ c main_arg4 = m (c.tc.loc main_arg4) from W2_args m ρ c main_arg4 (by decide)]

/-- and of the second's. -/
theorem result3 : (dat3 (V3 m ρ) c).arrAt 2 cfg3.N = colsGrad (n := 512) (N := 4096) rfl (m (c.tc.loc main_arg3)) (m (c.tc.loc main_arg5)) := by
  refine (final2_3 (V3 m ρ) c).2.trans ?_
  rw [show V3 m ρ c main_arg3 = m (c.tc.loc main_arg3) from W3_args m ρ c main_arg3 (by decide),
    show V3 m ρ c main_arg5 = m (c.tc.loc main_arg5) from W3_args m ρ c main_arg5 (by decide)]

end Cert.Kernel5Ideal.Mix
-- ==== Proof.MixRef.lean ====
/- The four arrays of the reference for the gradients of the products around the mixers, read at an index, over the extended reals. -/
module

public import proofs.«01_k».proof.Proof.Gen.Reference5Ideal.Run
public import proofs.«01_k».proof.Proof.ProductMath

@[expose] public section

set_option maxRecDepth 16384

noncomputable section

namespace Cert.Reference5Ideal.Mix

open Idealize.ShloMosaic Idealize.ShloMosaic.TcCoe
open Idealize.ShloMosaic.Tactic
open Cert.Reference5Ideal Cert.Reference5Ideal.Gen Cert.Ffn Cert.Product
open scoped BigOperators

/-- The gradient of a product's rows. -/
def rowsBack (x w : FVec Ideal S2048x2048 .bf16) : FVec Ideal S2048x2048 .bf16 :=
  truncf .bf16 (Host.dotGeneral dot_S2048x2048_S2048x2048_S2048x2048_1_1_0_0_n_n none (extf .f32 x bitsLt_bf16_f32) (extf .f32 w bitsLt_bf16_f32)) bitsLt_bf16_f32

/-- The gradient of a product's weights, its rows in eight blocks, the even ones first. -/
def weightRows (a x : FVec Ideal S2048x2048 .bf16) : FVec Ideal S8x256x2048 .bf16 :=
  truncf .bf16 (shapeCast _ (transpose S2x4x256x2048 [1, 0, 2, 3] (shapeCast _ (transpose S2048x2048 [1, 0] (Host.dotGeneral dot_S2048x2048_S2048x2048_S2048x2048_0_0_1_1_n_n none (extf .f32 x bitsLt_bf16_f32) (extf .f32 a bitsLt_bf16_f32)) transposes_S2048x2048_S2048x2048_1_0) shapeCasts_S2048x2048_S4x2x256x2048) transposes_S4x2x256x2048_S2x4x256x2048_1_0_2_3) shapeCasts_S2x4x256x2048_S8x256x2048) bitsLt_bf16_f32

/-- The first is a sum over the columns. -/
theorem rowsBack_eq (x w : FVec Ideal S2048x2048 .bf16) : rowsBack x w = perRow x w := by
  funext i
  idx_vars i
  unfold rowsBack
  pointwise
  rfl

/-- The second is a sum over the tokens. -/
theorem weightRows_eq (a x : FVec Ideal S2048x2048 .bf16) : weightRows a x = rowsGrad a x := by
  funext i
  idx_vars i
  unfold weightRows
  pointwise
  show _ = ∑ t : Fin 2048, a (ix2 t (place (n := 256) (N := 2048) rfl (slot i0) i1)) * x (ix2 t i2)
  refine Finset.sum_congr rfl fun t _ => (mul_comm _ _).trans (mul_of (congrArg (fun k => a (ix2 t k)) (Fin.ext ?_)) rfl)
  show i0.val % 4 * 512 + i0.val / 4 * 256 + i1.val = 256 * (i0.val % 4 * 2 + i0.val / 4) + i1.val
  omega

/-- A sum over the tokens is the gradient of a weight that stands in a block of columns, if the column is the block's. -/
theorem sum_cols {n N : ℕ} (hN : 8 * n = N) (h : Rows) (p : Flat N) (s : Fin 8) (d : Fin 2048) (f : Fin n) (q : Fin N)
    (e : q.val = n * (s.val % 4 * 2 + s.val / 4) + f.val) : ∑ t : Fin 2048, p (ix2 t q) * h (ix2 t d) = colsGrad hN h p (ix3 s d f) :=
  Finset.sum_congr rfl fun t _ => (mul_comm _ _).trans (mul_of rfl (congrArg (fun k => p (ix2 t k)) (Fin.ext e)))

/-- The gradient of the first projection's weights, its columns in eight blocks, the even ones first. -/
def firstCols (h : FVec Ideal S2048x2048 .bf16) (p : FVec Ideal S2048x6144 .bf16) : FVec Ideal S8x2048x768 .bf16 :=
  truncf .bf16 (shapeCast _ (transpose S2x4x2048x768 [2, 1, 0, 3] (shapeCast _ (transpose S2048x6144 [1, 0] (Host.dotGeneral dot_S2048x6144_S2048x2048_S6144x2048_0_0_1_1_n_n none (extf .f32 p bitsLt_bf16_f32) (extf .f32 h bitsLt_bf16_f32)) transposes_S6144x2048_S2048x6144_1_0) shapeCasts_S2048x6144_S2048x4x2x768) transposes_S2048x4x2x768_S2x4x2048x768_2_1_0_3) shapeCasts_S2x4x2048x768_S8x2048x768) bitsLt_bf16_f32

/-- It is a sum over the tokens. -/
theorem firstCols_eq (h : FVec Ideal S2048x2048 .bf16) (p : FVec Ideal S2048x6144 .bf16) :
    firstCols h p = colsGrad (n := 768) (N := 6144) rfl h p := by
  funext i
  idx_vars i
  unfold firstCols
  pointwise
  refine sum_cols rfl h p i0 i1 i2 _ ?_
  show i0.val % 4 * 1536 + i0.val / 4 * 768 + i2.val = _
  omega

/-- The gradient of the second projection's weights, its columns in eight blocks, the even ones first. -/
def secondCols (h : FVec Ideal S2048x2048 .bf16) (p : FVec Ideal S2048x4096 .bf16) : FVec Ideal S8x2048x512 .bf16 :=
  truncf .bf16 (shapeCast _ (transpose S2x4x2048x512 [2, 1, 0, 3] (shapeCast _ (transpose S2048x4096 [1, 0] (Host.dotGeneral dot_S2048x4096_S2048x2048_S4096x2048_0_0_1_1_n_n none (extf .f32 p bitsLt_bf16_f32) (extf .f32 h bitsLt_bf16_f32)) transposes_S4096x2048_S2048x4096_1_0) shapeCasts_S2048x4096_S2048x4x2x512) transposes_S2048x4x2x512_S2x4x2048x512_2_1_0_3) shapeCasts_S2x4x2048x512_S8x2048x512) bitsLt_bf16_f32

/-- It is a sum over the tokens. -/
theorem secondCols_eq (h : FVec Ideal S2048x2048 .bf16) (p : FVec Ideal S2048x4096 .bf16) :
    secondCols h p = colsGrad (n := 512) (N := 4096) rfl h p := by
  funext i
  idx_vars i
  unfold secondCols
  pointwise
  refine sum_cols rfl h p i0 i1 i2 _ ?_
  show i0.val % 4 * 1024 + i0.val / 4 * 512 + i2.val = _
  omega

end Cert.Reference5Ideal.Mix
-- ==== Proof.MixClaim.lean ====
/- The four kernel calls and their reference end with the same arrays: the gradients of the products around the mixers. -/
module

public import proofs.«01_k».proof.Defs
public import proofs.«01_k».proof.Proof.MixKernel
public import proofs.«01_k».proof.Proof.MixRef

@[expose] public section

set_option maxRecDepth 16384

noncomputable section

namespace Cert.Proof

open Idealize.ShloMosaic Idealize.SL.Sem Cert.Product

/-- The two programs end with equal results on every device, whatever the arguments. -/
theorem algebraic_mix : Cert.algebraic_Kernel5Ideal_Reference5Ideal := by
  intro m g m' g' hpre hag
  refine ⟨fun c => perRow (m (c.tc.loc Cert.Kernel5Ideal.main_arg2)) (m (c.tc.loc Cert.Kernel5Ideal.main_arg1)),
    fun c => rowsGrad (m (c.tc.loc Cert.Kernel5Ideal.main_arg0)) (m (c.tc.loc Cert.Kernel5Ideal.main_arg2)),
    fun c => colsGrad (n := 768) (N := 6144) rfl (m (c.tc.loc Cert.Kernel5Ideal.main_arg3)) (m (c.tc.loc Cert.Kernel5Ideal.main_arg4)),
    fun c => colsGrad (n := 512) (N := 4096) rfl (m (c.tc.loc Cert.Kernel5Ideal.main_arg3)) (m (c.tc.loc Cert.Kernel5Ideal.main_arg5)), ?_, ?_⟩
  · refine (θ_run _ _ _).mono (fun r h c => ?_) (Cert.Kernel5Ideal.Mix.run_results m g)
    obtain ⟨e0, e1, e2, e3, rest⟩ := h c
    exact ⟨e0.trans (Cert.Kernel5Ideal.Mix.result0 c m g), e1.trans (Cert.Kernel5Ideal.Mix.result1 c m g),
      e2.trans (Cert.Kernel5Ideal.Mix.result2 c m g), e3.trans (Cert.Kernel5Ideal.Mix.result3 c m g), rest⟩
  · refine (θ_run _ _ _).mono (fun r h c => ?_) (Cert.Reference5Ideal.Value.run m' g')
    obtain ⟨h0, h1, h2, h3, h4, h5⟩ := hag c
    obtain ⟨e0, e1, e2, e3, rest⟩ := h c
    refine ⟨(e0.trans (Cert.Reference5Ideal.Mix.rowsBack_eq _ _)).trans ?_, (e1.trans (Cert.Reference5Ideal.Mix.weightRows_eq _ _)).trans ?_,
      (e2.trans (Cert.Reference5Ideal.Mix.firstCols_eq _ _)).trans ?_, (e3.trans (Cert.Reference5Ideal.Mix.secondCols_eq _ _)).trans ?_, rest⟩
    · rw [h1, h2]
    · rw [h0, h2]
    · rw [h3, h4]
    · rw [h3, h5]

end Cert.Proof
-- ==== Proof.ProjRun.lean ====
/- The run of the three kernel calls for the products around the mixers: every buffer ends at what the third call leaves. -/
module

public import proofs.«01_k».proof.Proof.Gen.Kernel6Ideal.Frame

@[expose] public section

set_option maxRecDepth 16384

noncomputable section

namespace Cert.Kernel6Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel6Ideal Cert.Kernel6Ideal.Gen

variable {F : FTy → Type} [FloatOps F] (m : (ℓ : Loc nD τ sig) → Buf (Elt F) ℓ) (ρ : Dev nD → PrngReg)

local notation "𝕄" => MT nD τ sig Unit (Elt F) ℕ (UR sig nD τ) ℕ

set_option backward.isDefEq.respectTransparency.types false in
/-- From any memory with zero counters every run ends, nothing faulting, with every array at the contents after the third call. -/
theorem run_contents : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- The four results and the arguments at the end of a run. -/
theorem run_results : θ_run defs (onTc (τ := τ) (main (F := F))) ⟨m, fun _ => 0, ρ⟩ (fun r => ∀ c : Dev nD,
      r.2.mem ((c.tc : Thread nD τ).loc main_v2) = (dat1 (V2 m ρ) c).arrAt 2 cfg1.N
      ∧ r.2.mem ((c.tc : Thread nD τ).loc main_v3) = (dat2 (V3 m ρ) c).arrAt 2 cfg2.N
      ∧ r.2.mem ((c.tc : Thread nD τ).loc main_v1_0) = (dat0 (V1 m ρ) c).arrAt 4 cfg0.N
      ∧ r.2.mem ((c.tc : Thread nD τ).loc main_v1_1) = (dat0 (V1 m ρ) c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v2 (by decide))).trans ((W4_of m ρ c main_v2 (by decide)).trans (W3_arr m ρ c 2)),
     (h c _ (mem_uc main_v3 (by decide))).trans (W4_arr m ρ c 2),
     (h c _ (mem_uc main_v1_0 (by decide))).trans ((W4_of m ρ c main_v1_0 (by decide)).trans ((W3_of m ρ c main_v1_0 (by decide)).trans (W2_arr m ρ c 4))),
     (h c _ (mem_uc main_v1_1 (by decide))).trans ((W4_of m ρ c main_v1_1 (by decide)).trans ((W3_of m ρ c main_v1_1 (by decide)).trans (W2_arr m ρ c 5))),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_contents m ρ)

end Cert.Kernel6Ideal.Proj
-- ==== Proof.ProjKernel.lean ====
/- The arrays that each of the three calls leaves, from the arrays that it is given, over the extended reals. -/
module

public import proofs.«01_k».proof.Proof.ProjRun
public import proofs.«01_k».proof.Proof.ProductMath
public import Idealize.ShloMosaic.Lib.Pipeline.ValueKit
public import Idealize.ShloMosaic.Lib.StableHlo.ReadAt

@[expose] public section

set_option maxRecDepth 16384

noncomputable section

namespace Cert.Kernel6Ideal.Proj

open Idealize.ShloMosaic Idealize.ShloMosaic.TcCoe
open Idealize.ShloMosaic.Tactic
open Cert.Kernel6Ideal Cert.Kernel6Ideal.Gen Cert.Ffn Cert.Product
open scoped BigOperators

/-- The first call's block: the residual's and the product's, -/
theorem block0_4 (x : Vec Ideal S512x2048 .bf16) (w : Vec Ideal S2048x2048 .bf16) (r : FVec Ideal S512x2048 .f32) (g : FVec Ideal S1x2048 .f32)
    (a : Fin 512) (d : Fin 2048) : (out0_4 x w r g : FVec Ideal S512x2048 .f32) (ix2 a d) = r (ix2 a d) + ∑ e : Fin 2048, x (ix2 a e) * w (ix2 e d) := by
  frame_out
  open_payloads
  pointwise

/-- and its rows, normed. -/
theorem block0_5 (x : Vec Ideal S512x2048 .bf16) (w : Vec Ideal S2048x2048 .bf16) (r : FVec Ideal S512x2048 .f32) (g : FVec Ideal S1x2048 .f32)
    (a : Fin 512) (d : Fin 2048) : out0_5 x w r g (ix2 a d)
      = normAt (fun e => (out0_4 x w r g : FVec Ideal S512x2048 .f32) (ix2 a e)) (g (ix2 0 d)) d := by
  simp only [block0_4]
  frame_out
  open_payloads
  pointwise
  rfl

/-- A row of a block times a column of a block of `n` columns of weights. -/
def dot {n : ℕ} (x : Rows) (w : (⟨3, ![1, 2048, n]⟩ : Shape).Idx → EReal) (a : Fin 2048) (f : Fin n) : EReal :=
  ∑ d : Fin 2048, x (ix2 a d) * w (ix3 0 d f)

/-- The same product, its row and column given by their numbers. -/
theorem dot_at {n : ℕ} (x : Rows) (w : (⟨3, ![1, 2048, n]⟩ : Shape).Idx → EReal) {a a' : Fin 2048} {f : Fin n} {k : ℕ} {hk : k < n}
    (ha : a.val = a'.val) (hf : f.val = k) : ∑ d : Fin 2048, x (ix2 a' d) * w (ix3 0 d ⟨k, hk⟩) = dot x w a f := by
  obtain rfl : a = a' := Fin.ext ha
  subst hf
  rfl

/-- The product from the arrays that the two blocks belong to, at the column's place among all the blocks' columns. -/
theorem dot_eq {n N : ℕ} (hN : 8 * n = N) (hn : 0 < n) {X : Rows} {W : ColBlocks n} {x : Rows} {w : (⟨3, ![1, 2048, n]⟩ : Shape).Idx → EReal} {j : Fin 8}
    (hx : ∀ a d, x (ix2 a d) = X (ix2 a d)) (hw : ∀ d f, w (ix3 0 d f) = W (ix3 j d f)) (a : Fin 2048) (f : Fin n) :
    dot x w a f = joined hN hn X W (ix2 a (place hN j f)) :=
  (Finset.sum_congr rfl fun d _ => mul_of (hx a d) (hw d f)).trans (joined_place hN hn X W a j f).symm

/-- The second and the third call's blocks. -/
theorem block1_2 (x : Vec Ideal S2048x2048 .bf16) (w : Vec Ideal S1x2048x768 .bf16) (w' : Vec Ideal S1x2048x512 .bf16) (a : Fin 2048) :
    (∀ f : Fin 768, out1_2 x w (ix2 a f) = dot x w a f) ∧ ∀ f : Fin 512, out2_2 x w' (ix2 a f) = dot x w' a f := by
  refine ⟨fun f => ?_, fun f => ?_⟩
  all_goals
    frame_out
    canon_tiles x h using (View.cover_of_tiledBy _ ![2048, 256] (by sl_kernel_rfl) _)
  all_goals
    open_payloads
    pointwise
    exact dot_at _ _ h0 h1

/-- Which block of each array a point of the first call works on, -/
theorem index0 : ∀ t : Fin cfg0.N, (win0_0.index t = ![t.val, 0] ∧ win0_2.index t = ![t.val, 0]) ∧ (win0_1.index t = ![0, 0] ∧ win0_3.index t = ![0, 0])
    ∧ win0_4.index t = ![t.val, 0] ∧ win0_5.index t = ![t.val, 0] :=
  fun t => (by decide +kernel : ∀ t : Fin grid0.N, (win0_0.index t = ![t.val, 0] ∧ win0_2.index t = ![t.val, 0]) ∧ (win0_1.index t = ![0, 0] ∧ win0_3.index t = ![0, 0])
    ∧ win0_4.index t = ![t.val, 0] ∧ win0_5.index t = ![t.val, 0]) t
/-- and a point of the second and of the third. -/
theorem index1_2 : ∀ t : Fin cfg1.N, (win1_0.index t = ![0, 0] ∧ win2_0.index t = ![0, 0]) ∧ (win1_1.index t = ![t.val, 0, 0] ∧ win2_1.index t = ![t.val, 0, 0])
    ∧ win1_2.index t = ![0, t.val] ∧ win2_2.index t = ![0, t.val] :=
  fun t => (by decide +kernel : ∀ t : Fin grid1.N, (win1_0.index t = ![0, 0] ∧ win2_0.index t = ![0, 0]) ∧ (win1_1.index t = ![t.val, 0, 0] ∧ win2_1.index t = ![t.val, 0, 0])
    ∧ win1_2.index t = ![0, t.val] ∧ win2_2.index t = ![0, t.val]) t

variable (V : (c : Dev nD) → (b : Ref sig .tc) → Buf (Elt Ideal) ((c : Thread nD τ).loc b)) (c : Dev nD)

/-- The residual's block at a point. -/
abbrev residBlock (t : Fin cfg0.N) : FVec Ideal S512x2048 .f32 := iblk0 V c 2 t
/-- The gains' block at a point. -/
abbrev gainBlock (t : Fin cfg0.N) : FVec Ideal S1x2048 .f32 := iblk0 V c 3 t

/-- The first call's block of the mixers' output. -/
theorem rows0_0 (t : Fin cfg0.N) (a : Fin 512) (d : Fin 2048) (h : 512 * t.val + a.val < 2048) :
    (iblk0 V c 0 t : Vec Ideal S512x2048 .bf16) (ix2 a d) = (V c main_arg3 : Rows) (ix2 ⟨512 * t.val + a.val, h⟩ d) := by
  blk_simp [iblk0, index0]
  refine congrArg (V c main_arg3) ?_
  blk_ext [index0]

/-- The first call's block of the weights. -/
theorem rows0_1 (t : Fin cfg0.N) (e d : Fin 2048) :
    (iblk0 V c 1 t : Vec Ideal S2048x2048 .bf16) (ix2 e d) = (V c main_arg4 : Rows) (ix2 e d) := by
  blk_simp [iblk0, index0]
  refine congrArg (V c main_arg4) ?_
  blk_ext [index0]

/-- The first call's block of the residual. -/
theorem rows0_2 (t : Fin cfg0.N) (a : Fin 512) (d : Fin 2048) (h : 512 * t.val + a.val < 2048) :
    residBlock V c t (ix2 a d) = (V c main_arg5 : Wide) (ix2 ⟨512 * t.val + a.val, h⟩ d) := by
  unfold residBlock
  blk_simp [iblk0, index0]
  refine congrArg (V c main_arg5) ?_
  blk_ext [index0]

/-- The first call's block of the gains. -/
theorem rows0_3 (t : Fin cfg0.N) (d : Fin 2048) : gainBlock V c t (ix2 0 d) = (V c main_v0 : FVec Ideal S1x2048 .f32) (ix2 0 d) := by
  unfold gainBlock
  blk_simp [iblk0, index0]
  refine congrArg (V c main_v0) ?_
  blk_ext [index0]

/-- The first call's block of the residual with the product, at an index. -/
theorem total0 (t : Fin cfg0.N) (a : Fin 512) (d : Fin 2048) (h : 512 * t.val + a.val < 2048) :
    (out0_4 (iblk0 V c 0 t) (iblk0 V c 1 t) (iblk0 V c 2 t) (iblk0 V c 3 t) : FVec Ideal S512x2048 .f32) (ix2 a d)
      = withResid (V c main_arg3) (V c main_arg4) (V c main_arg5) (ix2 ⟨512 * t.val + a.val, h⟩ d) := by
  refine (block0_4 _ _ (residBlock V c t) (gainBlock V c t) a d).trans (congrArg₂ (fun p q : EReal => p + q) (rows0_2 V c t a d h) ?_)
  exact Finset.sum_congr rfl fun e _ => mul_of (rows0_0 V c t a e h) (rows0_1 V c t e d)

/-- The first call leaves the residual with the product -/
theorem final0_4 : (dat0 V c).arrAt 4 cfg0.N = withResid (V c main_arg3) (V c main_arg4) (V c main_arg5) := by
  refine (dat0 V c).arrAt_eq_of_covers 4 _ (by decide +kernel) fun t hf y => ?_
  have ht : t.val < 4 := t.isLt
  blk_simp
  rw [after0_4]
  obtain ⟨a, d, rfl⟩ : ∃ (a : Fin 512) (d : Fin 2048), y = ix2 a d := ⟨y 0, y 1, by idx_vars y⟩
  have h : 512 * t.val + a.val < 2048 := by omega
  refine (total0 V c t a d h).trans ?_
  have e : (win0_4.blk t).view.emb (ix2 a d) = ix2 ⟨512 * t.val + a.val, h⟩ d := by
    blk_ext [index0]
  rw [e]

/-- and its rows, normed. -/
theorem final0_5 (g : Gain) (hg : ∀ d : Fin 2048, (V c main_v0 : FVec Ideal S1x2048 .f32) (ix2 0 d) = g (ix1 d)) :
    (dat0 V c).arrAt 5 cfg0.N = normed (withResid (V c main_arg3) (V c main_arg4) (V c main_arg5)) g := by
  refine (dat0 V c).arrAt_eq_of_covers 5 _ (by decide +kernel) fun t hf y => ?_
  have ht : t.val < 4 := t.isLt
  blk_simp
  rw [after0_5]
  obtain ⟨a, d, rfl⟩ : ∃ (a : Fin 512) (d : Fin 2048), y = ix2 a d := ⟨y 0, y 1, by idx_vars y⟩
  have h : 512 * t.val + a.val < 2048 := by omega
  refine (block0_5 _ _ (residBlock V c t) (gainBlock V c t) a d).trans ?_
  have e : (win0_5.blk t).view.emb (ix2 a d) = ix2 ⟨512 * t.val + a.val, h⟩ d := by
    blk_ext [index0]
  rw [e]
  exact congrArg₂ (fun x g => normAt x g d) (funext fun e => total0 V c t a e h) ((rows0_3 V c t d).trans (hg d))

/-- The last two calls' blocks: the layer's input, -/
theorem input1_2 (t : Fin cfg1.N) (a d : Fin 2048) :
    (iblk1 V c 0 t : Vec Ideal S2048x2048 .bf16) (ix2 a d) = (V c main_arg0 : Rows) (ix2 a d)
      ∧ (iblk2 V c 0 t : Vec Ideal S2048x2048 .bf16) (ix2 a d) = (V c main_arg0 : Rows) (ix2 a d) := by
  refine ⟨?_, ?_⟩
  all_goals
    blk_simp [iblk1, iblk2]
    refine congrArg (V c main_arg0) ?_
    blk_ext [index1_2 t]

/-- and the two projections' weights. -/
theorem weights1_2 (t : Fin cfg1.N) (d : Fin 2048) :
    (∀ f : Fin 768, (iblk1 V c 1 t : Vec Ideal S1x2048x768 .bf16) (ix3 0 d f) = (V c main_arg1 : ColBlocks 768) (ix3 t d f))
      ∧ ∀ f : Fin 512, (iblk2 V c 1 t : Vec Ideal S1x2048x512 .bf16) (ix3 0 d f) = (V c main_arg2 : ColBlocks 512) (ix3 t d f) := by
  refine ⟨fun f => ?_, fun f => ?_⟩
  all_goals
    blk_simp [iblk1, iblk2]
    refine congrArg (V c _) ?_
    blk_ext [index1_2 t]

/-- Where an index of the blocks that they write stands in the arrays. -/
theorem stands1_2 (t : Fin cfg1.N) (a : Fin 2048) :
    (∀ f : Fin 768, (win1_2.blk t).view.emb (ix2 a f) = ix2 a (place (n := 768) (N := 6144) rfl t f))
      ∧ ∀ f : Fin 512, (win2_2.blk t).view.emb (ix2 a f) = ix2 a (place (n := 512) (N := 4096) rfl t f) := by
  refine ⟨fun f => ?_, fun f => ?_⟩ <;> blk_ext [index1_2 t, place]

/-- The last two calls leave the two projections. -/
theorem final1_2 : (dat1 V c).arrAt 2 cfg1.N = joined (n := 768) (N := 6144) rfl (by decide) (V c main_arg0) (V c main_arg1)
    ∧ (dat2 V c).arrAt 2 cfg2.N = joined (n := 512) (N := 4096) rfl (by decide) (V c main_arg0) (V c main_arg2) := by
  refine ⟨(dat1 V c).arrAt_eq_of_covers 2 _ (by decide +kernel) fun t _ y => ?_, (dat2 V c).arrAt_eq_of_covers 2 _ (by decide +kernel) fun t _ y => ?_⟩
  all_goals
    obtain ⟨a, f, rfl⟩ : ∃ a f, y = ix2 a f := ⟨y 0, y 1, by idx_vars y⟩
    blk_simp
    first
      | rw [after1_2, (stands1_2 t a).1]
        exact ((block1_2 _ _ (iblk2 V c 1 t) a).1 f).trans (dot_eq rfl (by decide) (fun a d => (input1_2 V c t a d).1) (fun d => (weights1_2 V c t d).1) a f)
      | rw [after2_2, (stands1_2 t a).2]
        exact ((block1_2 _ (iblk1 V c 1 t) _ a).2 f).trans (dot_eq rfl (by decide) (fun a d => (input1_2 V c t a d).2) (fun d => (weights1_2 V c t d).2) a f)

variable (m : (ℓ : Loc nD τ sig) → Buf (Elt Ideal) ℓ) (ρ : Dev nD → PrngReg)

/-- The gains as one row. -/
theorem gain_row (d : Fin 2048) : (V1 m ρ c main_v0 : FVec Ideal S1x2048 .f32) (ix2 0 d) = (m (c.tc.loc main_arg6) : Gain) (ix1 d) := by
  unfold V1 W1
  after_reads_at

/-- The four results from the arguments: the first projection, -/
theorem result1 : (dat1 (V2 m ρ) c).arrAt 2 cfg1.N = joined (n := 768) (N := 6144) rfl (by decide) (m (c.tc.loc main_arg0)) (m (c.tc.loc main_arg1)) := by
  refine (final1_2 (V2 m ρ) c).1.trans ?_
  rw [show V2 m ρ c main_arg0 = m (c.tc.loc main_arg0) from W2_args m ρ c main_arg0 (by decide),
    show V2 m ρ c main_arg1 = m (c.tc.loc main_arg1) from W2_args m ρ c main_arg1 (by decide)]

/-- the second, -/
theorem result2 : (dat2 (V3 m ρ) c).arrAt 2 cfg2.N = joined (n := 512) (N := 4096) rfl (by decide) (m (c.tc.loc main_arg0)) (m (c.tc.loc main_arg2)) := by
  refine (final1_2 (V3 m ρ) c).2.trans ?_
  rw [show V3 m ρ c main_arg0 = m (c.tc.loc main_arg0) from W3_args m ρ c main_arg0 (by decide),
    show V3 m ρ c main_arg2 = m (c.tc.loc main_arg2) from W3_args m ρ c main_arg2 (by decide)]

/-- the residual with the mixers' output -/
theorem result4 : (dat0 (V1 m ρ) c).arrAt 4 cfg0.N = withResid (m (c.tc.loc main_arg3)) (m (c.tc.loc main_arg4)) (m (c.tc.loc main_arg5)) := by
  refine (final0_4 (V1 m ρ) c).trans ?_
  rw [show V1 m ρ c main_arg3 = m (c.tc.loc main_arg3) from W1_args m ρ c main_arg3 (by decide),
    show V1 m ρ c main_arg4 = m (c.tc.loc main_arg4) from W1_args m ρ c main_arg4 (by decide),
    show V1 m ρ c main_arg5 = m (c.tc.loc main_arg5) from W1_args m ρ c main_arg5 (by decide)]

/-- and that, normed. -/
theorem result5 : (dat0 (V1 m ρ) c).arrAt 5 cfg0.N
    = normed (withResid (m (c.tc.loc main_arg3)) (m (c.tc.loc main_arg4)) (m (c.tc.loc main_arg5))) (m (c.tc.loc main_arg6)) := by
  refine (final0_5 (V1 m ρ) c (m (c.tc.loc main_arg6)) (gain_row c m ρ)).trans ?_
  rw [show V1 m ρ c main_arg3 = m (c.tc.loc main_arg3) from W1_args m ρ c main_arg3 (by decide),
    show V1 m ρ c main_arg4 = m (c.tc.loc main_arg4) from W1_args m ρ c main_arg4 (by decide),
    show V1 m ρ c main_arg5 = m (c.tc.loc main_arg5) from W1_args m ρ c main_arg5 (by decide)]

end Cert.Kernel6Ideal.Proj
-- ==== Proof.ProjRef.lean ====
/- The four arrays of the reference for the products around the mixers, read at an index, over the extended reals. -/
module

public import proofs.«01_k».proof.Proof.Gen.Reference6Ideal.Run
public import proofs.«01_k».proof.Proof.ProductMath

@[expose] public section

set_option maxRecDepth 16384

noncomputable section

namespace Cert.Reference6Ideal.Proj

open Idealize.ShloMosaic Idealize.ShloMosaic.TcCoe
open Idealize.ShloMosaic.Tactic
open Cert.Reference6Ideal Cert.Reference6Ideal.Gen Cert.Ffn Cert.Product
open scoped BigOperators

/-- The first projection. -/
def first (h : FVec Ideal S2048x2048 .bf16) (w : FVec Ideal S8x2048x768 .bf16) : FVec Ideal S2048x6144 .bf16 :=
  truncf .bf16 (Host.dotGeneral dot_S2048x2048_S2048x6144_S2048x6144_1_0_0_1_n_n none (extf .f32 h bitsLt_bf16_f32) (shapeCast _ (transpose S2048x8x768 [1, 0, 2] (extf .f32 w bitsLt_bf16_f32) transposes_S8x2048x768_S2048x8x768_1_0_2) shapeCasts_S2048x8x768_S2048x6144)) bitsLt_bf16_f32

/-- The second projection. -/
def second (h : FVec Ideal S2048x2048 .bf16) (w : FVec Ideal S8x2048x512 .bf16) : FVec Ideal S2048x4096 .f32 :=
  Host.dotGeneral dot_S2048x2048_S2048x4096_S2048x4096_1_0_0_1_n_n none (extf .f32 h bitsLt_bf16_f32) (shapeCast _ (transpose S2048x8x512 [1, 0, 2] (extf .f32 w bitsLt_bf16_f32) transposes_S8x2048x512_S2048x8x512_1_0_2) shapeCasts_S2048x8x512_S2048x4096)

/-- The residual with the mixers' output. -/
def total (a w : FVec Ideal S2048x2048 .bf16) (x : FVec Ideal S2048x2048 .f32) : FVec Ideal S2048x2048 .f32 :=
  addf x (Host.dotGeneral dot_S2048x2048_S2048x2048_S2048x2048_1_0_0_1_n_n none (extf .f32 a bitsLt_bf16_f32) (extf .f32 w bitsLt_bf16_f32))

/-- Rows, each over the root of its mean square, times the gains. -/
def norms (x : FVec Ideal S2048x2048 .f32) (g : FVec Ideal S2048 .f32) : FVec Ideal S2048x2048 .bf16 :=
  truncf .bf16 (mulf (mulf x (broadcastInDim S2048x2048 ![0, 1] bcast_S2048x1_S2048x2048_0_1 (Host.rsqrt (addf (Host.divf (broadcastInDim S2048x1 ![0] bcast_S2048_S2048x1_0 (Host.reduceAdd (mulf x x) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 (broadcastInDim S1x2048 ![1] bcast_S2048_S1x2048_1 g))) bitsLt_bf16_f32

/-- The first projection is the products with the blocks' columns. -/
theorem first_eq (h : FVec Ideal S2048x2048 .bf16) (w : FVec Ideal S8x2048x768 .bf16) :
    first h w = joined (n := 768) (N := 6144) rfl (by decide) h w := by
  funext i
  idx_vars i
  unfold first
  pointwise
  rfl

/-- So is the second. -/
theorem second_eq (h : FVec Ideal S2048x2048 .bf16) (w : FVec Ideal S8x2048x512 .bf16) :
    second h w = joined (n := 512) (N := 4096) rfl (by decide) h w := by
  funext i
  idx_vars i
  unfold second
  pointwise
  rfl

/-- The third array is the residual and a sum over the columns. -/
theorem total_eq (a w : FVec Ideal S2048x2048 .bf16) (x : FVec Ideal S2048x2048 .f32) : total a w x = withResid a w x := by
  funext i
  idx_vars i
  unfold total
  pointwise
  rfl

/-- The fourth array holds its rows, normed. -/
theorem norms_eq (x : FVec Ideal S2048x2048 .f32) (g : FVec Ideal S2048 .f32) : norms x g = normed x g := by
  funext i
  unfold norms
  idx_vars i
  pointwise
  rfl

end Cert.Reference6Ideal.Proj
-- ==== Proof.ProjClaim.lean ====
/- The three kernel calls and their reference end with the same arrays: the products around the mixers. -/
module

public import proofs.«01_k».proof.Defs
public import proofs.«01_k».proof.Proof.ProjKernel
public import proofs.«01_k».proof.Proof.ProjRef

@[expose] public section

set_option maxRecDepth 16384

noncomputable section

namespace Cert.Proof

open Idealize.ShloMosaic Idealize.SL.Sem Cert.Ffn Cert.Product

/-- The two programs end with equal results on every device, whatever the arguments. -/
theorem algebraic_proj : Cert.algebraic_Kernel6Ideal_Reference6Ideal := by
  intro m g m' g' hpre hag
  refine ⟨fun c => joined (n := 768) (N := 6144) rfl (by decide) (m (c.tc.loc Cert.Kernel6Ideal.main_arg0)) (m (c.tc.loc Cert.Kernel6Ideal.main_arg1)),
    fun c => joined (n := 512) (N := 4096) rfl (by decide) (m (c.tc.loc Cert.Kernel6Ideal.main_arg0)) (m (c.tc.loc Cert.Kernel6Ideal.main_arg2)),
    fun c => withResid (m (c.tc.loc Cert.Kernel6Ideal.main_arg3)) (m (c.tc.loc Cert.Kernel6Ideal.main_arg4)) (m (c.tc.loc Cert.Kernel6Ideal.main_arg5)),
    fun c => normed (withResid (m (c.tc.loc Cert.Kernel6Ideal.main_arg3)) (m (c.tc.loc Cert.Kernel6Ideal.main_arg4)) (m (c.tc.loc Cert.Kernel6Ideal.main_arg5))) (m (c.tc.loc Cert.Kernel6Ideal.main_arg6)), ?_, ?_⟩
  · refine (θ_run _ _ _).mono (fun r h c => ?_) (Cert.Kernel6Ideal.Proj.run_results m g)
    obtain ⟨e0, e1, e2, e3, rest⟩ := h c
    exact ⟨e0.trans (Cert.Kernel6Ideal.Proj.result1 c m g), e1.trans (Cert.Kernel6Ideal.Proj.result2 c m g),
      e2.trans (Cert.Kernel6Ideal.Proj.result4 c m g), e3.trans (Cert.Kernel6Ideal.Proj.result5 c m g), rest⟩
  · refine (θ_run _ _ _).mono (fun r h c => ?_) (Cert.Reference6Ideal.Value.run m' g')
    obtain ⟨h0, h1, h2, h3, h4, h5, h6⟩ := hag c
    obtain ⟨e0, e1, e2, e3, rest⟩ := h c
    have t := Cert.Reference6Ideal.Proj.total_eq (m' (c.tc.loc Cert.Reference6Ideal.main_arg3)) (m' (c.tc.loc Cert.Reference6Ideal.main_arg4))
      (m' (c.tc.loc Cert.Reference6Ideal.main_arg5))
    refine ⟨(e0.trans (Cert.Reference6Ideal.Proj.first_eq _ _)).trans ?_, (e1.trans (Cert.Reference6Ideal.Proj.second_eq _ _)).trans ?_,
      (e2.trans t).trans ?_, (e3.trans ((Cert.Reference6Ideal.Proj.norms_eq _ _).trans (congrArg (normed · _) t))).trans ?_, rest⟩
    · rw [h0, h1]
    · rw [h0, h2]
    · rw [h3, h4, h5]
    · rw [h3, h4, h5, h6]

end Cert.Proof
-- ==== Proof.DownKernel.lean ====
/- The arrays that the feed-forward layer's last forward call ends with, over the extended reals. -/
module

public import proofs.«01_k».proof.Proof.Gen.Kernel7Ideal.Frame
public import proofs.«01_k».proof.Proof.Gen.Kernel7Ideal.Value
public import proofs.«01_k».proof.Proof.NormMath
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Kernel7Ideal.Down

open Idealize.ShloMosaic Idealize.ShloMosaic.TcCoe
open Idealize.ShloMosaic.Tactic
open Cert.Kernel7Ideal Cert.Kernel7Ideal.Gen Cert.Ffn
open scoped BigOperators

variable (m : (ℓ : Loc nD τ sig) → Buf (Elt Ideal) ℓ) (c : Dev nD)

/-- The activations, -/
abbrev act : Hidden := m (c.tc.loc main_arg0)
/-- the weights, -/
abbrev wdown : Weights := m (c.tc.loc main_arg1)
/-- the residual -/
abbrev resid : Wide := m (c.tc.loc main_arg2)
/-- and the gains that a device starts with. -/
abbrev gain : Gain := m (c.tc.loc main_arg3)
/-- The residual's block at a point. -/
abbrev residBlock (t : Fin cfg0.N) : FVec Ideal S512x2048 .f32 := iblk m c 2 t
/-- The gains' block at a point. -/
abbrev gainBlock (t : Fin cfg0.N) : FVec Ideal S1x2048 .f32 := iblk m c 3 t

/-- The product of a point's blocks, at a row and a column. -/
def prod (x0 : Vec Ideal S1x512x704 .bf16) (x1 : Vec Ideal S1x704x2048 .bf16) (a : Fin 512) (d : Fin 2048) : EReal :=
  ∑ f : Fin 704, x0 (ix3 0 a f) * x1 (ix3 0 f d)

/-- At the first point of a row of blocks the carried buffer holds the point's product. -/
theorem carried_first (t : Fin cfg0.N) (h0 : t.val % 8 = 0) (h1 : ¬t.val % 8 = 7) (a : Fin 512) (d : Fin 2048) :
    (outsAt0 m c t.val t.isLt).2.2 (ix2 a d) = prod (iblk m c 0 t) (iblk m c 1 t) a d := by
  rw [outsAt0_A m c t h0 h1]
  dsimp only
  frame_out
  open_payloads
  pointwise
  rfl

/-- At a point between it holds the product and what the point before left. -/
theorem carried_next (t : Fin cfg0.N) (h0 : ¬t.val % 8 = 0) (h1 : ¬t.val % 8 = 7) (a : Fin 512) (d : Fin 2048) :
    (outsAt0 m c t.val t.isLt).2.2 (ix2 a d) = (outsAt0 m c (t.val - 1) (Nat.lt_of_le_of_lt (Nat.sub_le _ _) t.isLt)).2.2 (ix2 a d)
      + prod (iblk m c 0 t) (iblk m c 1 t) a d := by
  rw [outsAt0_B m c t h0 h1]
  dsimp only
  frame_out
  open_payloads
  pointwise
  simp only [read_unread_whole]
  rfl

/-- At the last point the block that is written out holds the residual, what the point before left, and the product. -/
theorem written_last (t : Fin cfg0.N) (h0 : ¬t.val % 8 = 0) (h1 : t.val % 8 = 7) (a : Fin 512) (d : Fin 2048) :
    (outsAt0 m c t.val t.isLt).1 (ix2 a d) = residBlock m c t (ix2 a d) + ((outsAt0 m c (t.val - 1) (Nat.lt_of_le_of_lt (Nat.sub_le _ _) t.isLt)).2.2 (ix2 a d)
      + prod (iblk m c 0 t) (iblk m c 1 t) a d) := by
  rw [outsAt0_C m c t h0 h1]
  dsimp only
  frame_out
  open_payloads
  pointwise
  simp only [read_unread_whole]
  rfl

/-- And the other block that is written out holds that one's rows, normed. -/
theorem written_norm (t : Fin cfg0.N) (h0 : ¬t.val % 8 = 0) (h1 : t.val % 8 = 7) (a : Fin 512) (d : Fin 2048) :
    (outsAt0 m c t.val t.isLt).2.1 (ix2 a d) = normAt (fun e => (outsAt0 m c t.val t.isLt).1 (ix2 a e)) (gainBlock m c t (ix2 0 d)) d := by
  rw [outsAt0_C m c t h0 h1]
  dsimp only
  frame_out
  unfold k0_pay4
  pointwise
  rfl

/-- Which block of each array a point works on. -/
theorem index0_0 : ∀ t : Fin cfg0.N, win0_0.index t = ![t.val % 8, t.val / 8, 0] := (by decide +kernel : ∀ t : Fin grid0.N, win0_0.index t = ![t.val % 8, t.val / 8, 0])
/-- The same for the array numbered 1. -/
theorem index0_1 : ∀ t : Fin cfg0.N, win0_1.index t = ![t.val % 8, 0, 0] := (by decide +kernel : ∀ t : Fin grid0.N, win0_1.index t = ![t.val % 8, 0, 0])
/-- The same for the array numbered 2. -/
theorem index0_2 : ∀ t : Fin cfg0.N, win0_2.index t = ![t.val / 8, 0] := (by decide +kernel : ∀ t : Fin grid0.N, win0_2.index t = ![t.val / 8, 0])
/-- The same for the array numbered 3. -/
theorem index0_3 : ∀ t : Fin cfg0.N, win0_3.index t = ![0, 0] := (by decide +kernel : ∀ t : Fin grid0.N, win0_3.index t = ![0, 0])
/-- The same for the array numbered 4. -/
theorem index0_4 : ∀ t : Fin cfg0.N, win0_4.index t = ![t.val / 8, 0] := (by decide +kernel : ∀ t : Fin grid0.N, win0_4.index t = ![t.val / 8, 0])
/-- The same for the array numbered 5. -/
theorem index0_5 : ∀ t : Fin cfg0.N, win0_5.index t = ![t.val / 8, 0] := (by decide +kernel : ∀ t : Fin grid0.N, win0_5.index t = ![t.val / 8, 0])

/-- A point's block of the activations. -/
theorem block_act (t : Fin cfg0.N) (a : Fin 512) (f : Fin 704) (h : t.val % 8 < 8) (h' : 512 * (t.val / 8) + a.val < 2048) :
    (iblk m c 0 t : Vec Ideal S1x512x704 .bf16) (ix3 0 a f) = act m c (ix3 ⟨t.val % 8, h⟩ ⟨512 * (t.val / 8) + a.val, h'⟩ f) := by
  blk_simp [iblk, index0_0]
  rw [V_main_arg0]
  refine congrArg (act m c) ?_
  blk_ext [index0_0]

/-- A point's block of the weights. -/
theorem block_wdown (t : Fin cfg0.N) (f : Fin 704) (d : Fin 2048) (h : t.val % 8 < 8) :
    (iblk m c 1 t : Vec Ideal S1x704x2048 .bf16) (ix3 0 f d) = wdown m c (ix3 ⟨t.val % 8, h⟩ f d) := by
  blk_simp [iblk, index0_1]
  rw [V_main_arg1]
  refine congrArg (wdown m c) ?_
  blk_ext [index0_1]

/-- A point's block of the residual. -/
theorem block_resid (t : Fin cfg0.N) (a : Fin 512) (d : Fin 2048) (h' : 512 * (t.val / 8) + a.val < 2048) :
    residBlock m c t (ix2 a d) = resid m c (ix2 ⟨512 * (t.val / 8) + a.val, h'⟩ d) := by
  unfold residBlock
  blk_simp [iblk, index0_2]
  rw [V_main_arg2]
  refine congrArg (resid m c) ?_
  blk_ext [index0_2]

/-- The gains as one row. -/
theorem gain_row (d : Fin 2048) : (V m c main_v0 : FVec Ideal S1x2048 .f32) (ix2 0 d) = gain m c (ix1 d) := by
  unfold V
  after_reads_at

/-- A point's block of the gains. -/
theorem block_gain (t : Fin cfg0.N) (d : Fin 2048) : gainBlock m c t (ix2 0 d) = gain m c (ix1 d) := by
  unfold gainBlock
  blk_simp [iblk, index0_3]
  have e : (win0_3.blk t).view.emb (ix2 0 d) = ix2 0 d := by
    blk_ext [index0_3]
  exact (congrArg (V m c main_v0) e).trans (gain_row m c d)

/-- A point's product is its block's part of the layer's output. -/
theorem prod_part (t : Fin cfg0.N) (a : Fin 512) (d : Fin 2048) (h : t.val % 8 < 8) (h' : 512 * (t.val / 8) + a.val < 2048) :
    prod (iblk m c 0 t) (iblk m c 1 t) a d = downPart (act m c) (wdown m c) ⟨512 * (t.val / 8) + a.val, h'⟩ d ⟨t.val % 8, h⟩ := by
  refine Finset.sum_congr rfl fun f _ => ?_
  exact congrArg₂ (· * ·) (block_act m c t a f h h') (block_wdown m c t f d h)

/-- The parts of the first `n` blocks of hidden units, summed. -/
def firstParts (r d : Fin 2048) (n : ℕ) (hn : n ≤ 8) : EReal :=
  ∑ j : Fin n, downPart (act m c) (wdown m c) r d ⟨j.val, by omega⟩

/-- One more part. -/
theorem firstParts_succ (r d : Fin 2048) (n : ℕ) (hn : n + 1 ≤ 8) :
    firstParts m c r d (n + 1) hn = firstParts m c r d n (by omega) + downPart (act m c) (wdown m c) r d ⟨n, by omega⟩ :=
  Fin.sum_univ_castSucc _

/-- As many parts from the same row. -/
theorem firstParts_congr {r r' : Fin 2048} (d : Fin 2048) {n n' : ℕ} (hn : n ≤ 8) (hn' : n' ≤ 8) (hr : r = r') (h : n = n') :
    firstParts m c r d n hn = firstParts m c r' d n' hn' := by
  subst hr; subst h; rfl

/-- Before the last point of a row of blocks, the carried buffer holds the parts of the blocks so far. -/
theorem carried (n : ℕ) (hn : n < cfg0.N) (h7 : ¬n % 8 = 7) (a : Fin 512) (d : Fin 2048) (h' : 512 * (n / 8) + a.val < 2048) :
    (outsAt0 m c n hn).2.2 (ix2 a d) = firstParts m c ⟨512 * (n / 8) + a.val, h'⟩ d (n % 8 + 1) (by omega) := by
  induction n with
  | zero =>
    rw [firstParts_succ]
    refine (carried_first m c ⟨0, hn⟩ rfl h7 a d).trans ?_
    refine (prod_part m c ⟨0, hn⟩ a d (Nat.mod_lt 0 (by decide)) h').trans (zero_add _).symm
  | succ n ih =>
    have hp := prod_part m c ⟨n + 1, hn⟩ a d (Nat.mod_lt _ (by decide)) h'
    rw [firstParts_succ]
    by_cases h0 : (n + 1) % 8 = 0
    · refine (carried_first m c ⟨n + 1, hn⟩ h0 h7 a d).trans (hp.trans ?_)
      have hz : firstParts m c ⟨512 * ((n + 1) / 8) + a.val, h'⟩ d ((n + 1) % 8) (by omega) = 0 :=
        (firstParts_congr m c d _ (Nat.zero_le 8) rfl h0).trans rfl
      rw [hz, zero_add]
    · refine (carried_next m c ⟨n + 1, hn⟩ h0 h7 a d).trans (congrArg₂ (· + ·) ?_ hp)
      refine (ih (by omega) (by omega) (by omega)).trans (firstParts_congr m c d _ _ (Fin.ext ?_) (by omega))
      show 512 * (n / 8) + a.val = 512 * ((n + 1) / 8) + a.val
      omega

/-- The block that a row's last point writes out. -/
theorem written (t : Fin cfg0.N) (h7 : t.val % 8 = 7) (a : Fin 512) (d : Fin 2048) (h' : 512 * (t.val / 8) + a.val < 2048) :
    (outsAt0 m c t.val t.isLt).1 (ix2 a d)
      = downOut (act m c) (wdown m c) (resid m c) (ix2 ⟨512 * (t.val / 8) + a.val, h'⟩ d) := by
  refine (written_last m c t (by omega) h7 a d).trans (congrArg₂ (· + ·) (block_resid m c t a d h') ?_)
  refine (congrArg₂ (· + ·) (carried m c (t.val - 1) (Nat.lt_of_le_of_lt (Nat.sub_le _ _) t.isLt) (by omega) a d (by omega))
    (prod_part m c t a d (Nat.mod_lt _ (by decide)) h')).trans ?_
  have e : firstParts m c ⟨512 * ((t.val - 1) / 8) + a.val, by omega⟩ d ((t.val - 1) % 8 + 1) (by omega)
      = firstParts m c ⟨512 * (t.val / 8) + a.val, h'⟩ d 7 (by decide) :=
    firstParts_congr m c d _ _ (Fin.ext (show 512 * ((t.val - 1) / 8) + a.val = 512 * (t.val / 8) + a.val by omega)) (by omega)
  rw [e]
  have e' : (⟨t.val % 8, Nat.mod_lt _ (by decide)⟩ : Fin 8) = ⟨7, by decide⟩ := Fin.ext h7
  rw [e']
  exact (firstParts_succ m c _ d 7 (by decide)).symm

/-- The arrays that the call ends with: the residual with the layer's output, -/
theorem final4 : (dats m 0 c).arrAt 4 cfg0.N = downOut (act m c) (wdown m c) (resid m c) := by
  refine (dats m 0 c).arrAt_eq_of_covers 4 _ (by decide +kernel) fun t hf y => ?_
  have ht : t.val < 32 := t.isLt
  have h7 : t.val % 8 = 7 := (flush0_4 t).mp hf
  blk_simp
  rw [after0_4]
  obtain ⟨a, d, rfl⟩ : ∃ (a : Fin 512) (d : Fin 2048), y = ix2 a d := ⟨y 0, y 1, by idx_vars y⟩
  have h' : 512 * (t.val / 8) + a.val < 2048 := by omega
  refine (written m c t h7 a d h').trans ?_
  have e : (win0_4.blk t).view.emb (ix2 a d) = ix2 ⟨512 * (t.val / 8) + a.val, h'⟩ d := by
    blk_ext [index0_4]
  rw [e]

/-- and its rows, normed. -/
theorem final5 : (dats m 0 c).arrAt 5 cfg0.N = normed (downOut (act m c) (wdown m c) (resid m c)) (gain m c) := by
  refine (dats m 0 c).arrAt_eq_of_covers 5 _ (by decide +kernel) fun t hf y => ?_
  have ht : t.val < 32 := t.isLt
  have h7 : t.val % 8 = 7 := (flush0_5 t).mp hf
  blk_simp
  rw [after0_5]
  obtain ⟨a, d, rfl⟩ : ∃ (a : Fin 512) (d : Fin 2048), y = ix2 a d := ⟨y 0, y 1, by idx_vars y⟩
  have h' : 512 * (t.val / 8) + a.val < 2048 := by omega
  refine (written_norm m c t (by omega) h7 a d).trans ?_
  have e : (win0_5.blk t).view.emb (ix2 a d) = ix2 ⟨512 * (t.val / 8) + a.val, h'⟩ d := by
    blk_ext [index0_5]
  rw [e]
  exact congrArg₂ (fun x g => normAt x g d) (funext fun e => written m c t h7 a e h') (block_gain m c t d)

end Cert.Kernel7Ideal.Down
-- ==== Proof.DownRef.lean ====
/- The arrays of the reference for the feed-forward layer's last forward call, read at an index, over the extended reals. -/
module

public import proofs.«01_k».proof.Proof.Gen.Reference7Ideal.Run
public import proofs.«01_k».proof.Proof.NormMath

@[expose] public section

set_option maxRecDepth 16384

noncomputable section

namespace Cert.Reference7Ideal.Down

open Idealize.ShloMosaic Idealize.ShloMosaic.TcCoe
open Idealize.ShloMosaic.Tactic
open Cert.Reference7Ideal Cert.Reference7Ideal.Gen Cert.Ffn
open scoped BigOperators

/-- The rows' product with the weights, over all hidden units. -/
def product (a : FVec Ideal S8x2048x704 .bf16) (w : FVec Ideal S8x704x2048 .bf16) : FVec Ideal S2048x2048 .f32 :=
  Host.dotGeneral dot_S2048x5632_S5632x2048_S2048x2048_1_0_0_1_n_n none
    (shapeCast _ (transpose S2048x8x704 [1, 0, 2] (extf .f32 a bitsLt_bf16_f32) transposes_S8x2048x704_S2048x8x704_1_0_2) shapeCasts_S2048x8x704_S2048x5632)
    (shapeCast _ (extf .f32 w bitsLt_bf16_f32) shapeCasts_S8x704x2048_S5632x2048)

/-- Rows, each over the root of its mean square, times the gains. -/
def norms (x : FVec Ideal S2048x2048 .f32) (g : FVec Ideal S2048 .f32) : FVec Ideal S2048x2048 .bf16 :=
  truncf .bf16 (mulf (mulf x (broadcastInDim S2048x2048 ![0, 1] bcast_S2048x1_S2048x2048_0_1 (Host.rsqrt (addf (Host.divf (broadcastInDim S2048x1 ![0] bcast_S2048_S2048x1_0 (Host.reduceAdd (mulf x x) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 (broadcastInDim S1x2048 ![1] bcast_S2048_S1x2048_1 g))) bitsLt_bf16_f32

/-- The product is a sum over the hidden units, block by block. -/
theorem product_apply (a : FVec Ideal S8x2048x704 .bf16) (w : FVec Ideal S8x704x2048 .bf16) (t d : Fin 2048) :
    product a w (ix2 t d) = ∑ j : Fin 8, ∑ f : Fin 704, a (ix3 j t f) * w (ix3 j f d) := by
  unfold product
  pointwise
  refine (sum_hid _).trans (Finset.sum_congr rfl fun j _ => Finset.sum_congr rfl fun f _ => ?_)
  exact congrArg (fun k : Fin 8 × Fin 704 => a (ix3 k.1 t k.2) * w (ix3 k.1 k.2 d)) (hid_split j f)

/-- The first array is the residual and that sum. -/
theorem total_eq (a : FVec Ideal S8x2048x704 .bf16) (w : FVec Ideal S8x704x2048 .bf16) (x : FVec Ideal S2048x2048 .f32) :
    addf x (product a w) = downOut a w x := by
  funext i
  idx_vars i
  pointwise
  rw [product_apply]
  rfl

/-- The second array holds its rows, normed. -/
theorem norms_eq (x : FVec Ideal S2048x2048 .f32) (g : FVec Ideal S2048 .f32) : norms x g = normed x g := by
  funext i
  unfold norms
  idx_vars i
  pointwise
  rfl

end Cert.Reference7Ideal.Down
-- ==== Proof.DownClaim.lean ====
/- The kernel call and its reference end with the same arrays: the feed-forward layer's output with its residual, and that normed. -/
module

public import proofs.«01_k».proof.Defs
public import proofs.«01_k».proof.Proof.DownKernel
public import proofs.«01_k».proof.Proof.DownRef

@[expose] public section

set_option maxRecDepth 16384

noncomputable section

namespace Cert.Proof

open Idealize.ShloMosaic Idealize.SL.Sem Cert.Ffn

/-- The two programs end with equal results on every device, whatever the arguments. -/
theorem algebraic_down : Cert.algebraic_Kernel7Ideal_Reference7Ideal := by
  intro m g m' g' hpre hag
  refine ⟨fun c => downOut (m (c.tc.loc Cert.Kernel7Ideal.main_arg0)) (m (c.tc.loc Cert.Kernel7Ideal.main_arg1)) (m (c.tc.loc Cert.Kernel7Ideal.main_arg2)),
    fun c => normed (downOut (m (c.tc.loc Cert.Kernel7Ideal.main_arg0)) (m (c.tc.loc Cert.Kernel7Ideal.main_arg1)) (m (c.tc.loc Cert.Kernel7Ideal.main_arg2)))
      (m (c.tc.loc Cert.Kernel7Ideal.main_arg3)), ?_, ?_⟩
  · refine (θ_run _ _ _).mono (fun r h c => ?_) (Cert.Kernel7Ideal.Value.run_blocks m g)
    obtain ⟨e4, e5, rest⟩ := h c
    exact ⟨e4.trans (Cert.Kernel7Ideal.Down.final4 m c), e5.trans (Cert.Kernel7Ideal.Down.final5 m c), rest⟩
  · refine (θ_run _ _ _).mono (fun r h c => ?_) (Cert.Reference7Ideal.Value.run m' g')
    obtain ⟨h0, h1, h2, h3⟩ := hag c
    obtain ⟨e4, e5, rest⟩ := h c
    have t := Cert.Reference7Ideal.Down.total_eq (m' (c.tc.loc Cert.Reference7Ideal.main_arg0)) (m' (c.tc.loc Cert.Reference7Ideal.main_arg1))
      (m' (c.tc.loc Cert.Reference7Ideal.main_arg2))
    refine ⟨(e4.trans t).trans ?_, (e5.trans ((Cert.Reference7Ideal.Down.norms_eq _ _).trans (congrArg (normed · _) t))).trans ?_, rest⟩
    · rw [h0, h1, h2]
    · rw [h0, h1, h2, h3]

end Cert.Proof
-- ==== Proof.BackMath.lean ====
/- The gradients of the root-mean-square norm, over the extended reals. -/
module

public import proofs.«01_k».proof.Proof.ProductMath

@[expose] public section

noncomputable section

namespace Cert.Back

open Idealize.ShloMosaic Cert.Ffn Cert.Product
open scoped BigOperators

/-- The number of features. -/
abbrev width : EReal := Ideal.ofBits FTy.f32 1157627904#32
/-- The small constant under the root. -/
abbrev small : EReal := Ideal.ofBits FTy.f32 897988541#32
/-- Minus one half. -/
abbrev minusHalf : EReal := Ideal.ofBits FTy.f32 3204448256#32

/-- A row's mean square, with the small constant added, -/
def meanSq (x : Fin 2048 → EReal) : EReal := Ideal.div (∑ e, x e * x e) width + small
/-- and one over its root. -/
def root (x : Fin 2048 → EReal) : EReal := Ideal.rsqrt (meanSq x)

/-- The gradient of a row's entry from the gradient `dy` of the normed row, added to `res`. -/
def backAt (x dy g : Fin 2048 → EReal) (res : EReal) (d : Fin 2048) : EReal :=
  res + root x * (dy d * g d) - x d * (root x * root x * root x * Ideal.div (∑ e, x e * (dy e * g e)) width)

/-- The same as the rule for a product, a sum and a root gives it. -/
def ruleAt (x dy g : Fin 2048 → EReal) (res : EReal) (d : Fin 2048) : EReal :=
  have t := Ideal.div ((∑ e, x e * (dy e * g e)) * (minusHalf * Ideal.div (root x) (meanSq x))) width
  res + ((dy d * g d * root x + x d * t) + t * x d)

/-- The number of features is 2048, -/
theorem width_eq : width = ((2048 : ℝ) : EReal) := by
  simp [width, Ideal.ofBits, Ideal.ieee]
  rw [← EReal.coe_mul]
  norm_num

/-- that constant is minus one half, -/
theorem minusHalf_eq : minusHalf = ((-(1 / 2) : ℝ) : EReal) := by
  simp [minusHalf, Ideal.ofBits, Ideal.ieee]
  rw [← EReal.coe_mul]
  norm_num

/-- and the small one is a positive real. -/
theorem small_pos : ∃ e : ℝ, 0 < e ∧ small = (e : EReal) := by
  refine ⟨(8796093 : ℝ) * 2 ^ (-43 : ℤ), by positivity, ?_⟩
  simp [small, Ideal.ofBits, Ideal.ieee]

/-- A square is not negative. -/
theorem square_nonneg (x : EReal) : 0 ≤ x * x := by
  induction x with
  | bot => simp
  | top => simp
  | coe r => exact_mod_cast mul_self_nonneg r

/-- The mean square with the small constant is a positive real or plus infinity. -/
theorem meanSq_cases (x : Fin 2048 → EReal) : meanSq x = ⊤ ∨ ∃ v : ℝ, 0 < v ∧ meanSq x = (v : EReal) := by
  obtain ⟨e, he, hs⟩ := small_pos
  have hn : 0 ≤ ∑ e, x e * x e := Finset.sum_nonneg fun i _ => square_nonneg (x i)
  unfold meanSq
  rw [hs, width_eq, Ideal.div_coe (by norm_num)]
  generalize ∑ e, x e * x e = s at hn
  induction s with
  | bot => exact absurd hn (by simp)
  | top =>
    left
    rw [EReal.top_mul_coe_of_pos (by norm_num), EReal.top_add_coe]
  | coe s =>
    right
    have h : 0 ≤ s := by exact_mod_cast hn
    exact ⟨s * (1 / 2048) + e, by positivity, by push_cast; rfl⟩

/-- One over the root is a real, and its cube is its quotient by the mean square. -/
theorem root_cases (x : Fin 2048 → EReal) :
    ∃ r : ℝ, root x = (r : EReal) ∧ Ideal.div (root x) (meanSq x) = ((r * r * r : ℝ) : EReal) := by
  unfold root
  rcases meanSq_cases x with h | ⟨v, hv, h⟩
  · refine ⟨0, by rw [h]; rfl, ?_⟩
    rw [h, Ideal.rsqrt_top]
    simp [Ideal.div]
  · have hr : Ideal.rsqrt (v : EReal) = (((Real.sqrt v)⁻¹ : ℝ) : EReal) := by
      rw [Ideal.rsqrt_coe, if_neg (by linarith), if_neg (by linarith)]
    refine ⟨(Real.sqrt v)⁻¹, by rw [h, hr], ?_⟩
    rw [h, hr, Ideal.div_coe (by linarith), ← EReal.coe_mul]
    congr 1
    have hq := Real.mul_self_sqrt hv.le
    have h0 : Real.sqrt v ≠ 0 := (Real.sqrt_pos.mpr hv).ne'
    field_simp
    nlinarith [hq]

/-- Twice a number. -/
theorem add_self (u : EReal) : u + u = ((2 : ℝ) : EReal) * u := by
  have h := EReal.right_distrib_of_nonneg (c := u) (zero_le_one (α := EReal)) (zero_le_one (α := EReal))
  rw [one_mul] at h
  have e : (1 + 1 : EReal) = ((2 : ℝ) : EReal) := by
    rw [← EReal.coe_one, ← EReal.coe_add]
    norm_num
  rw [← h, e]

/-- The two forms of the gradient agree, whatever the row, the gains and the gradient that comes in. -/
theorem backAt_eq (x dy g : Fin 2048 → EReal) (res : EReal) (d : Fin 2048) : backAt x dy g res d = ruleAt x dy g res d := by
  obtain ⟨r, hr, hc⟩ := root_cases x
  unfold backAt ruleAt
  rw [hc, hr, width_eq, minusHalf_eq]
  simp only [Ideal.div_coe (show (2048 : ℝ) ≠ 0 by norm_num)]
  generalize ∑ e, x e * (dy e * g e) = s
  rw [sub_eq_add_neg, add_assoc, add_assoc, mul_comm (r : EReal) (dy d * g d)]
  refine congrArg (fun z => res + (dy d * g d * (r : EReal) + z)) ?_
  rw [mul_comm (s * _ * _) (x d), add_self, ← neg_one_mul]
  have e1 : (-1 : EReal) * (x d * ((r : EReal) * r * r * (s * ((1 / 2048 : ℝ) : EReal))))
      = x d * s * ((((-1 : ℝ) : EReal)) * ((r : EReal) * r * r * ((1 / 2048 : ℝ) : EReal))) := by
    rw [show (-1 : EReal) = ((-1 : ℝ) : EReal) by norm_num]
    ac_rfl
  have e2 : ((2 : ℝ) : EReal) * (x d * (s * (((-(1 / 2) : ℝ) : EReal) * ((r * r * r : ℝ) : EReal)) * ((1 / 2048 : ℝ) : EReal)))
      = x d * s * (((2 : ℝ) : EReal) * (((-(1 / 2) : ℝ) : EReal) * ((r * r * r : ℝ) : EReal) * ((1 / 2048 : ℝ) : EReal))) := by
    ac_rfl
  rw [e1, e2]
  simp only [← EReal.coe_mul]
  congr 2
  ring

/-- What a row adds to the gradient of a column's gain. -/
def gainPart (x : Fin 2048 → EReal) (dy : EReal) (d : Fin 2048) : EReal := dy * x d * root x

/-- The gradient of a product with weights that are kept in blocks of columns: one block's part. -/
def dyPart {n N : ℕ} (hN : 8 * n = N) (p : Flat N) (w : ColBlocks n) (t d : Fin 2048) (j : Fin 8) : EReal :=
  ∑ f : Fin n, p (ix2 t (place hN j f)) * w (ix3 j d f)

/-- That gradient, over all the blocks. -/
def dyOf {n N : ℕ} (hN : 8 * n = N) (p : Flat N) (w : ColBlocks n) (t d : Fin 2048) : EReal := ∑ j : Fin 8, dyPart hN p w t d j

/-- The gradient of the rows, with what they pass on besides. -/
def rowsBack (x : Wide) (dy : Fin 2048 → Fin 2048 → EReal) (g : Gain) (res : Wide) : Wide := fun i =>
  backAt (fun e => x (ix2 (i 0) e)) (dy (i 0)) (fun e => g (ix1 e)) (res i) (i 1)

/-- The gradient of the gains, the sum over the rows. -/
def gainBack (x : Wide) (dy : Fin 2048 → Fin 2048 → EReal) : Gain := fun i =>
  ∑ t : Fin 2048, gainPart (fun e => x (ix2 t e)) (dy t (i 0)) (i 0)

/-- A sum over all the columns of the blocks, block by block. -/
theorem sum_place {n N : ℕ} (hN : 8 * n = N) (F : Fin N → EReal) : ∑ k, F k = ∑ j : Fin 8, ∑ f : Fin n, F (place hN j f) := by
  subst hN
  rw [← Fintype.sum_prod_type' (f := fun j f => F (place rfl j f))]
  refine (Equiv.sum_comp (finProdFinEquiv (m := 8) (n := n)) F).symm.trans (Finset.sum_congr rfl fun p _ => ?_)
  exact congrArg F (Fin.ext (Nat.add_comm _ _))

/-- The gradient of the product is a sum over all the columns, of the blocks side by side. -/
theorem dyOf_flat {n N : ℕ} (hN : 8 * n = N) (hn : 0 < n) (p : Flat N) (w : ColBlocks n) (t d : Fin 2048) :
    ∑ k : Fin N, p (ix2 t k) * w (ix3 ⟨k.val / n, Nat.div_lt_of_lt_mul (by rw [Nat.mul_comm, hN]; exact k.isLt)⟩ d ⟨k.val % n, Nat.mod_lt _ hn⟩)
      = dyOf hN p w t d := by
  refine (sum_place hN _).trans (Finset.sum_congr rfl fun j _ => Finset.sum_congr rfl fun f _ => ?_)
  have e : (n * j.val + f.val) / n = j.val := by rw [Nat.mul_add_div hn, Nat.div_eq_of_lt f.isLt, Nat.add_zero]
  have e' : (n * j.val + f.val) % n = f.val := by rw [Nat.mul_add_mod, Nat.mod_eq_of_lt f.isLt]
  exact congrArg₂ (fun (a : Fin 8) (b : Fin n) => p (ix2 t (place hN j f)) * w (ix3 a d b)) (Fin.ext e) (Fin.ext e')

/-- A sum over the rows, in four blocks of 512. -/
theorem sum_tiles (F : Fin 2048 → EReal) : ∑ t, F t = ∑ i : Fin 4, ∑ a : Fin 512, F ⟨512 * i.val + a.val, by omega⟩ := by
  rw [← Fintype.sum_prod_type' (f := fun (i : Fin 4) (a : Fin 512) => F ⟨512 * i.val + a.val, by omega⟩)]
  refine (Equiv.sum_comp (finProdFinEquiv (m := 4) (n := 512)) F).symm.trans (Finset.sum_congr rfl fun p _ => ?_)
  exact congrArg F (Fin.ext (Nat.add_comm _ _))

/-- A value that starts at each eighth point with that point's part and takes one more part at the points after, is at the
    eighth of them the sum of the eight parts. -/
theorem eight_parts {N : ℕ} (c p : (n : ℕ) → n < N → EReal)
    (first : ∀ n h, n % 8 = 0 → c n h = p n h)
    (next : ∀ n h h', ¬n % 8 = 0 → ¬n % 8 = 7 → c n h = c (n - 1) h' + p n h)
    (q : ℕ) (h : 8 * q + 7 < N) :
    c (8 * q + 6) (by omega) + p (8 * q + 7) h = ∑ j : Fin 8, p (8 * q + j.val) (by omega) := by
  rw [next (8 * q + 6) (by omega) (by omega) (by omega) (by omega), next (8 * q + 6 - 1) (by omega) (by omega) (by omega) (by omega),
    next (8 * q + 6 - 1 - 1) (by omega) (by omega) (by omega) (by omega), next (8 * q + 6 - 1 - 1 - 1) (by omega) (by omega) (by omega) (by omega),
    next (8 * q + 6 - 1 - 1 - 1 - 1) (by omega) (by omega) (by omega) (by omega), next (8 * q + 6 - 1 - 1 - 1 - 1 - 1) (by omega) (by omega) (by omega) (by omega),
    first (8 * q + 6 - 1 - 1 - 1 - 1 - 1 - 1) (by omega) (by omega)]
  simp only [Fin.sum_univ_eight]
  rfl

end Cert.Back
-- ==== Proof.BackSweep.lean ====
/- A call that goes through 2048 rows in four tiles of 512, each against eight blocks of columns, carrying the product's sum from one
   block to the next, and that forms the norm's gradients at a tile's last block: what it forms, whatever the blocks' width. -/
module

public import proofs.«01_k».proof.Proof.BackMath

@[expose] public section

noncomputable section

namespace Cert.Back

open Idealize.ShloMosaic Cert.Ffn Cert.Product
open scoped BigOperators

/-- A tile's array of 512 rows by `n` columns. -/
abbrev Tile (n : ℕ) := (⟨2, ![512, n]⟩ : Shape).Idx → EReal

/-- The tiles' parts of the gradient of the gains. -/
abbrev Tiles := (⟨3, ![4, 1, 2048]⟩ : Shape).Idx → EReal

/-- The row of a tile's row, -/
def rowOf (t : Fin 32) (a : Fin 512) : Fin 2048 := ⟨512 * (t.val / 8) + a.val, by omega⟩
/-- and the block of columns that a point works on. -/
def blockOf (t : Fin 32) : Fin 8 := ⟨t.val % 8, by omega⟩

/-- The product of a tile with a block of the weights, at a row and a column. -/
def prod {n : ℕ} (x0 : Tile n) (x1 : (⟨3, ![1, 2048, n]⟩ : Shape).Idx → EReal) (a : Fin 512) (d : Fin 2048) : EReal :=
  ∑ f : Fin n, x0 (ix2 a f) * x1 (ix3 0 d f)

/-- The blocks that such a call's points read of its five arrays, and the buffer that they carry. -/
structure Sweep {n N : ℕ} (hN : 8 * n = N) (p : Flat N) (w : ColBlocks n) (x : Wide) (g : Gain) (res : Wide) where
  /-- The projection's gradient, -/
  pB : Fin 32 → Tile n
  /-- the weights, -/
  wB : Fin 32 → (⟨3, ![1, 2048, n]⟩ : Shape).Idx → EReal
  /-- the rows, -/
  xB : Fin 32 → Tile 2048
  /-- the gains, -/
  gB : Fin 32 → (⟨2, ![1, 2048]⟩ : Shape).Idx → EReal
  /-- the gradient that passes by, -/
  rB : Fin 32 → Tile 2048
  /-- and what a point leaves to the next. -/
  carry : (k : ℕ) → k < 32 → Tile 2048
  pB_at : ∀ t a f, pB t (ix2 a f) = p (ix2 (rowOf t a) (place hN (blockOf t) f))
  wB_at : ∀ t d f, wB t (ix3 0 d f) = w (ix3 (blockOf t) d f)
  xB_at : ∀ t a d, xB t (ix2 a d) = x (ix2 (rowOf t a) d)
  gB_at : ∀ t d, gB t (ix2 0 d) = g (ix1 d)
  rB_at : ∀ t a d, rB t (ix2 a d) = res (ix2 (rowOf t a) d)
  first : ∀ (t : Fin 32) a d, t.val % 8 = 0 → carry t.val t.isLt (ix2 a d) = prod (pB t) (wB t) a d
  next : ∀ (t : Fin 32) a d, ¬t.val % 8 = 0 → ¬t.val % 8 = 7 →
    carry t.val t.isLt (ix2 a d) = carry (t.val - 1) (Nat.lt_of_le_of_lt (Nat.sub_le _ _) t.isLt) (ix2 a d) + prod (pB t) (wB t) a d

/-- What the tiles' rows add to the gradient of the gains. -/
def tileGain (x : Wide) (dy : Fin 2048 → Fin 2048 → EReal) : Tiles := fun i =>
  have hi : (i 0).val < 4 := (i 0).isLt
  ∑ a : Fin 512, gainPart (fun e => x (ix2 ⟨512 * (i 0).val + a.val, by omega⟩ e)) (dy ⟨512 * (i 0).val + a.val, by omega⟩ (i 2)) (i 2)

/-- The tiles' parts together are the gradient of the gains. -/
theorem sum_tileGain (x : Wide) (dy : Fin 2048 → Fin 2048 → EReal) (d : Fin 2048) :
    ∑ i : Fin 4, tileGain x dy (ix3 i 0 d) = gainBack x dy (ix1 d) :=
  (sum_tiles fun t => gainPart (fun e => x (ix2 t e)) (dy t d) d).symm

variable {n N : ℕ} {hN : 8 * n = N} {p : Flat N} {w : ColBlocks n} {x : Wide} {g : Gain} {res : Wide} (S : Sweep hN p w x g res)

/-- The product's gradient at a tile's last block, from what the point before left. -/
def Sweep.last (t : Fin 32) (a : Fin 512) (d : Fin 2048) : EReal :=
  S.carry (t.val - 1) (Nat.lt_of_le_of_lt (Nat.sub_le _ _) t.isLt) (ix2 a d) + prod (S.pB t) (S.wB t) a d

/-- There it is the whole gradient of the normed rows. -/
theorem Sweep.last_eq (t : Fin 32) (h7 : t.val % 8 = 7) (a : Fin 512) (d : Fin 2048) : S.last t a d = dyOf hN p w (rowOf t a) d := by
  obtain ⟨q, hq⟩ : ∃ q, t.val = 8 * q + 7 := ⟨t.val / 8, by omega⟩
  obtain ⟨k, hk⟩ := t
  obtain rfl : k = 8 * q + 7 := hq
  refine (eight_parts (fun k h => S.carry k h (ix2 a d)) (fun k h => prod (S.pB ⟨k, h⟩) (S.wB ⟨k, h⟩) a d)
    (fun k h h0 => S.first ⟨k, h⟩ a d h0) (fun k h _ h0 h7 => S.next ⟨k, h⟩ a d h0 h7) q hk).trans ?_
  refine Finset.sum_congr rfl fun j _ => Finset.sum_congr rfl fun f _ => mul_of ((S.pB_at _ a f).trans ?_) ((S.wB_at _ d f).trans ?_)
  all_goals
    have ej : blockOf ⟨8 * q + j.val, by omega⟩ = j := Fin.ext (show (8 * q + j.val) % 8 = j.val by omega)
    rw [ej]
  refine congrArg (fun r => p (ix2 r (place hN j f))) (Fin.ext ?_)
  show 512 * ((8 * q + j.val) / 8) + a.val = 512 * ((8 * q + 7) / 8) + a.val
  omega

/-- The gradient of the rows that is formed there. -/
theorem Sweep.rows_at (t : Fin 32) (h7 : t.val % 8 = 7) (a : Fin 512) (d : Fin 2048) :
    backAt (fun e => S.xB t (ix2 a e)) (S.last t a) (fun e => S.gB t (ix2 0 e)) (S.rB t (ix2 a d)) d
      = rowsBack x (dyOf hN p w) g res (ix2 (rowOf t a) d) := by
  rw [funext fun e => S.xB_at t a e, funext fun e => S.last_eq t h7 a e, funext fun e => S.gB_at t e, S.rB_at t a d]
  rfl

/-- The tile's part that is formed there. -/
theorem Sweep.gain_at (t : Fin 32) (h7 : t.val % 8 = 7) (d : Fin 2048) :
    ∑ a : Fin 512, gainPart (fun e => S.xB t (ix2 a e)) (S.last t a d) d = tileGain x (dyOf hN p w) (ix3 ⟨t.val / 8, by omega⟩ 0 d) :=
  Finset.sum_congr rfl fun a _ =>
    congrArg₂ (fun u v => gainPart u v d) (funext fun e => S.xB_at t a e) (S.last_eq t h7 a d)

end Cert.Back
-- ==== Proof.BackKernel.lean ====
/- The arrays that the call for the gradient of the wide projection's input ends with, over the extended reals. -/
module

public import proofs.«01_k».proof.Proof.Gen.Kernel8Ideal.Frame
public import proofs.«01_k».proof.Proof.BackSweep
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Kernel8Ideal.Back

open Idealize.ShloMosaic Idealize.ShloMosaic.TcCoe
open Idealize.ShloMosaic.Tactic
open Cert.Kernel8Ideal Cert.Kernel8Ideal.Gen Cert.Ffn Cert.Product Cert.Back
open scoped BigOperators

variable (m : (ℓ : Loc nD τ sig) → Buf (Elt Ideal) ℓ) (c : Dev nD)

/-- The gradient of the projection, -/
abbrev dproj : Flat 6144 := m (c.tc.loc main_arg0)
/-- the weights, -/
abbrev wIn : ColBlocks 768 := m (c.tc.loc main_arg1)
/-- the rows before the norm, -/
abbrev rows : Wide := m (c.tc.loc main_arg2)
/-- the gains -/
abbrev gain : Gain := m (c.tc.loc main_arg3)
/-- and the gradient that passes by, as a device starts with them. -/
abbrev resid : Wide := m (c.tc.loc main_arg4)

/-- The rows' block at a point, -/
abbrev rowsBlock (t : Fin cfg0.N) : FVec Ideal S512x2048 .f32 := iblk m c 2 t
/-- the gains' -/
abbrev gainBlock (t : Fin cfg0.N) : FVec Ideal S1x2048 .f32 := iblk m c 3 t
/-- and the passing gradient's. -/
abbrev residBlock (t : Fin cfg0.N) : FVec Ideal S512x2048 .f32 := iblk m c 4 t

/-- The buffer that a point leaves to the next. -/
abbrev carry (n : ℕ) (h : n < cfg0.N) : FVec Ideal S512x2048 .f32 := (outsAt0 m c n h).2.2.2

/-- At the first point of a row of blocks the carried buffer holds the point's product. -/
theorem carried_first (t : Fin cfg0.N) (h0 : t.val % 8 = 0) (h1 : ¬t.val % 8 = 7) (a : Fin 512) (d : Fin 2048) :
    carry m c t.val t.isLt (ix2 a d) = prod (iblk m c 0 t) (iblk m c 1 t) a d := by
  unfold carry
  rw [outsAt0_A m c t h0 h1]
  dsimp only
  frame_out
  open_payloads
  pointwise
  rfl

/-- At a point between it holds the product and what the point before left. -/
theorem carried_next (t : Fin cfg0.N) (h0 : ¬t.val % 8 = 0) (h1 : ¬t.val % 8 = 7) (a : Fin 512) (d : Fin 2048) :
    carry m c t.val t.isLt (ix2 a d) = carry m c (t.val - 1) (Nat.lt_of_le_of_lt (Nat.sub_le _ _) t.isLt) (ix2 a d)
      + prod (iblk m c 0 t) (iblk m c 1 t) a d := by
  unfold carry
  rw [outsAt0_B m c t h0 h1]
  dsimp only
  frame_out
  open_payloads
  pointwise
  simp only [read_unread_whole]
  rfl

/-- Which block of each array a point works on. -/
theorem index0_0 : ∀ t : Fin cfg0.N, win0_0.index t = ![t.val / 8, t.val % 8] := (by decide +kernel : ∀ t : Fin grid0.N, win0_0.index t = ![t.val / 8, t.val % 8])
/-- The same for the array numbered 1. -/
theorem index0_1 : ∀ t : Fin cfg0.N, win0_1.index t = ![t.val % 8, 0, 0] := (by decide +kernel : ∀ t : Fin grid0.N, win0_1.index t = ![t.val % 8, 0, 0])
/-- The same for the array numbered 2. -/
theorem index0_2 : ∀ t : Fin cfg0.N, win0_2.index t = ![t.val / 8, 0] := (by decide +kernel : ∀ t : Fin grid0.N, win0_2.index t = ![t.val / 8, 0])
/-- The same for the array numbered 3. -/
theorem index0_3 : ∀ t : Fin cfg0.N, win0_3.index t = ![0, 0] := (by decide +kernel : ∀ t : Fin grid0.N, win0_3.index t = ![0, 0])
/-- The same for the array numbered 4. -/
theorem index0_4 : ∀ t : Fin cfg0.N, win0_4.index t = ![t.val / 8, 0] := (by decide +kernel : ∀ t : Fin grid0.N, win0_4.index t = ![t.val / 8, 0])
/-- The same for the array numbered 5. -/
theorem index0_5 : ∀ t : Fin cfg0.N, win0_5.index t = ![t.val / 8, 0] := (by decide +kernel : ∀ t : Fin grid0.N, win0_5.index t = ![t.val / 8, 0])
/-- The same for the array numbered 6. -/
theorem index0_6 : ∀ t : Fin cfg0.N, win0_6.index t = ![t.val / 8, 0] := (by decide +kernel : ∀ t : Fin grid0.N, win0_6.index t = ![t.val / 8, 0])
/-- The same for the array numbered 7. -/
theorem index0_7 : ∀ t : Fin cfg0.N, win0_7.index t = ![t.val / 8, 0, 0] := (by decide +kernel : ∀ t : Fin grid0.N, win0_7.index t = ![t.val / 8, 0, 0])

/-- A point's block of the projection's gradient. -/
theorem block_dproj (t : Fin cfg0.N) (a : Fin 512) (f : Fin 768) :
    (iblk m c 0 t : Vec Ideal S512x768 .bf16) (ix2 a f) = dproj m c (ix2 (rowOf t a) (place (n := 768) (N := 6144) rfl (blockOf t) f)) := by
  blk_simp [iblk, index0_0]
  rw [V_main_arg0]
  refine congrArg (dproj m c) ?_
  blk_ext [index0_0, place, rowOf, blockOf]

/-- A point's block of the weights. -/
theorem block_wIn (t : Fin cfg0.N) (d : Fin 2048) (f : Fin 768) :
    (iblk m c 1 t : Vec Ideal S1x2048x768 .bf16) (ix3 0 d f) = wIn m c (ix3 (blockOf t) d f) := by
  blk_simp [iblk, index0_1]
  rw [V_main_arg1]
  refine congrArg (wIn m c) ?_
  blk_ext [index0_1, blockOf]

/-- A point's block of the rows. -/
theorem block_rows (t : Fin cfg0.N) (a : Fin 512) (d : Fin 2048) :
    rowsBlock m c t (ix2 a d) = rows m c (ix2 (rowOf t a) d) := by
  unfold rowsBlock
  blk_simp [iblk, index0_2]
  rw [V_main_arg2]
  refine congrArg (rows m c) ?_
  blk_ext [index0_2, rowOf]

/-- The gains as one row. -/
theorem gain_row (d : Fin 2048) : (V m c main_v0 : FVec Ideal S1x2048 .f32) (ix2 0 d) = gain m c (ix1 d) := by
  unfold V
  after_reads_at

/-- A point's block of the gains. -/
theorem block_gain (t : Fin cfg0.N) (d : Fin 2048) : gainBlock m c t (ix2 0 d) = gain m c (ix1 d) := by
  unfold gainBlock
  blk_simp [iblk, index0_3]
  have e : (win0_3.blk t).view.emb (ix2 0 d) = ix2 0 d := by
    blk_ext [index0_3]
  exact (congrArg (V m c main_v0) e).trans (gain_row m c d)

/-- A point's block of the passing gradient. -/
theorem block_resid (t : Fin cfg0.N) (a : Fin 512) (d : Fin 2048) :
    residBlock m c t (ix2 a d) = resid m c (ix2 (rowOf t a) d) := by
  unfold residBlock
  blk_simp [iblk, index0_4]
  rw [V_main_arg4]
  refine congrArg (resid m c) ?_
  blk_ext [index0_4, rowOf]

/-- The gradient of the normed rows. -/
abbrev dy : Fin 2048 → Fin 2048 → EReal := dyOf (n := 768) (N := 6144) rfl (dproj m c) (wIn m c)

/-- The call is such a sweep. -/
def sweep : Sweep (n := 768) (N := 6144) rfl (dproj m c) (wIn m c) (rows m c) (gain m c) (resid m c) where
  pB := fun t => iblk m c 0 t
  wB := fun t => iblk m c 1 t
  xB := rowsBlock m c
  gB := gainBlock m c
  rB := residBlock m c
  carry := carry m c
  pB_at := block_dproj m c
  wB_at := block_wIn m c
  xB_at := block_rows m c
  gB_at := block_gain m c
  rB_at := block_resid m c
  first := fun t a d h0 => carried_first m c t h0 (by omega) a d
  next := fun t a d h0 h7 => carried_next m c t h0 h7 a d

/-- At the last point the block that is written out holds the gradient of the rows, -/
theorem written_rows (t : Fin cfg0.N) (h0 : ¬t.val % 8 = 0) (h1 : t.val % 8 = 7) (a : Fin 512) (d : Fin 2048) :
    (outsAt0 m c t.val t.isLt).1 (ix2 a d) = backAt (fun e => rowsBlock m c t (ix2 a e)) ((sweep m c).last t a)
      (fun e => gainBlock m c t (ix2 0 e)) (residBlock m c t (ix2 a d)) d := by
  rw [outsAt0_C m c t h0 h1]
  dsimp only
  frame_out
  open_payloads
  pointwise
  simp only [read_unread_whole]
  rfl

/-- so does the narrower one, -/
theorem written_narrow (t : Fin cfg0.N) (h0 : ¬t.val % 8 = 0) (h1 : t.val % 8 = 7) (a : Fin 512) (d : Fin 2048) :
    (outsAt0 m c t.val t.isLt).2.1 (ix2 a d) = backAt (fun e => rowsBlock m c t (ix2 a e)) ((sweep m c).last t a)
      (fun e => gainBlock m c t (ix2 0 e)) (residBlock m c t (ix2 a d)) d := by
  rw [outsAt0_C m c t h0 h1]
  dsimp only
  frame_out
  open_payloads
  pointwise
  simp only [read_unread_whole]
  rfl

/-- and the third holds the sum over its rows of what they add to the gradient of the gains. -/
theorem written_gain (t : Fin cfg0.N) (h0 : ¬t.val % 8 = 0) (h1 : t.val % 8 = 7) (d : Fin 2048) :
    (outsAt0 m c t.val t.isLt).2.2.1 (ix3 0 0 d)
      = ∑ a : Fin 512, gainPart (fun e => rowsBlock m c t (ix2 a e)) ((sweep m c).last t a d) d := by
  rw [outsAt0_C m c t h0 h1]
  dsimp only
  frame_out
  open_payloads
  pointwise
  simp only [read_unread_whole]
  rfl

/-- The arrays that the call ends with: the gradient of the rows, -/
theorem final5 : (dats m 0 c).arrAt 5 cfg0.N = rowsBack (rows m c) (dy m c) (gain m c) (resid m c) := by
  refine (dats m 0 c).arrAt_eq_of_covers 5 _ (by decide +kernel) fun t hf y => ?_
  have ht : t.val < 32 := t.isLt
  have h7 : t.val % 8 = 7 := (flush0_5 t).mp hf
  blk_simp
  rw [after0_5]
  obtain ⟨a, d, rfl⟩ : ∃ (a : Fin 512) (d : Fin 2048), y = ix2 a d := ⟨y 0, y 1, by idx_vars y⟩
  refine ((written_rows m c t (by omega) h7 a d).trans ((sweep m c).rows_at t h7 a d)).trans ?_
  have e : (win0_5.blk t).view.emb (ix2 a d) = ix2 (rowOf t a) d := by
    blk_ext [index0_5, rowOf]
  rw [e]

/-- the same again, -/
theorem final6 : (dats m 0 c).arrAt 6 cfg0.N = rowsBack (rows m c) (dy m c) (gain m c) (resid m c) := by
  refine (dats m 0 c).arrAt_eq_of_covers 6 _ (by decide +kernel) fun t hf y => ?_
  have ht : t.val < 32 := t.isLt
  have h7 : t.val % 8 = 7 := (flush0_6 t).mp hf
  blk_simp
  rw [after0_6]
  obtain ⟨a, d, rfl⟩ : ∃ (a : Fin 512) (d : Fin 2048), y = ix2 a d := ⟨y 0, y 1, by idx_vars y⟩
  refine ((written_narrow m c t (by omega) h7 a d).trans ((sweep m c).rows_at t h7 a d)).trans ?_
  have e : (win0_6.blk t).view.emb (ix2 a d) = ix2 (rowOf t a) d := by
    blk_ext [index0_6, rowOf]
  rw [e]

/-- and each tile's part of the gradient of the gains. -/
theorem final7 : (dats m 0 c).arrAt 7 cfg0.N = tileGain (rows m c) (dy m c) := by
  refine (dats m 0 c).arrAt_eq_of_covers 7 _ (by decide +kernel) fun t hf y => ?_
  have ht : t.val < 32 := t.isLt
  have h7 : t.val % 8 = 7 := (flush0_7 t).mp hf
  blk_simp
  rw [after0_7]
  obtain ⟨d, rfl⟩ : ∃ d : Fin 2048, y = ix3 0 0 d := by
    refine ⟨y 2, ?_⟩
    idx_vars y
    rw [Subsingleton.elim y0 0, Subsingleton.elim y1 0]
  refine ((written_gain m c t (by omega) h7 d).trans ((sweep m c).gain_at t h7 d)).trans ?_
  have e : (win0_7.blk t).view.emb (ix3 0 0 d) = ix3 ⟨t.val / 8, by omega⟩ 0 d := by
    blk_ext [index0_7]
  rw [e]

/-- The three results at the end of a run. -/
theorem run_results (ρ : Dev nD → PrngReg) : θ_run defs (onTc (τ := τ) (main (F := Ideal))) ⟨m, fun _ => 0, ρ⟩ (fun r => ∀ c : Dev nD,
      r.2.mem ((c.tc : Thread nD τ).loc main_v1_0) = rowsBack (rows m c) (dy m c) (gain m c) (resid m c)
      ∧ r.2.mem ((c.tc : Thread nD τ).loc main_v1_1) = rowsBack (rows m c) (dy m c) (gain m c) (resid m c)
      ∧ r.2.mem ((c.tc : Thread nD τ).loc main_v3) = gainBack (rows m c) (dy m c)) := by
  refine (θ_run defs _ _).mono (fun r h c => ⟨((h c).1 5).trans (final5 m c), ((h c).1 6).trans (final6 m c), ?_⟩) (run_main m ρ)
  refine ((h c).2 main_v3 (by decide)).trans ?_
  unfold Pipeline.afterTail₀
  funext i
  idx_vars i
  after_reads_at
  refine Eq.trans (Finset.sum_congr rfl fun x _ => ?_) (sum_tileGain (rows m c) (dy m c) i0)
  exact (congrFun (Pipeline.withArrays_arr spec0 launch0.win.arr_inj c (V0 m c) (fun w => (dats m 0 c).arrAt w cfg0.N) 7) (ix3 x 0 i0)).trans
    (congrFun (final7 m c) (ix3 x 0 i0))

end Cert.Kernel8Ideal.Back
-- ==== Proof.BackRef.lean ====
/- The reference for the gradient of the wide projection's input ends with, over the extended reals, the gradients of the norm. -/
module

public import proofs.«01_k».proof.Proof.Gen.Reference8Ideal.Run
public import proofs.«01_k».proof.Proof.BackMath

@[expose] public section

set_option maxRecDepth 16384

noncomputable section

namespace Cert.Reference8Ideal.Back

open Idealize.ShloMosaic Idealize.ShloMosaic.TcCoe
open Idealize.ShloMosaic.Tactic
open Cert.Reference8Ideal Cert.Reference8Ideal.Gen Cert.Ffn Cert.Product Cert.Back
open scoped BigOperators

/-- The product of the projection's gradient with the weights, the blocks' columns side by side. -/
def product (p : FVec Ideal S2048x6144 .bf16) (w : FVec Ideal S8x2048x768 .bf16) : FVec Ideal S2048x2048 .f32 :=
  Host.dotGeneral dot_S2048x6144_S2048x6144_S2048x2048_1_1_0_0_n_n none (extf .f32 p bitsLt_bf16_f32) (shapeCast _ (transpose S2048x8x768 [1, 0, 2] (extf .f32 w bitsLt_bf16_f32) transposes_S8x2048x768_S2048x8x768_1_0_2) shapeCasts_S2048x8x768_S2048x6144)

/-- The product is a sum over the blocks and their columns. -/
theorem product_apply (p : FVec Ideal S2048x6144 .bf16) (w : FVec Ideal S8x2048x768 .bf16) (t d : Fin 2048) :
    product p w (ix2 t d) = dyOf (n := 768) (N := 6144) rfl p w t d := by
  unfold product
  pointwise
  exact dyOf_flat (n := 768) (N := 6144) rfl (by decide) p w t d

/-- Each row's mean square with the small constant, -/
def means (x : FVec Ideal S2048x2048 .f32) : FVec Ideal S2048x1 .f32 :=
  addf (Host.divf (broadcastInDim S2048x1 ![0] bcast_S2048_S2048x1_0 (Host.reduceAdd (mulf x x) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32))

/-- and one over its root. -/
def roots (x : FVec Ideal S2048x2048 .f32) : FVec Ideal S2048x1 .f32 := Host.rsqrt (means x)

/-- The gradient times the gains. -/
def scaled (y : FVec Ideal S2048x2048 .f32) (g : FVec Ideal S2048 .f32) : FVec Ideal S2048x2048 .f32 :=
  mulf y (broadcastInDim S2048x2048 ![0, 1] bcast_S1x2048_S2048x2048_0_1 (broadcastInDim S1x2048 ![1] bcast_S2048_S1x2048_1 g))

/-- What the mean square passes on to each square, of every row. -/
def passed (x y : FVec Ideal S2048x2048 .f32) (g : FVec Ideal S2048 .f32) : FVec Ideal S2048 .f32 :=
  Host.reduceAdd (Host.divf (mulf (shapeCast _ (Host.reduceAdd (mulf x (scaled y g)) (constant S_ .f32 0x00000000#32) reducesTo_S2048x2048_S2048_d1 h_S_) shapeCasts_S2048_S2048x1) (mulf (broadcastInDim S2048x1 ![] bcast_S_S2048x1 (constant S_ .f32 0xBF000000#32)) (Host.divf (roots x) (means x)))) (broadcastInDim S2048x1 ![] bcast_S_S2048x1 (constant S_ .f32 0x45000000#32))) (constant S_ .f32 0x00000000#32) reducesTo_S2048x1_S2048_d1 h_S_

/-- The gradient of the rows with what they pass on besides, -/
def back (x y : FVec Ideal S2048x2048 .f32) (g : FVec Ideal S2048 .f32) (res : FVec Ideal S2048x2048 .f32) : FVec Ideal S2048x2048 .f32 :=
  addf res (addf (addf (mulf (scaled y g) (broadcastInDim S2048x2048 ![0, 1] bcast_S2048x1_S2048x2048_0_1 (roots x)))
    (mulf x (broadcastInDim S2048x2048 ![0] bcast_S2048_S2048x2048_0 (passed x y g))))
    (mulf (broadcastInDim S2048x2048 ![0] bcast_S2048_S2048x2048_0 (passed x y g)) x))

/-- and the gradient of the gains. -/
def gains (x y : FVec Ideal S2048x2048 .f32) : FVec Ideal S2048 .f32 :=
  Host.reduceAdd (shapeCast _ (Host.reduceAdd (mulf (mulf x (broadcastInDim S2048x2048 ![0, 1] bcast_S2048x1_S2048x2048_0_1 (roots x))) y) (constant S_ .f32 0x00000000#32) reducesTo_S2048x2048_S2048_d0 h_S_) shapeCasts_S2048_S1x2048) (constant S_ .f32 0x00000000#32) reducesTo_S1x2048_S2048_d0 h_S_

/-- What a row's mean square passes on. -/
theorem passed_apply (x y : FVec Ideal S2048x2048 .f32) (g : FVec Ideal S2048 .f32) (t : Fin 2048) :
    passed x y g (ix1 t) = Ideal.div ((∑ e, x (ix2 t e) * (y (ix2 t e) * g (ix1 e))) * (minusHalf * Ideal.div (root fun e => x (ix2 t e)) (meanSq fun e => x (ix2 t e)))) width := by
  unfold passed roots means scaled
  pointwise
  rw [Fin.sum_univ_one]
  rfl

/-- The gradient of the rows is the rule's, so it is the other form too. -/
theorem back_eq (x y : FVec Ideal S2048x2048 .f32) (g : FVec Ideal S2048 .f32) (res : FVec Ideal S2048x2048 .f32) :
    back x y g res = rowsBack x (fun t d => y (ix2 t d)) g res := by
  funext i
  idx_vars i
  refine Eq.trans ?_ (backAt_eq (fun e => x (ix2 i0 e)) (fun e => y (ix2 i0 e)) (fun e => g (ix1 e)) (res (ix2 i0 i1)) i1).symm
  unfold back roots means scaled
  pointwise
  rw [passed_apply]
  rfl

/-- The gradient of the gains is the sum over the rows. -/
theorem gains_eq (x y : FVec Ideal S2048x2048 .f32) : gains x y = gainBack x fun t d => y (ix2 t d) := by
  funext i
  idx_vars i
  unfold gains roots means
  pointwise
  rw [Fin.sum_univ_one]
  refine Finset.sum_congr rfl fun t _ => ?_
  exact (mul_comm _ _).trans (mul_assoc _ _ _).symm

/-- The product, as the array that the gradients are taken from. -/
theorem product_eq (p : FVec Ideal S2048x6144 .bf16) (w : FVec Ideal S8x2048x768 .bf16) :
    (fun t d => product p w (ix2 t d)) = dyOf (n := 768) (N := 6144) rfl p w :=
  funext fun t => funext fun d => product_apply p w t d

end Cert.Reference8Ideal.Back
-- ==== Proof.BackClaim.lean ====
/- The kernel call and its reference end with the same arrays: the gradient of the wide projection's input, through the norm. -/
module

public import proofs.«01_k».proof.Defs
public import proofs.«01_k».proof.Proof.BackKernel
public import proofs.«01_k».proof.Proof.BackRef

@[expose] public section

set_option maxRecDepth 16384

noncomputable section

namespace Cert.Proof

open Idealize.ShloMosaic Idealize.SL.Sem Cert.Ffn Cert.Product Cert.Back

/-- The two programs end with equal results on every device, whatever the arguments. -/
theorem algebraic_back : Cert.algebraic_Kernel8Ideal_Reference8Ideal := by
  intro m g m' g' hpre hag
  refine ⟨fun c => rowsBack (m (c.tc.loc Cert.Kernel8Ideal.main_arg2)) (Cert.Kernel8Ideal.Back.dy m c) (m (c.tc.loc Cert.Kernel8Ideal.main_arg3)) (m (c.tc.loc Cert.Kernel8Ideal.main_arg4)),
    fun c => rowsBack (m (c.tc.loc Cert.Kernel8Ideal.main_arg2)) (Cert.Kernel8Ideal.Back.dy m c) (m (c.tc.loc Cert.Kernel8Ideal.main_arg3)) (m (c.tc.loc Cert.Kernel8Ideal.main_arg4)),
    fun c => gainBack (m (c.tc.loc Cert.Kernel8Ideal.main_arg2)) (Cert.Kernel8Ideal.Back.dy m c), ?_, ?_⟩
  · refine (θ_run _ _ _).mono (fun r h c => ?_) (θ_run_and (Cert.Kernel8Ideal.Back.run_results m g) (Cert.Kernel8Ideal.Gen.unchanged m g))
    obtain ⟨e0, e1, e2⟩ := h.1 c
    exact ⟨e0, e1, e2, h.2 c⟩
  · refine (θ_run _ _ _).mono (fun r h c => ?_) (Cert.Reference8Ideal.Value.run m' g')
    obtain ⟨h0, h1, h2, h3, h4⟩ := hag c
    obtain ⟨e0, e1, e2, rest⟩ := h c
    have p := Cert.Reference8Ideal.Back.product_eq (m' (c.tc.loc Cert.Reference8Ideal.main_arg0)) (m' (c.tc.loc Cert.Reference8Ideal.main_arg1))
    refine ⟨(e0.trans (Cert.Reference8Ideal.Back.back_eq _ (Cert.Reference8Ideal.Back.product _ _) _ _)).trans ?_,
      (e1.trans (Cert.Reference8Ideal.Back.back_eq _ (Cert.Reference8Ideal.Back.product _ _) _ _)).trans ?_,
      (e2.trans (Cert.Reference8Ideal.Back.gains_eq _ (Cert.Reference8Ideal.Back.product _ _))).trans ?_, rest⟩
    · rw [p, h0, h1, h2, h3, h4]
    · rw [p, h0, h1, h2, h3, h4]
    · rw [p, h0, h1, h2]

end Cert.Proof
-- ==== Proof.NarrowKernel.lean ====
/- The call for the gradient of the narrower projection's input is a sweep as the wide one's is: the facts that are its own. What
   follows from them is `BackSweep`'s. -/
module

public import proofs.«01_k».proof.Proof.Gen.Kernel9Ideal.Frame
public import proofs.«01_k».proof.Proof.BackSweep
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Kernel9Ideal.Narrow

open Idealize.ShloMosaic Idealize.ShloMosaic.TcCoe
open Idealize.ShloMosaic.Tactic
open Cert.Kernel9Ideal Cert.Kernel9Ideal.Gen Cert.Ffn Cert.Product Cert.Back
open scoped BigOperators

variable (m : (ℓ : Loc nD τ sig) → Buf (Elt Ideal) ℓ) (c : Dev nD)

/-- The five arguments, as a device starts with them: the gradient of the projection, -/
abbrev dproj : Flat 4096 := m (c.tc.loc main_arg0)
/-- the weights, -/
abbrev wIn : ColBlocks 512 := m (c.tc.loc main_arg1)
/-- the rows before the norm, -/
abbrev rows : Wide := m (c.tc.loc main_arg2)
/-- the gains, -/
abbrev gain : Gain := m (c.tc.loc main_arg3)
/-- and the gradient that passes by. -/
abbrev resid : Wide := m (c.tc.loc main_arg4)

/-- The gradient of the normed rows. -/
abbrev dy : Fin 2048 → Fin 2048 → EReal := dyOf (n := 512) (N := 4096) rfl (dproj m c) (wIn m c)

/-- The places of a point's blocks in the arrays: the projection's gradient's, -/
theorem at_dproj : ∀ t : Fin cfg0.N, win0_0.index t = ![t.val / 8, t.val % 8] := (by decide +kernel : ∀ t : Fin grid0.N, win0_0.index t = ![t.val / 8, t.val % 8])
/-- the weights', -/
theorem at_wIn : ∀ t : Fin cfg0.N, win0_1.index t = ![t.val % 8, 0, 0] := (by decide +kernel : ∀ t : Fin grid0.N, win0_1.index t = ![t.val % 8, 0, 0])
/-- the gains', -/
theorem at_gain : ∀ t : Fin cfg0.N, win0_3.index t = ![0, 0] := (by decide +kernel : ∀ t : Fin grid0.N, win0_3.index t = ![0, 0])
/-- the rows' and the passing gradient's, and those of the first two arrays that are written, -/
theorem at_tile : ∀ t : Fin cfg0.N, win0_2.index t = ![t.val / 8, 0] ∧ win0_4.index t = ![t.val / 8, 0] ∧ win0_5.index t = ![t.val / 8, 0] ∧ win0_6.index t = ![t.val / 8, 0] :=
  (by decide +kernel : ∀ t : Fin grid0.N, win0_2.index t = ![t.val / 8, 0] ∧ win0_4.index t = ![t.val / 8, 0] ∧ win0_5.index t = ![t.val / 8, 0] ∧ win0_6.index t = ![t.val / 8, 0])
/-- and the third's. -/
theorem at_part : ∀ t : Fin cfg0.N, win0_7.index t = ![t.val / 8, 0, 0] := (by decide +kernel : ∀ t : Fin grid0.N, win0_7.index t = ![t.val / 8, 0, 0])

/-- The call is a sweep over blocks of 512 columns. -/
def sweep : Sweep (n := 512) (N := 4096) rfl (dproj m c) (wIn m c) (rows m c) (gain m c) (resid m c) where
  pB := fun t => iblk m c 0 t
  wB := fun t => iblk m c 1 t
  xB := fun t => iblk m c 2 t
  gB := fun t => iblk m c 3 t
  rB := fun t => iblk m c 4 t
  carry := fun k h => (outsAt0 m c k h).2.2.2
  pB_at := fun (t : Fin cfg0.N) a f => by
    blk_simp [iblk, at_dproj]
    rw [V_main_arg0]
    refine congrArg (dproj m c) ?_
    blk_ext [at_dproj, place, rowOf, blockOf]
  wB_at := fun (t : Fin cfg0.N) d f => by
    blk_simp [iblk, at_wIn]
    rw [V_main_arg1]
    refine congrArg (wIn m c) ?_
    blk_ext [at_wIn, blockOf]
  xB_at := fun (t : Fin cfg0.N) a d => by
    blk_simp [iblk, (at_tile t).1]
    rw [V_main_arg2]
    refine congrArg (rows m c) ?_
    blk_ext [(at_tile t).1, rowOf]
  gB_at := fun (t : Fin cfg0.N) d => by
    blk_simp [iblk, at_gain]
    have e : (win0_3.blk t).view.emb (ix2 0 d) = ix2 0 d := by
      blk_ext [at_gain]
    refine (congrArg (V m c main_v0) e).trans ?_
    unfold V
    after_reads_at
  rB_at := fun (t : Fin cfg0.N) a d => by
    blk_simp [iblk, (at_tile t).2.1]
    rw [V_main_arg4]
    refine congrArg (resid m c) ?_
    blk_ext [(at_tile t).2.1, rowOf]
  first := fun (t : Fin cfg0.N) a d h0 => by
    rw [outsAt0_A m c t h0 (by omega)]
    dsimp only
    frame_out
    open_payloads
    pointwise
    rfl
  next := fun (t : Fin cfg0.N) a d h0 h7 => by
    rw [outsAt0_B m c t h0 h7]
    dsimp only
    frame_out
    open_payloads
    pointwise
    simp only [read_unread_whole]
    rfl

/-- At a tile's last point the first two blocks hold the gradient of the rows, and the third the tile's part of the gains'. -/
theorem written (t : Fin cfg0.N) (h7 : t.val % 8 = 7) (d : Fin 2048) :
    (∀ a : Fin 512, (outsAt0 m c t.val t.isLt).1 (ix2 a d) = rowsBack (rows m c) (dy m c) (gain m c) (resid m c) (ix2 (rowOf t a) d)
        ∧ (outsAt0 m c t.val t.isLt).2.1 (ix2 a d) = rowsBack (rows m c) (dy m c) (gain m c) (resid m c) (ix2 (rowOf t a) d))
      ∧ (outsAt0 m c t.val t.isLt).2.2.1 (ix3 0 0 d) = tileGain (rows m c) (dy m c) (ix3 ⟨t.val / 8, by have : t.val < 32 := t.isLt; omega⟩ 0 d) := by
  refine ⟨fun a => ⟨Eq.trans ?_ ((sweep m c).rows_at t h7 a d), Eq.trans ?_ ((sweep m c).rows_at t h7 a d)⟩, Eq.trans ?_ ((sweep m c).gain_at t h7 d)⟩
  all_goals
    rw [outsAt0_C m c t (by omega) h7]
    dsimp only
    frame_out
    open_payloads
    pointwise
    simp only [read_unread_whole]
    rfl

/-- So the arrays end as the gradient of the rows, -/
theorem ends_rows : (dats m 0 c).arrAt 5 cfg0.N = rowsBack (rows m c) (dy m c) (gain m c) (resid m c)
    ∧ (dats m 0 c).arrAt 6 cfg0.N = rowsBack (rows m c) (dy m c) (gain m c) (resid m c) := by
  constructor
  · refine (dats m 0 c).arrAt_eq_of_covers 5 _ (by decide +kernel) fun t hf y => ?_
    blk_simp
    rw [after0_5]
    obtain ⟨a, d, rfl⟩ : ∃ (a : Fin 512) (d : Fin 2048), y = ix2 a d := ⟨y 0, y 1, by idx_vars y⟩
    have e : (win0_5.blk t).view.emb (ix2 a d) = ix2 (rowOf t a) d := by
      blk_ext [(at_tile t).2.2.1, rowOf]
    rw [e]
    exact ((written m c t ((flush0_5 t).mp hf) d).1 a).1
  · refine (dats m 0 c).arrAt_eq_of_covers 6 _ (by decide +kernel) fun t hf y => ?_
    blk_simp
    rw [after0_6]
    obtain ⟨a, d, rfl⟩ : ∃ (a : Fin 512) (d : Fin 2048), y = ix2 a d := ⟨y 0, y 1, by idx_vars y⟩
    have e : (win0_6.blk t).view.emb (ix2 a d) = ix2 (rowOf t a) d := by
      blk_ext [(at_tile t).2.2.2, rowOf]
    rw [e]
    exact ((written m c t ((flush0_6 t).mp hf) d).1 a).2

/-- and as the tiles' parts of the gains'. -/
theorem ends_parts : (dats m 0 c).arrAt 7 cfg0.N = tileGain (rows m c) (dy m c) := by
  refine (dats m 0 c).arrAt_eq_of_covers 7 _ (by decide +kernel) fun t hf y => ?_
  have ht : t.val < 32 := t.isLt
  blk_simp
  rw [after0_7]
  obtain ⟨d, rfl⟩ : ∃ d : Fin 2048, y = ix3 0 0 d := by
    refine ⟨y 2, ?_⟩
    idx_vars y
    rw [Subsingleton.elim y0 0, Subsingleton.elim y1 0]
  have e : (win0_7.blk t).view.emb (ix3 0 0 d) = ix3 ⟨t.val / 8, by omega⟩ 0 d := by
    blk_ext [at_part]
  rw [e]
  exact (written m c t ((flush0_7 t).mp hf) d).2

/-- The three results at the end of a run: the host adds up the tiles' parts. -/
theorem run_results (ρ : Dev nD → PrngReg) : θ_run defs (onTc (τ := τ) (main (F := Ideal))) ⟨m, fun _ => 0, ρ⟩ (fun r => ∀ c : Dev nD,
      r.2.mem ((c.tc : Thread nD τ).loc main_v1_0) = rowsBack (rows m c) (dy m c) (gain m c) (resid m c)
      ∧ r.2.mem ((c.tc : Thread nD τ).loc main_v1_1) = rowsBack (rows m c) (dy m c) (gain m c) (resid m c)
      ∧ r.2.mem ((c.tc : Thread nD τ).loc main_v3) = gainBack (rows m c) (dy m c)) := by
  refine (θ_run defs _ _).mono (fun r h c => ⟨((h c).1 5).trans (ends_rows m c).1, ((h c).1 6).trans (ends_rows m c).2,
    ((h c).2 main_v3 (by decide)).trans ?_⟩) (run_main m ρ)
  unfold Pipeline.afterTail₀
  funext i
  idx_vars i
  after_reads_at
  refine Eq.trans (Finset.sum_congr rfl fun x _ => ?_) (sum_tileGain (rows m c) (dy m c) i0)
  exact congrFun ((Pipeline.withArrays_arr spec0 launch0.win.arr_inj c (V0 m c) (fun w => (dats m 0 c).arrAt w cfg0.N) 7).trans (ends_parts m c)) (ix3 x 0 i0)

end Cert.Kernel9Ideal.Narrow
-- ==== Proof.NarrowClaim.lean ====
/- The kernel call and its reference end with the same arrays: the gradient of the narrower projection's input, through the norm. -/
module

public import proofs.«01_k».proof.Defs
public import proofs.«01_k».proof.Proof.Gen.Reference9Ideal.Run
public import proofs.«01_k».proof.Proof.NarrowKernel
public import proofs.«01_k».proof.Proof.BackRef

@[expose] public section

set_option maxRecDepth 16384

noncomputable section

namespace Cert.Reference9Ideal.Narrow

open Idealize.ShloMosaic Idealize.ShloMosaic.TcCoe
open Idealize.ShloMosaic.Tactic
open Cert.Reference9Ideal Cert.Reference9Ideal.Gen Cert.Ffn Cert.Product Cert.Back

/-- The reference's product of the projection's gradient with the weights, the blocks' columns side by side. -/
def product (p : FVec Ideal S2048x4096 .bf16) (w : FVec Ideal S8x2048x512 .bf16) : FVec Ideal S2048x2048 .f32 :=
  Host.dotGeneral dot_S2048x4096_S2048x4096_S2048x2048_1_1_0_0_n_n none (extf .f32 p bitsLt_bf16_f32) (shapeCast _ (transpose S2048x8x512 [1, 0, 2] (extf .f32 w bitsLt_bf16_f32) transposes_S8x2048x512_S2048x8x512_1_0_2) shapeCasts_S2048x8x512_S2048x4096)

/-- It is a sum over the blocks and their columns. -/
theorem product_eq (p : FVec Ideal S2048x4096 .bf16) (w : FVec Ideal S8x2048x512 .bf16) :
    (fun t d => product p w (ix2 t d)) = dyOf (n := 512) (N := 4096) rfl p w := by
  funext t d
  unfold product
  pointwise
  exact dyOf_flat (n := 512) (N := 4096) rfl (by decide) p w t d

end Cert.Reference9Ideal.Narrow

namespace Cert.Proof

open Idealize.ShloMosaic Idealize.SL.Sem Cert.Ffn Cert.Product Cert.Back

/-- The two programs end with equal results on every device, whatever the arguments: from the product on, the reference's arrays are
    those of the wide projection's reference. -/
theorem algebraic_narrow : Cert.algebraic_Kernel9Ideal_Reference9Ideal := by
  intro m g m' g' hpre hag
  refine ⟨fun c => rowsBack (Cert.Kernel9Ideal.Narrow.rows m c) (Cert.Kernel9Ideal.Narrow.dy m c) (Cert.Kernel9Ideal.Narrow.gain m c) (Cert.Kernel9Ideal.Narrow.resid m c),
    fun c => rowsBack (Cert.Kernel9Ideal.Narrow.rows m c) (Cert.Kernel9Ideal.Narrow.dy m c) (Cert.Kernel9Ideal.Narrow.gain m c) (Cert.Kernel9Ideal.Narrow.resid m c),
    fun c => gainBack (Cert.Kernel9Ideal.Narrow.rows m c) (Cert.Kernel9Ideal.Narrow.dy m c), (θ_run _ _ _).mono (fun r h c => ?_)
    (θ_run_and (Cert.Kernel9Ideal.Narrow.run_results m g) (Cert.Kernel9Ideal.Gen.unchanged m g)), ?_⟩
  · exact ⟨(h.1 c).1, (h.1 c).2.1, (h.1 c).2.2, h.2 c⟩
  · refine (θ_run _ _ _).mono (fun r h c => ?_) (Cert.Reference9Ideal.Value.run m' g')
    obtain ⟨h0, h1, h2, h3, h4⟩ := hag c
    obtain ⟨e0, e1, e2, rest⟩ := h c
    have p := Cert.Reference9Ideal.Narrow.product_eq (m' (c.tc.loc Cert.Reference9Ideal.main_arg0)) (m' (c.tc.loc Cert.Reference9Ideal.main_arg1))
    have rowsEq := Cert.Reference8Ideal.Back.back_eq (m' (c.tc.loc Cert.Reference9Ideal.main_arg2)) (Cert.Reference9Ideal.Narrow.product (m' (c.tc.loc Cert.Reference9Ideal.main_arg0)) (m' (c.tc.loc Cert.Reference9Ideal.main_arg1)))
      (m' (c.tc.loc Cert.Reference9Ideal.main_arg3)) (m' (c.tc.loc Cert.Reference9Ideal.main_arg4))
    have gainEq := Cert.Reference8Ideal.Back.gains_eq (m' (c.tc.loc Cert.Reference9Ideal.main_arg2)) (Cert.Reference9Ideal.Narrow.product (m' (c.tc.loc Cert.Reference9Ideal.main_arg0)) (m' (c.tc.loc Cert.Reference9Ideal.main_arg1)))
    refine ⟨(e0.trans rowsEq).trans ?_, (e1.trans rowsEq).trans ?_, (e2.trans gainEq).trans ?_, rest⟩
    · rw [p, h0, h1, h2, h3, h4]
    · rw [p, h0, h1, h2, h3, h4]
    · rw [p, h0, h1, h2]

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Kernel2Ideal
public import proofs.«01_k».proof.Proof.Gen.Kernel2Ideal.Frame
public import proofs.«01_k».proof.Proof.Gen.Kernel2
public import proofs.«01_k».proof.Proof.Gen.Kernel2.Frame
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal.Run
public import proofs.«01_k».proof.Proof.AttnFrame
public import proofs.«01_k».proof.Proof.RoundedFrame
public import proofs.«01_k».proof.Proof.AttnClaim
public import proofs.«01_k».proof.Proof.FfnClaim
public import proofs.«01_k».proof.Proof.InputClaim
public import proofs.«01_k».proof.Proof.ConvClaim
public import proofs.«01_k».proof.Proof.MixClaim
public import proofs.«01_k».proof.Proof.ProjClaim
public import proofs.«01_k».proof.Proof.DownClaim
public import proofs.«01_k».proof.Proof.BackClaim
public import proofs.«01_k».proof.Proof.NarrowClaim
public import Idealize.ShloMosaic.Adequacy
public import Idealize.ShloMosaic.Init

@[expose] public section

noncomputable section

namespace Cert.Proof

open Idealize.ShloMosaic Idealize.SL.Sem

/-- The reference runs, keeps its arguments and ends with every semaphore at zero. -/
theorem frame_reference : Cert.quiescent_ReferenceIdeal := fun m g _ =>
  (θ_run Cert.ReferenceIdeal.defs _ _).mono
    (fun r h => ⟨fun c => ⟨(h c).2.2.2.1, (h c).2.2.2.2.1, (h c).2.2.2.2.2⟩,
      Idealize.ShloMosaic.sem_eq_zero_of_no_sems (by decide) r.2⟩)
    (Cert.ReferenceIdeal.Value.run m g)

/-- The layer's reference runs, keeps its arguments and ends with every semaphore at zero. -/
theorem frame_layer_reference : Cert.quiescent_Reference2Ideal := fun m g _ =>
  (θ_run Cert.Reference2Ideal.defs _ _).mono
    (fun r h => ⟨fun c => (h c).2.2.2, Idealize.ShloMosaic.sem_eq_zero_of_no_sems (by decide) r.2⟩)
    (Cert.Reference2Ideal.Value.run m g)

/-- The reference for the input's gradient runs, keeps its arguments and ends with every semaphore at zero. -/
theorem frame_input_reference : Cert.quiescent_Reference3Ideal := fun m g _ =>
  (θ_run Cert.Reference3Ideal.defs _ _).mono
    (fun r h => ⟨fun c => (h c).2, Idealize.ShloMosaic.sem_eq_zero_of_no_sems (by decide) r.2⟩)
    (Cert.Reference3Ideal.Value.run m g)

/-- The reference for the short convolution runs, keeps its arguments and ends with every semaphore at zero. -/
theorem frame_conv_reference : Cert.quiescent_Reference4Ideal := fun m g _ =>
  (θ_run Cert.Reference4Ideal.defs _ _).mono
    (fun r h => ⟨fun c => (h c).2.2.2.2, Idealize.ShloMosaic.sem_eq_zero_of_no_sems (by decide) r.2⟩)
    (Cert.Reference4Ideal.Value.run m g)

/-- The reference for the products around the mixers, backward, runs, keeps its arguments and ends with every semaphore at zero. -/
theorem frame_mix_reference : Cert.quiescent_Reference5Ideal := fun m g _ =>
  (θ_run Cert.Reference5Ideal.defs _ _).mono
    (fun r h => ⟨fun c => (h c).2.2.2.2, Idealize.ShloMosaic.sem_eq_zero_of_no_sems (by decide) r.2⟩)
    (Cert.Reference5Ideal.Value.run m g)

/-- The reference for the products around the mixers, forward, runs, keeps its arguments and ends with every semaphore at zero. -/
theorem frame_proj_reference : Cert.quiescent_Reference6Ideal := fun m g _ =>
  (θ_run Cert.Reference6Ideal.defs _ _).mono
    (fun r h => ⟨fun c => (h c).2.2.2.2, Idealize.ShloMosaic.sem_eq_zero_of_no_sems (by decide) r.2⟩)
    (Cert.Reference6Ideal.Value.run m g)

/-- The reference for the layer's output runs, keeps its arguments and ends with every semaphore at zero. -/
theorem frame_down_reference : Cert.quiescent_Reference7Ideal := fun m g _ =>
  (θ_run Cert.Reference7Ideal.defs _ _).mono
    (fun r h => ⟨fun c => (h c).2.2, Idealize.ShloMosaic.sem_eq_zero_of_no_sems (by decide) r.2⟩)
    (Cert.Reference7Ideal.Value.run m g)

/-- The reference for the gradient of the wide projection's input runs, keeps its arguments and ends with every semaphore at zero. -/
theorem frame_back_reference : Cert.quiescent_Reference8Ideal := fun m g _ =>
  (θ_run Cert.Reference8Ideal.defs _ _).mono
    (fun r h => ⟨fun c => (h c).2.2.2, Idealize.ShloMosaic.sem_eq_zero_of_no_sems (by decide) r.2⟩)
    (Cert.Reference8Ideal.Value.run m g)

/-- The reference for the gradient of the other projection's input runs, keeps its arguments and ends with every semaphore at zero. -/
theorem frame_narrow_reference : Cert.quiescent_Reference9Ideal := fun m g _ =>
  (θ_run Cert.Reference9Ideal.defs _ _).mono
    (fun r h => ⟨fun c => (h c).2.2.2, Idealize.ShloMosaic.sem_eq_zero_of_no_sems (by decide) r.2⟩)
    (Cert.Reference9Ideal.Value.run m g)

/-- Everything claimed. -/
theorem claim : Cert.Claim :=
  have hPre := Cert.Pre_scores_finite.Read.side
  have hPre2 := Cert.Pre_operands_finite.Read.side
  ⟨inferInstance, inferInstance, inferInstance, inferInstance, inferInstance, inferInstance, inferInstance, inferInstance, inferInstance,
    inferInstance, inferInstance, inferInstance,
    inferInstance, inferInstance, inferInstance,
    inferInstance, inferInstance, inferInstance,
    inferInstance, inferInstance, inferInstance,
    inferInstance, inferInstance, inferInstance,
    inferInstance, inferInstance, inferInstance,
    hPre, hPre2,
    fun m g _ => Cert.Kernel.Attn.frame_all m g,
    fun m g _ => Cert.KernelIdeal.Attn.frame_all m g,
    fun m g _ => Cert.KernelIdeal.Attn.frame_all m g,
    frame_reference,
    fun m g _ => frame_reference m g trivial,
    fun m g _ => Cert.Kernel2.Gen.frame m g,
    fun m g _ => Cert.Kernel2Ideal.Gen.frame m g,
    fun m g _ => Cert.Kernel2Ideal.Gen.frame m g,
    frame_layer_reference,
    fun m g _ => frame_layer_reference m g trivial,
    fun m g _ => Cert.Kernel3.Gen.frame m g,
    fun m g _ => Cert.Kernel3Ideal.Gen.frame m g,
    frame_input_reference,
    fun m g _ => Cert.Kernel4.Gen.frame m g,
    fun m g _ => Cert.Kernel4Ideal.Gen.frame m g,
    frame_conv_reference,
    fun m g _ => Cert.Kernel5.Gen.frame m g,
    fun m g _ => Cert.Kernel5Ideal.Gen.frame m g,
    frame_mix_reference,
    fun m g _ => Cert.Kernel6.Gen.frame m g,
    fun m g _ => Cert.Kernel6Ideal.Gen.frame m g,
    frame_proj_reference,
    fun m g _ => Cert.Kernel7.Gen.frame m g,
    fun m g _ => Cert.Kernel7Ideal.Gen.frame m g,
    frame_down_reference,
    fun m g _ => Cert.Kernel8.Gen.frame m g,
    fun m g _ => Cert.Kernel8Ideal.Gen.frame m g,
    frame_back_reference,
    fun m g _ => Cert.Kernel9.Gen.frame m g,
    fun m g _ => Cert.Kernel9Ideal.Gen.frame m g,
    frame_narrow_reference,
    IdealRules.named_const.statement Cert.KernelIdeal.κ "mask" .f32 0xF149F2CA#32 ⊥ rfl,
    algebraic,
    trivial,
    algebraic_layer,
    trivial,
    algebraic_input,
    trivial,
    algebraic_conv,
    trivial,
    algebraic_mix,
    trivial,
    algebraic_proj,
    trivial,
    algebraic_down,
    trivial,
    algebraic_back,
    trivial,
    algebraic_narrow⟩

end Cert.Proof
